-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "sl" .f32 0x3DD53B95#32 (((Real.sqrt 192)⁻¹ * (Real.log 2)⁻¹ : ℝ) : EReal)
  ∧ IdealRules.named_const.Statement Cert.Kernel2Ideal.κ "l" .f32 0x3FB8AA3B#32 (((Real.log 2)⁻¹ : ℝ) : EReal)
  ∧ IdealRules.named_const.Statement Cert.Kernel2Ideal.κ "s" .f32 0x3D93CD3A#32 (((Real.sqrt 192)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v59_0)) (v1 : (c : Dev Cert.Kernel2Ideal.nD) → Buf (Elt Ideal) ((c.tc : Thread Cert.Kernel2Ideal.nD Cert.Kernel2Ideal.τ).loc Cert.Kernel2Ideal.main_v59_1)) (v2 : (c : Dev Cert.Kernel2Ideal.nD) → Buf (Elt Ideal) ((c.tc : Thread Cert.Kernel2Ideal.nD Cert.Kernel2Ideal.τ).loc Cert.Kernel2Ideal.main_v59_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v59_0) = v0 c
          ∧ r.2.mem ((c.tc : Thread Cert.Kernel2Ideal.nD Cert.Kernel2Ideal.τ).loc Cert.Kernel2Ideal.main_v59_1) = v1 c
          ∧ r.2.mem ((c.tc : Thread Cert.Kernel2Ideal.nD Cert.Kernel2Ideal.τ).loc Cert.Kernel2Ideal.main_v59_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v9_4)) (v5 : (c : Dev Cert.Kernel4Ideal.nD) → Buf (Elt Ideal) ((c.tc : Thread Cert.Kernel4Ideal.nD Cert.Kernel4Ideal.τ).loc Cert.Kernel4Ideal.main_v9_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v9_4) = v4 c
          ∧ r.2.mem ((c.tc : Thread Cert.Kernel4Ideal.nD Cert.Kernel4Ideal.τ).loc Cert.Kernel4Ideal.main_v9_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v66) = v2 c
          ∧ r.2.mem ((c.tc : Thread Cert.Reference4Ideal.nD Cert.Reference4Ideal.τ).loc Cert.Reference4Ideal.main_v67) = v3 c
          ∧ r.2.mem ((c.tc : Thread Cert.Reference4Ideal.nD Cert.Reference4Ideal.τ).loc Cert.Reference4Ideal.main_v68) = v4 c
          ∧ r.2.mem ((c.tc : Thread Cert.Reference4Ideal.nD Cert.Reference4Ideal.τ).loc Cert.Reference4Ideal.main_v69) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "sl" .f32 0x3DD53B95#32 (((Real.sqrt 192)⁻¹ * (Real.log 2)⁻¹ : ℝ) : EReal)
  ∧ IdealRules.named_const.Statement Cert.Kernel5Ideal.κ "s" .f32 0x3D93CD3A#32 (((Real.sqrt 192)⁻¹ : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v12_0)) (v1 : (c : Dev Cert.Kernel7Ideal.nD) → Buf (Elt Ideal) ((c.tc : Thread Cert.Kernel7Ideal.nD Cert.Kernel7Ideal.τ).loc Cert.Kernel7Ideal.main_v12_2)) (v2 : (c : Dev Cert.Kernel7Ideal.nD) → Buf (Elt Ideal) ((c.tc : Thread Cert.Kernel7Ideal.nD Cert.Kernel7Ideal.τ).loc Cert.Kernel7Ideal.main_v12_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_0) = v0 c
          ∧ r.2.mem ((c.tc : Thread Cert.Kernel7Ideal.nD Cert.Kernel7Ideal.τ).loc Cert.Kernel7Ideal.main_v12_2) = v1 c
          ∧ r.2.mem ((c.tc : Thread Cert.Kernel7Ideal.nD Cert.Kernel7Ideal.τ).loc Cert.Kernel7Ideal.main_v12_3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v77) = v0 c
          ∧ r.2.mem ((c.tc : Thread Cert.Reference7Ideal.nD Cert.Reference7Ideal.τ).loc Cert.Reference7Ideal.main_v85) = v1 c
          ∧ r.2.mem ((c.tc : Thread Cert.Reference7Ideal.nD Cert.Reference7Ideal.τ).loc Cert.Reference7Ideal.main_v83) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S16x1024 : Shape := ⟨2, ![16, 1024]⟩
abbrev S1024 : Shape := ⟨1, ![1024]⟩
abbrev S1024x768 : Shape := ⟨2, ![1024, 768]⟩
abbrev S16x768 : Shape := ⟨2, ![16, 768]⟩
abbrev S8x768 : Shape := ⟨2, ![8, 768]⟩
abbrev S_ : Shape := ⟨0, ![]⟩

class Facts : Prop where
  bcast_S_S1024 : S_.BroadcastsInDim S1024 (![] : Fin 0 → Fin S1024.rank)
  bcast_S_S1024x768 : S_.BroadcastsInDim S1024x768 (![] : Fin 0 → Fin S1024x768.rank)
  bcast_S_S8x768 : S_.BroadcastsInDim S8x768 (![] : Fin 0 → Fin S8x768.rank)

variable [Facts]

def fn {F : FTy → Type} [FloatOps F] (main_arg0 : FVec F S16x1024 .f32) (main_arg1 : FVec F S1024 .f32) (main_arg2 : FVec F S1024x768 .f32) (main_arg3 : FVec F S16x768 .f32) (main_arg4 : FVec F S8x768 .f32) : IVec S1024 1 × IVec S1024x768 1 × IVec S8x768 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x768 .f32 := Host.absf main_arg2
  let main_cst_0 : FVec F S_ .f32 := constant S_ .f32 0x7F800000#32
  let main_v4 : FVec F S1024x768 .f32 := broadcastInDim S1024x768 ![] bcast_S_S1024x768 main_cst_0
  let main_v5 : IVec S1024x768 1 := cmpf .olt main_v3 main_v4
  let main_v6 : FVec F S8x768 .f32 := Host.absf main_arg4
  let main_cst_1 : FVec F S_ .f32 := constant S_ .f32 0x7F800000#32
  let main_v7 : FVec F S8x768 .f32 := broadcastInDim S8x768 ![] bcast_S_S8x768 main_cst_1
  let main_v8 : IVec S8x768 1 := cmpf .olt main_v6 main_v7
  (main_v2, main_v5, main_v8)
-- ==== Pre_finite2.lean ====
abbrev S2x2048x4x192 : Shape := ⟨4, ![2, 2048, 4, 192]⟩
abbrev S2x2304x4x192 : Shape := ⟨4, ![2, 2304, 4, 192]⟩
abbrev S2x2304x4x128 : Shape := ⟨4, ![2, 2304, 4, 128]⟩
abbrev S2x2048x512 : Shape := ⟨3, ![2, 2048, 512]⟩
abbrev S_ : Shape := ⟨0, ![]⟩

class Facts : Prop where
  bcast_S_S2x2048x4x192 : S_.BroadcastsInDim S2x2048x4x192 (![] : Fin 0 → Fin S2x2048x4x192.rank)
  bcast_S_S2x2304x4x192 : S_.BroadcastsInDim S2x2304x4x192 (![] : Fin 0 → Fin S2x2304x4x192.rank)
  bcast_S_S2x2304x4x128 : S_.BroadcastsInDim S2x2304x4x128 (![] : Fin 0 → Fin S2x2304x4x128.rank)
  bcast_S_S2x2048x512 : S_.BroadcastsInDim S2x2048x512 (![] : Fin 0 → Fin S2x2048x512.rank)

variable [Facts]

def fn {F : FTy → Type} [FloatOps F] (main_arg0 : FVec F S2x2048x4x192 .f32) (main_arg1 : FVec F S2x2304x4x192 .f32) (main_arg2 : FVec F S2x2304x4x128 .f32) (main_arg3 : FVec F S2x2048x512 .f32) : IVec S2x2048x4x192 1 × IVec S2x2304x4x192 1 × IVec S2x2304x4x128 1 × IVec S2x2048x512 1 :=
  let main_v0 : FVec F S2x2048x4x192 .f32 := Host.absf main_arg0
  let main_cst : FVec F S_ .f32 := constant S_ .f32 0x7F800000#32
  let main_v1 : FVec F S2x2048x4x192 .f32 := broadcastInDim S2x2048x4x192 ![] bcast_S_S2x2048x4x192 main_cst
  let main_v2 : IVec S2x2048x4x192 1 := cmpf .olt main_v0 main_v1
  let main_v3 : FVec F S2x2304x4x192 .f32 := Host.absf main_arg1
  let main_cst_0 : FVec F S_ .f32 := constant S_ .f32 0x7F800000#32
  let main_v4 : FVec F S2x2304x4x192 .f32 := broadcastInDim S2x2304x4x192 ![] bcast_S_S2x2304x4x192 main_cst_0
  let main_v5 : IVec S2x2304x4x192 1 := cmpf .olt main_v3 main_v4
  let main_v6 : FVec F S2x2304x4x128 .f32 := Host.absf main_arg2
  let main_cst_1 : FVec F S_ .f32 := constant S_ .f32 0x7F800000#32
  let main_v7 : FVec F S2x2304x4x128 .f32 := broadcastInDim S2x2304x4x128 ![] bcast_S_S2x2304x4x128 main_cst_1
  let main_v8 : IVec S2x2304x4x128 1 := cmpf .olt main_v6 main_v7
  let main_v9 : FVec F S2x2048x512 .f32 := Host.absf main_arg3
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  (main_v2, main_v5, main_v8, main_v11)
-- ==== Pre_finite5.lean ====
abbrev S2x2048x4x192 : Shape := ⟨4, ![2, 2048, 4, 192]⟩
abbrev S2x2304x4x192 : Shape := ⟨4, ![2, 2304, 4, 192]⟩
abbrev S2x2304x4x128 : Shape := ⟨4, ![2, 2304, 4, 128]⟩
abbrev S_ : Shape := ⟨0, ![]⟩

class Facts : Prop where
  bcast_S_S2x2048x4x192 : S_.BroadcastsInDim S2x2048x4x192 (![] : Fin 0 → Fin S2x2048x4x192.rank)
  bcast_S_S2x2304x4x192 : S_.BroadcastsInDim S2x2304x4x192 (![] : Fin 0 → Fin S2x2304x4x192.rank)
  bcast_S_S2x2304x4x128 : S_.BroadcastsInDim S2x2304x4x128 (![] : Fin 0 → Fin S2x2304x4x128.rank)

variable [Facts]

def fn {F : FTy → Type} [FloatOps F] (main_arg0 : FVec F S2x2048x4x192 .f32) (main_arg1 : FVec F S2x2304x4x192 .f32) (main_arg2 : FVec F S2x2304x4x128 .f32) : IVec S2x2048x4x192 1 × IVec S2x2304x4x192 1 × IVec S2x2304x4x128 1 :=
  let main_v0 : FVec F S2x2048x4x192 .f32 := Host.absf main_arg0
  let main_cst : FVec F S_ .f32 := constant S_ .f32 0x7F800000#32
  let main_v1 : FVec F S2x2048x4x192 .f32 := broadcastInDim S2x2048x4x192 ![] bcast_S_S2x2048x4x192 main_cst
  let main_v2 : IVec S2x2048x4x192 1 := cmpf .olt main_v0 main_v1
  let main_v3 : FVec F S2x2304x4x192 .f32 := Host.absf main_arg1
  let main_cst_0 : FVec F S_ .f32 := constant S_ .f32 0x7F800000#32
  let main_v4 : FVec F S2x2304x4x192 .f32 := broadcastInDim S2x2304x4x192 ![] bcast_S_S2x2304x4x192 main_cst_0
  let main_v5 : IVec S2x2304x4x192 1 := cmpf .olt main_v3 main_v4
  let main_v6 : FVec F S2x2304x4x128 .f32 := Host.absf main_arg2
  let main_cst_1 : FVec F S_ .f32 := constant S_ .f32 0x7F800000#32
  let main_v7 : FVec F S2x2304x4x128 .f32 := broadcastInDim S2x2304x4x128 ![] bcast_S_S2x2304x4x128 main_cst_1
  let main_v8 : IVec S2x2304x4x128 1 := cmpf .olt main_v6 main_v7
  (main_v2, main_v5, main_v8)
-- ==== Kernel.lean ====
abbrev S16x1024 : Shape := ⟨2, ![16, 1024]⟩
abbrev S1024 : Shape := ⟨1, ![1024]⟩
abbrev S1024x768 : Shape := ⟨2, ![1024, 768]⟩
abbrev S16x768 : Shape := ⟨2, ![16, 768]⟩
abbrev S8x768 : Shape := ⟨2, ![8, 768]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S24x768 : Shape := ⟨2, ![24, 768]⟩
abbrev S8x1024 : Shape := ⟨2, ![8, 1024]⟩
abbrev S1x768 : Shape := ⟨2, ![1, 768]⟩
abbrev S24x1 : Shape := ⟨2, ![24, 1]⟩
abbrev S768 : Shape := ⟨1, ![768]⟩

abbrev nBuf : Space → Nat
  | .hbm => 15
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x768, .f32⟩
  | .hbm, ⟨3, _⟩ => ⟨S16x768, .f32⟩
  | .hbm, ⟨4, _⟩ => ⟨S8x768, .f32⟩
  | .hbm, ⟨5, _⟩ => ⟨S1x1024, .f32⟩
  | .hbm, ⟨6, _⟩ => ⟨S_, .f32⟩
  | .hbm, ⟨7, _⟩ => ⟨S7x1024, .f32⟩
  | .hbm, ⟨8, _⟩ => ⟨S24x1024, .f32⟩
  | .hbm, ⟨9, _⟩ => ⟨S_, .f32⟩
  | .hbm, ⟨10, _⟩ => ⟨S8x768, .f32⟩
  | .hbm, ⟨11, _⟩ => ⟨S24x768, .f32⟩
  | .hbm, ⟨12, _⟩ => ⟨S1024x768, .f32⟩
  | .hbm, ⟨13, _⟩ => ⟨S8x1024, .f32⟩
  | .hbm, ⟨14, _⟩ => ⟨S8x768, .f32⟩
  | .local _ .vmem, ⟨0, _⟩ => ⟨S24x1024, .f32⟩
  | .local _ .vmem, ⟨1, _⟩ => ⟨S1024x768, .f32⟩
  | .local _ .vmem, ⟨2, _⟩ => ⟨S24x768, .f32⟩
  | .local _ .vmem, ⟨3, _⟩ => ⟨S8x768, .f32⟩
  | .local _ .vmem, ⟨4, _⟩ => ⟨S1024x768, .f32⟩
  | .local _ .vmem, ⟨5, _⟩ => ⟨S8x1024, .f32⟩
  | .local _ .vmem, ⟨6, _⟩ => ⟨S8x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S16x1024 : Shape := ⟨2, ![16, 1024]⟩
abbrev S1024 : Shape := ⟨1, ![1024]⟩
abbrev S1024x768 : Shape := ⟨2, ![1024, 768]⟩
abbrev S16x768 : Shape := ⟨2, ![16, 768]⟩
abbrev S8x768 : Shape := ⟨2, ![8, 768]⟩
abbrev S_ : Shape := ⟨0, ![]⟩
abbrev S768 : Shape := ⟨1, ![768]⟩
abbrev S1x768 : Shape := ⟨2, ![1, 768]⟩
abbrev S1x1024 : Shape := ⟨2, ![1, 1024]⟩
abbrev S768x1024 : Shape := ⟨2, ![768, 1024]⟩
abbrev S8x1024 : Shape := ⟨2, ![8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x768, .f32⟩
  | .hbm, ⟨3, _⟩ => ⟨S16x768, .f32⟩
  | .hbm, ⟨4, _⟩ => ⟨S8x768, .f32⟩
  | .hbm, ⟨5, _⟩ => ⟨S_, .f32⟩
  | .hbm, ⟨6, _⟩ => ⟨S768, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S16x1024, .f32⟩
  | .hbm, ⟨20, _⟩ => ⟨S16x768, .f32⟩
  | .hbm, ⟨21, _⟩ => ⟨S1x768, .f32⟩
  | .hbm, ⟨22, _⟩ => ⟨S16x768, .f32⟩
  | .hbm, ⟨23, _⟩ => ⟨S16x768, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x768, .f32⟩
  | .hbm, ⟨39, _⟩ => ⟨S768, .f32⟩
  | .hbm, ⟨40, _⟩ => ⟨S768, .f32⟩
  | .hbm, ⟨41, _⟩ => ⟨S_, .f32⟩
  | .hbm, ⟨42, _⟩ => ⟨S768, .f32⟩
  | .hbm, ⟨43, _⟩ => ⟨S1x768, .f32⟩
  | .hbm, ⟨44, _⟩ => ⟨S768x1024, .f32⟩
  | .hbm, ⟨45, _⟩ => ⟨S1024x768, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S16x768, .f32⟩
  | .hbm, ⟨54, _⟩ => ⟨S_, .f32⟩
  | .hbm, ⟨55, _⟩ => ⟨S768, .f32⟩
  | .hbm, ⟨56, _⟩ => ⟨S1x768, .f32⟩
  | .hbm, ⟨57, _⟩ => ⟨S_, .f32⟩
  | .hbm, ⟨58, _⟩ => ⟨S768, .f32⟩
  | .hbm, ⟨59, _⟩ => ⟨S768, .f32⟩
  | .hbm, ⟨60, _⟩ => ⟨S768x1024, .f32⟩
  | .hbm, ⟨61, _⟩ => ⟨S1024x768, .f32⟩
  | .hbm, ⟨62, _⟩ => ⟨S1024x768, .f32⟩
  | .hbm, ⟨63, _⟩ => ⟨S16x1024, .f32⟩
  | .hbm, ⟨64, _⟩ => ⟨S16x1024, .f32⟩
  | .hbm, ⟨65, _⟩ => ⟨S16x1024, .f32⟩
  | .hbm, ⟨66, _⟩ => ⟨S16x1024, .f32⟩
  | .hbm, ⟨67, _⟩ => ⟨S16x1024, .f32⟩
  | .hbm, ⟨68, _⟩ => ⟨S8x1024, .f32⟩
  | .hbm, ⟨69, _⟩ => ⟨S8x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v6_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v6_1 : Ref sig .tc := ⟨.hbm, 35, rfl⟩
abbrev main_v6_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_0 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_1 : Ref sig .tc := ⟨.hbm, 47, rfl⟩
abbrev main_v16 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v17 : Ref sig .tc := ⟨.hbm, 52, rfl⟩
abbrev main_v18 : Ref sig .tc := ⟨.hbm, 53, rfl⟩
abbrev main_cst_2 : Ref sig .tc := ⟨.hbm, 54, rfl⟩
abbrev main_v19 : Ref sig .tc := ⟨.hbm, 55, rfl⟩
abbrev main_v20 : Ref sig .tc := ⟨.hbm, 56, rfl⟩
abbrev main_cst_3 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩

abbrev nD : Nat := 1
abbrev τ : Topo := Topo.v7x

variable {F : FTy → Type} [FloatOps F]
-- ==== Kernel2.lean ====
abbrev S2x2048x4x192 : Shape := ⟨4, ![2, 2048, 4, 192]⟩
abbrev S2x2304x4x192 : Shape := ⟨4, ![2, 2304, 4, 192]⟩
abbrev S2x2304x4x128 : Shape := ⟨4, ![2, 2304, 4, 128]⟩
abbrev S2x2048x512 : Shape := ⟨3, ![2, 2048, 512]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x2048x4 : Shape := ⟨3, ![2, 2048, 4]⟩
abbrev S2x2048x4x1 : Shape := ⟨4, ![2, 2048, 4, 1]⟩
abbrev S2x2048x4x128 : Shape := ⟨4, ![2, 2048, 4, 128]⟩
abbrev S2x4x128x2048 : Shape := ⟨4, ![2, 4, 128, 2048]⟩
abbrev S2x256x4x128 : Shape := ⟨4, ![2, 256, 4, 128]⟩
abbrev S2x2304x512 : Shape := ⟨3, ![2, 2304, 512]⟩
abbrev S2x2048x4x32 : Shape := ⟨4, ![2, 2048, 4, 32]⟩
abbrev S2x2048x4x256 : Shape := ⟨4, ![2, 2048, 4, 256]⟩
abbrev S2x2048x1024 : Shape := ⟨3, ![2, 2048, 1024]⟩
abbrev S2x256x4x192 : Shape := ⟨4, ![2, 256, 4, 192]⟩
abbrev S2x2304x4x32 : Shape := ⟨4, ![2, 2304, 4, 32]⟩
abbrev S2x2304x4x256 : Shape := ⟨4, ![2, 2304, 4, 256]⟩
abbrev S2x2304x1024 : Shape := ⟨3, ![2, 2304, 1024]⟩
abbrev S8x128 : Shape := ⟨2, ![8, 128]⟩
abbrev S1x1024x256 : Shape := ⟨3, ![1, 1024, 256]⟩
abbrev S1x2304x256 : Shape := ⟨3, ![1, 2304, 256]⟩
abbrev S1x2304x128 : Shape := ⟨3, ![1, 2304, 128]⟩
abbrev S1x1024x128 : Shape := ⟨3, ![1, 1024, 128]⟩
abbrev S2304x256 : Shape := ⟨2, ![2304, 256]⟩
abbrev S2304x128 : Shape := ⟨2, ![2304, 128]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1024x2304 : Shape := ⟨2, ![1024, 2304]⟩

abbrev nBuf : Space → Nat
  | .hbm => 78
  | .vmem => 18
  | .smem => 0
  | _ => 0

abbrev bufTy : (tb : Table) → Fin (tcTables nBuf tb) → BufTy
  | .hbm, ⟨0, _⟩ => ⟨S2x2048x4x192, .f32⟩
  | .hbm, ⟨1, _⟩ => ⟨S2x2304x4x192, .f32⟩
  | .hbm, ⟨2, _⟩ => ⟨S2x2304x4x128, .f32⟩
  | .hbm, ⟨3, _⟩ => ⟨S2x2048x512, .f32⟩
  | .hbm, ⟨4, _⟩ => ⟨S2x4x2048x2304, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x4x2048x2304, .f32⟩
  | .hbm, ⟨10, _⟩ => ⟨S2x4x2048x2304, .f32⟩
  | .hbm, ⟨11, _⟩ => ⟨S_, .f32⟩
  | .hbm, ⟨12, _⟩ => ⟨S2x4x2048, .f32⟩
  | .hbm, ⟨13, _⟩ => ⟨S2x4x2048x1, .f32⟩
  | .hbm, ⟨14, _⟩ => ⟨S2x4x2048x2304, .f32⟩
  | .hbm, ⟨15, _⟩ => ⟨S2x4x2048x2304, .f32⟩
  | .hbm, ⟨16, _⟩ => ⟨S2x4x2048x2304, .f32⟩
  | .hbm, ⟨17, _⟩ => ⟨S_, .f32⟩
  | .hbm, ⟨18, _⟩ => ⟨S2x4x2048, .f32⟩
  | .hbm, ⟨19, _⟩ => ⟨S2x4x2048, .f32⟩
  | .hbm, ⟨20, _⟩ => ⟨S2x4x2048, .f32⟩
  | .hbm, ⟨21, _⟩ => ⟨S2x2048x4, .f32⟩
  | .hbm, ⟨22, _⟩ => ⟨S2x2048x4x1, .f32⟩
  | .hbm, ⟨23, _⟩ => ⟨S2x2048x4x128, .f32⟩
  | .hbm, ⟨24, _⟩ => ⟨S2x2048x512, .f32⟩
  | .hbm, ⟨25, _⟩ => ⟨S2x4x2048x2304, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2x4x2048x2304, .f32⟩
  | .hbm, ⟨31, _⟩ => ⟨S2x4x2048x2304, .f32⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S2x4x2048, .f32⟩
  | .hbm, ⟨37, _⟩ => ⟨S2x4x2048x1, .f32⟩
  | .hbm, ⟨38, _⟩ => ⟨S2x4x2048x2304, .f32⟩
  | .hbm, ⟨39, _⟩ => ⟨S2x4x2048x2304, .f32⟩
  | .hbm, ⟨40, _⟩ => ⟨S2x4x2048x2304, .f32⟩
  | .hbm, ⟨41, _⟩ => ⟨S_, .f32⟩
  | .hbm, ⟨42, _⟩ => ⟨S2x4x2048, .f32⟩
  | .hbm, ⟨43, _⟩ => ⟨S2x4x2048x1, .f32⟩
  | .hbm, ⟨44, _⟩ => ⟨S2x4x2048x2304, .f32⟩
  | .hbm, ⟨45, _⟩ => ⟨S2x4x2048x2304, .f32⟩
  | .hbm, ⟨46, _⟩ => ⟨S2x4x128x2048, .f32⟩
  | .hbm, ⟨47, _⟩ => ⟨S2x2048x4x128, .f32⟩
  | .hbm, ⟨48, _⟩ => ⟨S2x2048x512, .f32⟩
  | .hbm, ⟨49, _⟩ => ⟨S2x2048x4x128, .f32⟩
  | .hbm, ⟨50, _⟩ => ⟨S2x256x4x128, .f32⟩
  | .hbm, ⟨51, _⟩ => ⟨S2x2304x4x128, .f32⟩
  | .hbm, ⟨52, _⟩ => ⟨S2x2304x512, .f32⟩
  | .hbm, ⟨53, _⟩ => ⟨S2x2304x512, .bf16⟩
  | .hbm, ⟨54, _⟩ => ⟨S_, .f32⟩
  | .hbm, ⟨55, _⟩ => ⟨S2x2048x4x32, .f32⟩
  | .hbm, ⟨56, _⟩ => ⟨S2x2048x4x128, .f32⟩
  | .hbm, ⟨57, _⟩ => ⟨S2x2048x4x32, .f32⟩
  | .hbm, ⟨58, _⟩ => ⟨S2x2048x4x32, .f32⟩
  | .hbm, ⟨59, _⟩ => ⟨S2x2048x4x256, .f32⟩
  | .hbm, ⟨60, _⟩ => ⟨S2x2048x1024, .f32⟩
  | .hbm, ⟨61, _⟩ => ⟨S2x2048x1024, .bf16⟩
  | .hbm, ⟨62, _⟩ => ⟨S2x2048x4x192, .f32⟩
  | .hbm, ⟨63, _⟩ => ⟨S2x256x4x192, .f32⟩
  | .hbm, ⟨64, _⟩ => ⟨S2x2304x4x192, .f32⟩
  | .hbm, ⟨65, _⟩ => ⟨S_, .f32⟩
  | .hbm, ⟨66, _⟩ => ⟨S2x2304x4x32, .f32⟩
  | .hbm, ⟨67, _⟩ => ⟨S2x2304x4x128, .f32⟩
  | .hbm, ⟨68, _⟩ => ⟨S2x2304x4x32, .f32⟩
  | .hbm, ⟨69, _⟩ => ⟨S2x2304x4x32, .f32⟩
  | .hbm, ⟨70, _⟩ => ⟨S2x2304x4x256, .f32⟩
  | .hbm, ⟨71, _⟩ => ⟨S2x2304x1024, .f32⟩
  | .hbm, ⟨72, _⟩ => ⟨S2x2304x1024, .bf16⟩
  | .hbm, ⟨73, _⟩ => ⟨S_, .f32⟩
  | .hbm, ⟨74, _⟩ => ⟨S8x128, .f32⟩
  | .hbm, ⟨75, _⟩ => ⟨S2x2048x1024, .f32⟩
  | .hbm, ⟨76, _⟩ => ⟨S2x2304x1024, .f32⟩
  | .hbm, ⟨77, _⟩ => ⟨S2x2304x512, .f32⟩
  | .local _ .vmem, ⟨0, _⟩ => ⟨S1x1024x256, .bf16⟩
  | .local _ .vmem, ⟨1, _⟩ => ⟨S1x1024x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x256, .f32⟩
  | .local _ .vmem, ⟨13, _⟩ => ⟨S1x1024x256, .f32⟩
  | .local _ .vmem, ⟨14, _⟩ => ⟨S1x2304x256, .f32⟩
  | .local _ .vmem, ⟨15, _⟩ => ⟨S1x2304x256, .f32⟩
  | .local _ .vmem, ⟨16, _⟩ => ⟨S1x2304x128, .f32⟩
  | .local _ .vmem, ⟨17, _⟩ => ⟨S1x2304x128, .f32⟩
  | _, _ => ⟨S2x2048x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59_0 : Ref sig .tc := ⟨.hbm, 75, rfl⟩
abbrev main_v59_1 : Ref sig .tc := ⟨.hbm, 76, rfl⟩
abbrev main_v59_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c0_i32 : BitVec 32 := 0#32
  let v0 : BitVec 1 := Scalar.cmpi .eq arg2 c0_i32
  let v46 : BitVec 32 := Scalar.extui v0
  let c0_i32_31 : BitVec 32 := 0#32
  let v47 : BitVec 1 := Scalar.cmpi .ne v46 c0_i32_31
  v47

def k0_cond4 (i : grid0.Coords) : BitVec 1 :=
  let arg2 : BitVec 32 := BitVec.ofNat 32 (i 2).val
  let c0_i32 : BitVec 32 := 0#32
  let v0 : BitVec 1 := Scalar.cmpi .eq arg2 c0_i32
  let true_32 : BitVec 1 := 1#1
  let v48 : BitVec 1 := Scalar.xori v0 true_32
  let v49 : BitVec 32 := Scalar.extui v48
  let c0_i32_33 : BitVec 32 := 0#32
  let v50 : BitVec 1 := Scalar.cmpi .ne v49 c0_i32_33
  v50

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v36 : BitVec 32 := Scalar.extui v0
  let c0_i32_24 : BitVec 32 := 0#32
  let v37 : BitVec 1 := Scalar.cmpi .ne v36 c0_i32_24
  v37

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v38 : BitVec 1 := Scalar.xori v0 v_true
  let v39 : BitVec 32 := Scalar.extui v38
  let c0_i32_25 : BitVec 32 := 0#32
  let v40 : BitVec 1 := Scalar.cmpi .ne v39 c0_i32_25
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2304x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2304x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Kernel2Ideal.lean ====
variable {F : FTy → Type} [FloatOps F] [Named F]
def κ : String → Option EReal := fun
  | "l" => some (((Real.log 2)⁻¹ : ℝ) : EReal)
  | "s" => some (((Real.sqrt 192)⁻¹ : ℝ) : EReal)
  | "sl" => some (((Real.sqrt 192)⁻¹ * (Real.log 2)⁻¹ : ℝ) : EReal)
  | _ => none
-- ==== Reference2Ideal.lean ====
abbrev S2x2048x4x192 : Shape := ⟨4, ![2, 2048, 4, 192]⟩
abbrev S2x2304x4x192 : Shape := ⟨4, ![2, 2304, 4, 192]⟩
abbrev S2x2304x4x128 : Shape := ⟨4, ![2, 2304, 4, 128]⟩
abbrev S2x2048x512 : Shape := ⟨3, ![2, 2048, 512]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x2048x4x128 : Shape := ⟨4, ![2, 2048, 4, 128]⟩
abbrev S2x4x128x2304 : Shape := ⟨4, ![2, 4, 128, 2304]⟩
abbrev S2x4x2304x192 : Shape := ⟨4, ![2, 4, 2304, 192]⟩
abbrev S2x4x2048x192 : Shape := ⟨4, ![2, 4, 2048, 192]⟩
abbrev S2x256x4x192 : Shape := ⟨4, ![2, 256, 4, 192]⟩
abbrev S2x256x4x128 : Shape := ⟨4, ![2, 256, 4, 128]⟩
abbrev S2x2048x4x32 : Shape := ⟨4, ![2, 2048, 4, 32]⟩
abbrev S2x2048x4x160 : Shape := ⟨4, ![2, 2048, 4, 160]⟩
abbrev S2x2048x4x256 : Shape := ⟨4, ![2, 2048, 4, 256]⟩
abbrev S2x2048x1024 : Shape := ⟨3, ![2, 2048, 1024]⟩
abbrev S2x2304x4x32 : Shape := ⟨4, ![2, 2304, 4, 32]⟩
abbrev S2x2304x4x160 : Shape := ⟨4, ![2, 2304, 4, 160]⟩
abbrev S2x2304x4x256 : Shape := ⟨4, ![2, 2304, 4, 256]⟩
abbrev S2x2304x1024 : Shape := ⟨3, ![2, 2304, 1024]⟩
abbrev S2x2304x512 : Shape := ⟨3, ![2, 2304, 512]⟩

abbrev nBuf : Space → Nat
  | .hbm => 95
  | .vmem => 0
  | .smem => 0
  | _ => 0

abbrev bufTy : (tb : Table) → Fin (tcTables nBuf tb) → BufTy
  | .hbm, ⟨0, _⟩ => ⟨S2x2048x4x192, .f32⟩
  | .hbm, ⟨1, _⟩ => ⟨S2x2304x4x192, .f32⟩
  | .hbm, ⟨2, _⟩ => ⟨S2x2304x4x128, .f32⟩
  | .hbm, ⟨3, _⟩ => ⟨S2x2048x512, .f32⟩
  | .hbm, ⟨4, _⟩ => ⟨S2x4x2048x2304, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x4x2048x2304, .f32⟩
  | .hbm, ⟨10, _⟩ => ⟨S2x4x2048x2304, .f32⟩
  | .hbm, ⟨11, _⟩ => ⟨S_, .f32⟩
  | .hbm, ⟨12, _⟩ => ⟨S2x4x2048, .f32⟩
  | .hbm, ⟨13, _⟩ => ⟨S2x4x2048x1, .f32⟩
  | .hbm, ⟨14, _⟩ => ⟨S2x4x2048x2304, .f32⟩
  | .hbm, ⟨15, _⟩ => ⟨S2x4x2048x2304, .i1⟩
  | .hbm, ⟨16, _⟩ => ⟨S2x4x2048x2304, .f32⟩
  | .hbm, ⟨17, _⟩ => ⟨S_, .f32⟩
  | .hbm, ⟨18, _⟩ => ⟨S2x4x2048, .f32⟩
  | .hbm, ⟨19, _⟩ => ⟨S_, .f32⟩
  | .hbm, ⟨20, _⟩ => ⟨S2x4x2048, .f32⟩
  | .hbm, ⟨21, _⟩ => ⟨S2x4x2048, .f32⟩
  | .hbm, ⟨22, _⟩ => ⟨S_, .f32⟩
  | .hbm, ⟨23, _⟩ => ⟨S2x4x2048, .f32⟩
  | .hbm, ⟨24, _⟩ => ⟨S2x4x2048, .i1⟩
  | .hbm, ⟨25, _⟩ => ⟨S_, .f32⟩
  | .hbm, ⟨26, _⟩ => ⟨S2x4x2048, .f32⟩
  | .hbm, ⟨27, _⟩ => ⟨S2x4x2048, .i1⟩
  | .hbm, ⟨28, _⟩ => ⟨S_, .f32⟩
  | .hbm, ⟨29, _⟩ => ⟨S2x4x2048, .f32⟩
  | .hbm, ⟨30, _⟩ => ⟨S_, .f32⟩
  | .hbm, ⟨31, _⟩ => ⟨S2x4x2048, .f32⟩
  | .hbm, ⟨32, _⟩ => ⟨S_, .f32⟩
  | .hbm, ⟨33, _⟩ => ⟨S2x4x2048, .f32⟩
  | .hbm, ⟨34, _⟩ => ⟨S2x4x2048, .f32⟩
  | .hbm, ⟨35, _⟩ => ⟨S2x4x2048, .f32⟩
  | .hbm, ⟨36, _⟩ => ⟨S2x4x2048x1, .f32⟩
  | .hbm, ⟨37, _⟩ => ⟨S2x4x2048x2304, .f32⟩
  | .hbm, ⟨38, _⟩ => ⟨S2x4x2048x2304, .f32⟩
  | .hbm, ⟨39, _⟩ => ⟨S2x4x2048x2304, .f32⟩
  | .hbm, ⟨40, _⟩ => ⟨S_, .f32⟩
  | .hbm, ⟨41, _⟩ => ⟨S2x4x2048, .f32⟩
  | .hbm, ⟨42, _⟩ => ⟨S2x4x2048x1, .f32⟩
  | .hbm, ⟨43, _⟩ => ⟨S2x4x2048x2304, .f32⟩
  | .hbm, ⟨44, _⟩ => ⟨S2x4x2048x2304, .f32⟩
  | .hbm, ⟨45, _⟩ => ⟨S2x4x2048x1, .f32⟩
  | .hbm, ⟨46, _⟩ => ⟨S_, .f32⟩
  | .hbm, ⟨47, _⟩ => ⟨S2x4x2048x1, .f32⟩
  | .hbm, ⟨48, _⟩ => ⟨S2x4x2048x1, .f32⟩
  | .hbm, ⟨49, _⟩ => ⟨S2x4x128x2048, .f32⟩
  | .hbm, ⟨50, _⟩ => ⟨S2x2048x4x128, .f32⟩
  | .hbm, ⟨51, _⟩ => ⟨S2x2048x4x128, .f32⟩
  | .hbm, ⟨52, _⟩ => ⟨S2x4x128x2048, .f32⟩
  | .hbm, ⟨53, _⟩ => ⟨S2x4x2048x2304, .f32⟩
  | .hbm, ⟨54, _⟩ => ⟨S2x4x128x2304, .f32⟩
  | .hbm, ⟨55, _⟩ => ⟨S2x2304x4x128, .f32⟩
  | .hbm, ⟨56, _⟩ => ⟨S2x4x2048x2304, .f32⟩
  | .hbm, ⟨57, _⟩ => ⟨S2x4x2048x2304, .f32⟩
  | .hbm, ⟨58, _⟩ => ⟨S2x4x2048x2304, .f32⟩
  | .hbm, ⟨59, _⟩ => ⟨S_, .f32⟩
  | .hbm, ⟨60, _⟩ => ⟨S2x4x2048, .f32⟩
  | .hbm, ⟨61, _⟩ => ⟨S2x4x2048x1, .f32⟩
  | .hbm, ⟨62, _⟩ => ⟨S2x4x2048x1, .f32⟩
  | .hbm, ⟨63, _⟩ => ⟨S2x4x2048x2304, .f32⟩
  | .hbm, ⟨64, _⟩ => ⟨S2x4x2048x2304, .f32⟩
  | .hbm, ⟨65, _⟩ => ⟨S_, .f32⟩
  | .hbm, ⟨66, _⟩ => ⟨S2x4x2048, .f32⟩
  | .hbm, ⟨67, _⟩ => ⟨S2x4x2048x2304, .f32⟩
  | .hbm, ⟨68, _⟩ => ⟨S2x4x2048x2304, .f32⟩
  | .hbm, ⟨69, _⟩ => ⟨S2x4x2048x2304, .f32⟩
  | .hbm, ⟨70, _⟩ => ⟨S2x4x2048x2304, .f32⟩
  | .hbm, ⟨71, _⟩ => ⟨S2x4x2048x2304, .f32⟩
  | .hbm, ⟨72, _⟩ => ⟨S2x4x2304x192, .f32⟩
  | .hbm, ⟨73, _⟩ => ⟨S2x2304x4x192, .f32⟩
  | .hbm, ⟨74, _⟩ => ⟨S2x4x2048x192, .f32⟩
  | .hbm, ⟨75, _⟩ => ⟨S2x2048x4x192, .f32⟩
  | .hbm, ⟨76, _⟩ => ⟨S2x2048x4x192, .f32⟩
  | .hbm, ⟨77, _⟩ => ⟨S2x256x4x192, .f32⟩
  | .hbm, ⟨78, _⟩ => ⟨S2x2304x4x192, .f32⟩
  | .hbm, ⟨79, _⟩ => ⟨S2x2048x4x128, .f32⟩
  | .hbm, ⟨80, _⟩ => ⟨S2x256x4x128, .f32⟩
  | .hbm, ⟨81, _⟩ => ⟨S2x2304x4x128, .f32⟩
  | .hbm, ⟨82, _⟩ => ⟨S_, .f32⟩
  | .hbm, ⟨83, _⟩ => ⟨S2x2048x4x32, .f32⟩
  | .hbm, ⟨84, _⟩ => ⟨S2x2048x4x160, .f32⟩
  | .hbm, ⟨85, _⟩ => ⟨S2x2048x4x32, .f32⟩
  | .hbm, ⟨86, _⟩ => ⟨S2x2048x4x256, .f32⟩
  | .hbm, ⟨87, _⟩ => ⟨S2x2048x1024, .f32⟩
  | .hbm, ⟨88, _⟩ => ⟨S_, .f32⟩
  | .hbm, ⟨89, _⟩ => ⟨S2x2304x4x32, .f32⟩
  | .hbm, ⟨90, _⟩ => ⟨S2x2304x4x160, .f32⟩
  | .hbm, ⟨91, _⟩ => ⟨S2x2304x4x32, .f32⟩
  | .hbm, ⟨92, _⟩ => ⟨S2x2304x4x256, .f32⟩
  | .hbm, ⟨93, _⟩ => ⟨S2x2304x1024, .f32⟩
  | .hbm, ⟨94, _⟩ => ⟨S2x2304x512, .f32⟩
  | _, _ => ⟨S2x2048x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Kernel3.lean ====
abbrev S2x2048x1024 : Shape := ⟨3, ![2, 2048, 1024]⟩
abbrev S1024x4096 : Shape := ⟨2, ![1024, 4096]⟩
abbrev S4096x1024 : Shape := ⟨2, ![4096, 1024]⟩
abbrev S2x2048x4096 : Shape := ⟨3, ![2, 2048, 4096]⟩
abbrev S_ : Shape := ⟨0, ![]⟩
abbrev S8x512x1024 : Shape := ⟨3, ![8, 512, 1024]⟩
abbrev S8x1024x512 : Shape := ⟨3, ![8, 1024, 512]⟩
abbrev S1x2048x1024 : Shape := ⟨3, ![1, 2048, 1024]⟩
abbrev S1x2048x512 : Shape := ⟨3, ![1, 2048, 512]⟩
abbrev S1x512x1024 : Shape := ⟨3, ![1, 512, 1024]⟩
abbrev S1x1024x512 : Shape := ⟨3, ![1, 1024, 512]⟩
abbrev S1024x512 : Shape := ⟨2, ![1024, 512]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 16
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S4096x1024, .f32⟩
  | .hbm, ⟨3, _⟩ => ⟨S2x2048x1024, .f32⟩
  | .hbm, ⟨4, _⟩ => ⟨S2x2048x4096, .f32⟩
  | .hbm, ⟨5, _⟩ => ⟨S_, .f32⟩
  | .hbm, ⟨6, _⟩ => ⟨S2x2048x4096, .f32⟩
  | .hbm, ⟨7, _⟩ => ⟨S2x2048x4096, .f32⟩
  | .hbm, ⟨8, _⟩ => ⟨S2x2048x1024, .bf16⟩
  | .hbm, ⟨9, _⟩ => ⟨S2x2048x1024, .bf16⟩
  | .hbm, ⟨10, _⟩ => ⟨S2x2048x4096, .bf16⟩
  | .hbm, ⟨11, _⟩ => ⟨S4096x1024, .bf16⟩
  | .hbm, ⟨12, _⟩ => ⟨S8x512x1024, .bf16⟩
  | .hbm, ⟨13, _⟩ => ⟨S2x2048x4096, .bf16⟩
  | .hbm, ⟨14, _⟩ => ⟨S8x1024x512, .bf16⟩
  | .hbm, ⟨15, _⟩ => ⟨S8x512x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1024x512, .f32⟩
  | .local _ .vmem, ⟨15, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 1], ![false, false, false]⟩

def k0_cond5 (i : grid0.Coords) : BitVec 1 :=
  let arg1 : BitVec 32 := BitVec.ofNat 32 (i 1).val
  let c1_i32 : BitVec 32 := 1#32
  let v34 : BitVec 1 := Scalar.cmpi .eq arg1 c1_i32
  let arg2 : BitVec 32 := BitVec.ofNat 32 (i 2).val
  let c0_i32_23 : BitVec 32 := 0#32
  let v35 : BitVec 1 := Scalar.cmpi .eq arg2 c0_i32_23
  let v36 : BitVec 1 := Scalar.andi v34 v35
  let v37 : BitVec 32 := Scalar.extui v36
  let c0_i32_24 : BitVec 32 := 0#32
  let v38 : BitVec 1 := Scalar.cmpi .ne v37 c0_i32_24
  v38

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference3Ideal.lean ====
abbrev S2x2048x1024 : Shape := ⟨3, ![2, 2048, 1024]⟩
abbrev S1024x4096 : Shape := ⟨2, ![1024, 4096]⟩
abbrev S4096x1024 : Shape := ⟨2, ![4096, 1024]⟩
abbrev S2x2048x4096 : Shape := ⟨3, ![2, 2048, 4096]⟩
abbrev S_ : Shape := ⟨0, ![]⟩
abbrev S1024x8x512 : Shape := ⟨3, ![1024, 8, 512]⟩
abbrev S8x1024x512 : Shape := ⟨3, ![8, 1024, 512]⟩
abbrev S8x512x1024 : Shape := ⟨3, ![8, 512, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S4096x1024, .f32⟩
  | .hbm, ⟨3, _⟩ => ⟨S2x2048x1024, .f32⟩
  | .hbm, ⟨4, _⟩ => ⟨S2x2048x4096, .f32⟩
  | .hbm, ⟨5, _⟩ => ⟨S_, .f32⟩
  | .hbm, ⟨6, _⟩ => ⟨S2x2048x4096, .f32⟩
  | .hbm, ⟨7, _⟩ => ⟨S2x2048x4096, .f32⟩
  | .hbm, ⟨8, _⟩ => ⟨S_, .f32⟩
  | .hbm, ⟨9, _⟩ => ⟨S2x2048x4096, .f32⟩
  | .hbm, ⟨10, _⟩ => ⟨S2x2048x4096, .i1⟩
  | .hbm, ⟨11, _⟩ => ⟨S_, .f32⟩
  | .hbm, ⟨12, _⟩ => ⟨S2x2048x4096, .f32⟩
  | .hbm, ⟨13, _⟩ => ⟨S2x2048x4096, .f32⟩
  | .hbm, ⟨14, _⟩ => ⟨S_, .f32⟩
  | .hbm, ⟨15, _⟩ => ⟨S2x2048x4096, .f32⟩
  | .hbm, ⟨16, _⟩ => ⟨S2x2048x4096, .f32⟩
  | .hbm, ⟨17, _⟩ => ⟨S2x2048x1024, .f32⟩
  | .hbm, ⟨18, _⟩ => ⟨S1024x4096, .f32⟩
  | .hbm, ⟨19, _⟩ => ⟨S4096x1024, .f32⟩
  | .hbm, ⟨20, _⟩ => ⟨S2x2048x4096, .f32⟩
  | .hbm, ⟨21, _⟩ => ⟨S2x2048x4096, .f32⟩
  | .hbm, ⟨22, _⟩ => ⟨S_, .f32⟩
  | .hbm, ⟨23, _⟩ => ⟨S2x2048x4096, .f32⟩
  | .hbm, ⟨24, _⟩ => ⟨S2x2048x4096, .f32⟩
  | .hbm, ⟨25, _⟩ => ⟨S4096x1024, .f32⟩
  | .hbm, ⟨26, _⟩ => ⟨S1024x4096, .f32⟩
  | .hbm, ⟨27, _⟩ => ⟨S2x2048x4096, .bf16⟩
  | .hbm, ⟨28, _⟩ => ⟨S1024x8x512, .f32⟩
  | .hbm, ⟨29, _⟩ => ⟨S8x1024x512, .f32⟩
  | .hbm, ⟨30, _⟩ => ⟨S8x1024x512, .bf16⟩
  | .hbm, ⟨31, _⟩ => ⟨S8x512x1024, .f32⟩
  | .hbm, ⟨32, _⟩ => ⟨S8x512x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel4.lean ====
abbrev S2x2048x1024 : Shape := ⟨3, ![2, 2048, 1024]⟩
abbrev S1024x4096 : Shape := ⟨2, ![1024, 4096]⟩
abbrev S4096x1024 : Shape := ⟨2, ![4096, 1024]⟩
abbrev S2x1024 : Shape := ⟨2, ![2, 1024]⟩
abbrev S1024 : Shape := ⟨1, ![1024]⟩
abbrev S_ : Shape := ⟨0, ![]⟩
abbrev S2x5x1024 : Shape := ⟨3, ![2, 5, 1024]⟩
abbrev S2x1x1024 : Shape := ⟨3, ![2, 1, 1024]⟩
abbrev S2x2x1024 : Shape := ⟨3, ![2, 2, 1024]⟩
abbrev S2x8x1024 : Shape := ⟨3, ![2, 8, 1024]⟩
abbrev S1x1024 : Shape := ⟨2, ![1, 1024]⟩
abbrev S2x2048x4096 : Shape := ⟨3, ![2, 2048, 4096]⟩
abbrev S8x128 : Shape := ⟨2, ![8, 128]⟩
abbrev S1x512x1024 : Shape := ⟨3, ![1, 512, 1024]⟩
abbrev S1x8x1024 : Shape := ⟨3, ![1, 8, 1024]⟩
abbrev S1x512x4096 : Shape := ⟨3, ![1, 512, 4096]⟩
abbrev S1x1x1024 : Shape := ⟨3, ![1, 1, 1024]⟩
abbrev S512x1024 : Shape := ⟨2, ![512, 1024]⟩
abbrev S2048x1024 : Shape := ⟨2, ![2048, 1024]⟩
abbrev S512x2048 : Shape := ⟨2, ![512, 2048]⟩
abbrev S1x512x2048 : Shape := ⟨3, ![1, 512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 24
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S4096x1024, .f32⟩
  | .hbm, ⟨3, _⟩ => ⟨S2x2048x1024, .f32⟩
  | .hbm, ⟨4, _⟩ => ⟨S2x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x5x1024, .f32⟩
  | .hbm, ⟨9, _⟩ => ⟨S2x1x1024, .f32⟩
  | .hbm, ⟨10, _⟩ => ⟨S_, .f32⟩
  | .hbm, ⟨11, _⟩ => ⟨S2x2x1024, .f32⟩
  | .hbm, ⟨12, _⟩ => ⟨S2x8x1024, .f32⟩
  | .hbm, ⟨13, _⟩ => ⟨S2x2048x1024, .bf16⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S1x1024, .f32⟩
  | .hbm, ⟨18, _⟩ => ⟨S2x2048x1024, .f32⟩
  | .hbm, ⟨19, _⟩ => ⟨S2x2048x1024, .bf16⟩
  | .hbm, ⟨20, _⟩ => ⟨S2x2048x4096, .bf16⟩
  | .hbm, ⟨21, _⟩ => ⟨S8x128, .f32⟩
  | .hbm, ⟨22, _⟩ => ⟨S2x1x1024, .f32⟩
  | .hbm, ⟨23, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x4096, .bf16⟩
  | .local _ .vmem, ⟨14, _⟩ => ⟨S1x512x4096, .bf16⟩
  | .local _ .vmem, ⟨15, _⟩ => ⟨S8x128, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S4096x1024, .bf16⟩
  | .local _ .vmem, ⟨20, _⟩ => ⟨S4096x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v120 : BitVec 32 := Scalar.extui v2
  let c0_i32_57 : BitVec 32 := 0#32
  let v121 : BitVec 1 := Scalar.cmpi .ne v120 c0_i32_57
  v121

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v122 : BitVec 1 := Scalar.xori v2 v_true
  let v123 : BitVec 32 := Scalar.extui v122
  let c0_i32_58 : BitVec 32 := 0#32
  let v124 : BitVec 1 := Scalar.cmpi .ne v123 c0_i32_58
  v124

def k0_cond6 (i : grid0.Coords) : BitVec 1 :=
  let arg1 : BitVec 32 := BitVec.ofNat 32 (i 1).val
  let c0_i32_62 : BitVec 32 := 0#32
  let v130 : BitVec 1 := Scalar.cmpi .eq arg1 c0_i32_62
  let v131 : BitVec 32 := Scalar.extui v130
  let c0_i32_63 : BitVec 32 := 0#32
  let v132 : BitVec 1 := Scalar.cmpi .ne v131 c0_i32_63
  v132

def k0_cond7 (i : grid0.Coords) : BitVec 1 :=
  let arg1 : BitVec 32 := BitVec.ofNat 32 (i 1).val
  let c0_i32_62 : BitVec 32 := 0#32
  let v130 : BitVec 1 := Scalar.cmpi .eq arg1 c0_i32_62
  let true_64 : BitVec 1 := 1#1
  let v133 : BitVec 1 := Scalar.xori v130 true_64
  let v134 : BitVec 32 := Scalar.extui v133
  let c0_i32_65 : BitVec 32 := 0#32
  let v135 : BitVec 1 := Scalar.cmpi .ne v134 c0_i32_65
  v135

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v125 : BitVec 32 := Scalar.extui v2
  let c0_i32_59 : BitVec 32 := 0#32
  let v126 : BitVec 1 := Scalar.cmpi .ne v125 c0_i32_59
  v126

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_60 : BitVec 1 := 1#1
  let v127 : BitVec 1 := Scalar.xori v2 true_60
  let v128 : BitVec 32 := Scalar.extui v127
  let c0_i32_61 : BitVec 32 := 0#32
  let v129 : BitVec 1 := Scalar.cmpi .ne v128 c0_i32_61
  v129

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference4Ideal.lean ====
abbrev S2x2048x1024 : Shape := ⟨3, ![2, 2048, 1024]⟩
abbrev S1024x4096 : Shape := ⟨2, ![1024, 4096]⟩
abbrev S4096x1024 : Shape := ⟨2, ![4096, 1024]⟩
abbrev S2x1024 : Shape := ⟨2, ![2, 1024]⟩
abbrev S1024 : Shape := ⟨1, ![1024]⟩
abbrev S2x2048x4096 : Shape := ⟨3, ![2, 2048, 4096]⟩
abbrev S_ : Shape := ⟨0, ![]⟩
abbrev S2x1x1024 : Shape := ⟨3, ![2, 1, 1024]⟩
abbrev S2x2048 : Shape := ⟨2, ![2, 2048]⟩
abbrev S2x2048x1 : Shape := ⟨3, ![2, 2048, 1]⟩
abbrev S1x1x1024 : Shape := ⟨3, ![1, 1, 1024]⟩
abbrev S8x128 : Shape := ⟨2, ![8, 128]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S4096x1024, .f32⟩
  | .hbm, ⟨3, _⟩ => ⟨S2x2048x1024, .f32⟩
  | .hbm, ⟨4, _⟩ => ⟨S2x1024, .f32⟩
  | .hbm, ⟨5, _⟩ => ⟨S1024, .f32⟩
  | .hbm, ⟨6, _⟩ => ⟨S2x2048x1024, .f32⟩
  | .hbm, ⟨7, _⟩ => ⟨S2x2048x4096, .f32⟩
  | .hbm, ⟨8, _⟩ => ⟨S_, .f32⟩
  | .hbm, ⟨9, _⟩ => ⟨S2x2048x4096, .f32⟩
  | .hbm, ⟨10, _⟩ => ⟨S2x2048x4096, .f32⟩
  | .hbm, ⟨11, _⟩ => ⟨S2x2048x4096, .f32⟩
  | .hbm, ⟨12, _⟩ => ⟨S2x2048x1024, .f32⟩
  | .hbm, ⟨13, _⟩ => ⟨S2x1x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x1024, .f32⟩
  | .hbm, ⟨33, _⟩ => ⟨S2x2048x1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x2048, .f32⟩
  | .hbm, ⟨44, _⟩ => ⟨S_, .f32⟩
  | .hbm, ⟨45, _⟩ => ⟨S2x2048, .f32⟩
  | .hbm, ⟨46, _⟩ => ⟨S2x2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2x2048, .f32⟩
  | .hbm, ⟨55, _⟩ => ⟨S_, .f32⟩
  | .hbm, ⟨56, _⟩ => ⟨S2x2048, .f32⟩
  | .hbm, ⟨57, _⟩ => ⟨S2x2048, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S1024, .f32⟩
  | .hbm, ⟨68, _⟩ => ⟨S2x2048x1024, .f32⟩
  | .hbm, ⟨69, _⟩ => ⟨S_, .f32⟩
  | .hbm, ⟨70, _⟩ => ⟨S2x2048, .f32⟩
  | .hbm, ⟨71, _⟩ => ⟨S2x2048x1, .f32⟩
  | .hbm, ⟨72, _⟩ => ⟨S2x2048x1024, .f32⟩
  | .hbm, ⟨73, _⟩ => ⟨S2x2048x1024, .f32⟩
  | .hbm, ⟨74, _⟩ => ⟨S2x2048x1, .f32⟩
  | .hbm, ⟨75, _⟩ => ⟨S_, .f32⟩
  | .hbm, ⟨76, _⟩ => ⟨S2x2048x1, .f32⟩
  | .hbm, ⟨77, _⟩ => ⟨S2x2048x1, .f32⟩
  | .hbm, ⟨78, _⟩ => ⟨S_, .f32⟩
  | .hbm, ⟨79, _⟩ => ⟨S2x2048, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S_, .f32⟩
  | .hbm, ⟨89, _⟩ => ⟨S2x1024, .f32⟩
  | .hbm, ⟨90, _⟩ => ⟨S2x1x1024, .f32⟩
  | .hbm, ⟨91, _⟩ => ⟨S_, .f32⟩
  | .hbm, ⟨92, _⟩ => ⟨S2x1024, .f32⟩
  | .hbm, ⟨93, _⟩ => ⟨S2x2048x1024, .bf16⟩
  | .hbm, ⟨94, _⟩ => ⟨S2x2048x4096, .bf16⟩
  | .hbm, ⟨95, _⟩ => ⟨S8x128, .f32⟩
  | .hbm, ⟨96, _⟩ => ⟨S2x1x1024, .f32⟩
  | .hbm, ⟨97, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_cst_13 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_v52 : Ref sig .tc := ⟨.hbm, 77, rfl⟩
abbrev main_cst_15 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Kernel5.lean ====
abbrev S2x2048x4x192 : Shape := ⟨4, ![2, 2048, 4, 192]⟩
abbrev S2x2304x4x192 : Shape := ⟨4, ![2, 2304, 4, 192]⟩
abbrev S2x2304x4x128 : Shape := ⟨4, ![2, 2304, 4, 128]⟩
abbrev S2x2048x4x128 : Shape := ⟨4, ![2, 2048, 4, 128]⟩
abbrev S2x256x4x128 : Shape := ⟨4, ![2, 256, 4, 128]⟩
abbrev S2x2304x512 : Shape := ⟨3, ![2, 2304, 512]⟩
abbrev S_ : Shape := ⟨0, ![]⟩
abbrev S2x2048x4x32 : Shape := ⟨4, ![2, 2048, 4, 32]⟩
abbrev S2x2048x4x256 : Shape := ⟨4, ![2, 2048, 4, 256]⟩
abbrev S2x2048x1024 : Shape := ⟨3, ![2, 2048, 1024]⟩
abbrev S2x256x4x192 : Shape := ⟨4, ![2, 256, 4, 192]⟩
abbrev S2x2304x4x32 : Shape := ⟨4, ![2, 2304, 4, 32]⟩
abbrev S2x2304x4x256 : Shape := ⟨4, ![2, 2304, 4, 256]⟩
abbrev S2x2304x1024 : Shape := ⟨3, ![2, 2304, 1024]⟩
abbrev S2x2048x512 : Shape := ⟨3, ![2, 2048, 512]⟩
abbrev S1x512x256 : Shape := ⟨3, ![1, 512, 256]⟩
abbrev S1x2304x256 : Shape := ⟨3, ![1, 2304, 256]⟩
abbrev S1x2304x128 : Shape := ⟨3, ![1, 2304, 128]⟩
abbrev S1x512x128 : Shape := ⟨3, ![1, 512, 128]⟩
abbrev S2304x256 : Shape := ⟨2, ![2304, 256]⟩
abbrev S2304x128 : Shape := ⟨2, ![2304, 128]⟩
abbrev S1x256x256 : Shape := ⟨3, ![1, 256, 256]⟩
abbrev S256x256 : Shape := ⟨2, ![256, 256]⟩
abbrev S256x2304 : Shape := ⟨2, ![256, 2304]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 29
  | .vmem => 10
  | .smem => 0
  | _ => 0

abbrev bufTy : (tb : Table) → Fin (tcTables nBuf tb) → BufTy
  | .hbm, ⟨0, _⟩ => ⟨S2x2048x4x192, .f32⟩
  | .hbm, ⟨1, _⟩ => ⟨S2x2304x4x192, .f32⟩
  | .hbm, ⟨2, _⟩ => ⟨S2x2304x4x128, .f32⟩
  | .hbm, ⟨3, _⟩ => ⟨S2x2048x4x128, .f32⟩
  | .hbm, ⟨4, _⟩ => ⟨S2x256x4x128, .f32⟩
  | .hbm, ⟨5, _⟩ => ⟨S2x2304x4x128, .f32⟩
  | .hbm, ⟨6, _⟩ => ⟨S2x2304x512, .f32⟩
  | .hbm, ⟨7, _⟩ => ⟨S2x2304x512, .bf16⟩
  | .hbm, ⟨8, _⟩ => ⟨S_, .f32⟩
  | .hbm, ⟨9, _⟩ => ⟨S2x2048x4x32, .f32⟩
  | .hbm, ⟨10, _⟩ => ⟨S2x2048x4x128, .f32⟩
  | .hbm, ⟨11, _⟩ => ⟨S2x2048x4x32, .f32⟩
  | .hbm, ⟨12, _⟩ => ⟨S2x2048x4x32, .f32⟩
  | .hbm, ⟨13, _⟩ => ⟨S2x2048x4x256, .f32⟩
  | .hbm, ⟨14, _⟩ => ⟨S2x2048x1024, .f32⟩
  | .hbm, ⟨15, _⟩ => ⟨S2x2048x1024, .bf16⟩
  | .hbm, ⟨16, _⟩ => ⟨S2x2048x4x192, .f32⟩
  | .hbm, ⟨17, _⟩ => ⟨S2x256x4x192, .f32⟩
  | .hbm, ⟨18, _⟩ => ⟨S2x2304x4x192, .f32⟩
  | .hbm, ⟨19, _⟩ => ⟨S_, .f32⟩
  | .hbm, ⟨20, _⟩ => ⟨S2x2304x4x32, .f32⟩
  | .hbm, ⟨21, _⟩ => ⟨S2x2304x4x128, .f32⟩
  | .hbm, ⟨22, _⟩ => ⟨S2x2304x4x32, .f32⟩
  | .hbm, ⟨23, _⟩ => ⟨S2x2304x4x32, .f32⟩
  | .hbm, ⟨24, _⟩ => ⟨S2x2304x4x256, .f32⟩
  | .hbm, ⟨25, _⟩ => ⟨S2x2304x1024, .f32⟩
  | .hbm, ⟨26, _⟩ => ⟨S2x2304x1024, .bf16⟩
  | .hbm, ⟨27, _⟩ => ⟨S2x2048x512, .f32⟩
  | .hbm, ⟨28, _⟩ => ⟨S2x2048x512, .f32⟩
  | .local _ .vmem, ⟨0, _⟩ => ⟨S1x512x256, .bf16⟩
  | .local _ .vmem, ⟨1, _⟩ => ⟨S1x512x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | _, _ => ⟨S2x2048x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel5Ideal.lean ====
variable {F : FTy → Type} [FloatOps F] [Named F]
def κ : String → Option EReal := fun
  | "s" => some (((Real.sqrt 192)⁻¹ : ℝ) : EReal)
  | "sl" => some (((Real.sqrt 192)⁻¹ * (Real.log 2)⁻¹ : ℝ) : EReal)
  | _ => none
-- ==== Reference5Ideal.lean ====
abbrev S2x2048x4x192 : Shape := ⟨4, ![2, 2048, 4, 192]⟩
abbrev S2x2304x4x192 : Shape := ⟨4, ![2, 2304, 4, 192]⟩
abbrev S2x2304x4x128 : Shape := ⟨4, ![2, 2304, 4, 128]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x2048x4 : Shape := ⟨3, ![2, 2048, 4]⟩
abbrev S2x4x128x2048 : Shape := ⟨4, ![2, 4, 128, 2048]⟩
abbrev S2x2048x4x128 : Shape := ⟨4, ![2, 2048, 4, 128]⟩
abbrev S2x2048x512 : Shape := ⟨3, ![2, 2048, 512]⟩
abbrev S2x2048x4x1 : Shape := ⟨4, ![2, 2048, 4, 1]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x4x192, .f32⟩
  | .hbm, ⟨1, _⟩ => ⟨S2x2304x4x192, .f32⟩
  | .hbm, ⟨2, _⟩ => ⟨S2x2304x4x128, .f32⟩
  | .hbm, ⟨3, _⟩ => ⟨S2x4x2048x2304, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x4x2048x2304, .f32⟩
  | .hbm, ⟨9, _⟩ => ⟨S2x4x2048x2304, .f32⟩
  | .hbm, ⟨10, _⟩ => ⟨S_, .f32⟩
  | .hbm, ⟨11, _⟩ => ⟨S2x4x2048, .f32⟩
  | .hbm, ⟨12, _⟩ => ⟨S2x4x2048x1, .f32⟩
  | .hbm, ⟨13, _⟩ => ⟨S2x4x2048x2304, .f32⟩
  | .hbm, ⟨14, _⟩ => ⟨S2x4x2048x2304, .f32⟩
  | .hbm, ⟨15, _⟩ => ⟨S2x4x2048x2304, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S2x4x2048, .f32⟩
  | .hbm, ⟨20, _⟩ => ⟨S2x2048x4, .f32⟩
  | .hbm, ⟨21, _⟩ => ⟨S2x4x2048x2304, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x4x2048x2304, .f32⟩
  | .hbm, ⟨27, _⟩ => ⟨S2x4x2048x2304, .f32⟩
  | .hbm, ⟨28, _⟩ => ⟨S_, .f32⟩
  | .hbm, ⟨29, _⟩ => ⟨S2x4x2048, .f32⟩
  | .hbm, ⟨30, _⟩ => ⟨S_, .f32⟩
  | .hbm, ⟨31, _⟩ => ⟨S2x4x2048, .f32⟩
  | .hbm, ⟨32, _⟩ => ⟨S2x4x2048, .f32⟩
  | .hbm, ⟨33, _⟩ => ⟨S2x4x2048x1, .f32⟩
  | .hbm, ⟨34, _⟩ => ⟨S2x4x2048x2304, .f32⟩
  | .hbm, ⟨35, _⟩ => ⟨S2x4x2048x2304, .f32⟩
  | .hbm, ⟨36, _⟩ => ⟨S2x4x2048x2304, .f32⟩
  | .hbm, ⟨37, _⟩ => ⟨S_, .f32⟩
  | .hbm, ⟨38, _⟩ => ⟨S2x4x2048, .f32⟩
  | .hbm, ⟨39, _⟩ => ⟨S2x4x2048x1, .f32⟩
  | .hbm, ⟨40, _⟩ => ⟨S2x4x2048x2304, .f32⟩
  | .hbm, ⟨41, _⟩ => ⟨S2x4x2048x2304, .f32⟩
  | .hbm, ⟨42, _⟩ => ⟨S2x4x128x2048, .f32⟩
  | .hbm, ⟨43, _⟩ => ⟨S2x2048x4x128, .f32⟩
  | .hbm, ⟨44, _⟩ => ⟨S2x2048x512, .f32⟩
  | .hbm, ⟨45, _⟩ => ⟨S2x2048x4x1, .f32⟩
  | .hbm, ⟨46, _⟩ => ⟨S2x2048x4x128, .f32⟩
  | .hbm, ⟨47, _⟩ => ⟨S2x2048x512, .f32⟩
  | _, _ => ⟨S2x2048x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel6.lean ====
abbrev S2x2048x1024 : Shape := ⟨3, ![2, 2048, 1024]⟩
abbrev S2x2048x512 : Shape := ⟨3, ![2, 2048, 512]⟩
abbrev S512 : Shape := ⟨1, ![512]⟩
abbrev S1024x1024 : Shape := ⟨2, ![1024, 1024]⟩
abbrev S2x1024 : Shape := ⟨2, ![2, 1024]⟩
abbrev S1024 : Shape := ⟨1, ![1024]⟩
abbrev S1x512 : Shape := ⟨2, ![1, 512]⟩
abbrev S_ : Shape := ⟨0, ![]⟩
abbrev S2x2x1024 : Shape := ⟨3, ![2, 2, 1024]⟩
abbrev S2x1x1024 : Shape := ⟨3, ![2, 1, 1024]⟩
abbrev S2x3x1024 : Shape := ⟨3, ![2, 3, 1024]⟩
abbrev S2x8x1024 : Shape := ⟨3, ![2, 8, 1024]⟩
abbrev S1x1024 : Shape := ⟨2, ![1, 1024]⟩
abbrev S1x512x1024 : Shape := ⟨3, ![1, 512, 1024]⟩
abbrev S1x512x512 : Shape := ⟨3, ![1, 512, 512]⟩
abbrev S1x8x1024 : Shape := ⟨3, ![1, 8, 1024]⟩
abbrev S1x1x1024 : Shape := ⟨3, ![1, 1, 1024]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1x128 : Shape := ⟨2, ![1, 128]⟩

abbrev nBuf : Space → Nat
  | .hbm => 24
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S512, .f32⟩
  | .hbm, ⟨6, _⟩ => ⟨S1024x1024, .f32⟩
  | .hbm, ⟨7, _⟩ => ⟨S2x1024, .f32⟩
  | .hbm, ⟨8, _⟩ => ⟨S1024, .f32⟩
  | .hbm, ⟨9, _⟩ => ⟨S2x1024, .f32⟩
  | .hbm, ⟨10, _⟩ => ⟨S2x1024, .f32⟩
  | .hbm, ⟨11, _⟩ => ⟨S1x512, .f32⟩
  | .hbm, ⟨12, _⟩ => ⟨S1024x1024, .bf16⟩
  | .hbm, ⟨13, _⟩ => ⟨S_, .f32⟩
  | .hbm, ⟨14, _⟩ => ⟨S2x2x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S_, .f32⟩
  | .hbm, ⟨19, _⟩ => ⟨S2x3x1024, .f32⟩
  | .hbm, ⟨20, _⟩ => ⟨S2x8x1024, .f32⟩
  | .hbm, ⟨21, _⟩ => ⟨S1x1024, .f32⟩
  | .hbm, ⟨22, _⟩ => ⟨S2x2048x1024, .f32⟩
  | .hbm, ⟨23, _⟩ => ⟨S2x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512, .f32⟩
  | .local _ .vmem, ⟨11, _⟩ => ⟨S1024x1024, .bf16⟩
  | .local _ .vmem, ⟨12, _⟩ => ⟨S1x8x1024, .f32⟩
  | .local _ .vmem, ⟨13, _⟩ => ⟨S1x8x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S2x2048x1024 : Shape := ⟨3, ![2, 2048, 1024]⟩
abbrev S2x2048x512 : Shape := ⟨3, ![2, 2048, 512]⟩
abbrev S512 : Shape := ⟨1, ![512]⟩
abbrev S1024x1024 : Shape := ⟨2, ![1024, 1024]⟩
abbrev S2x1024 : Shape := ⟨2, ![2, 1024]⟩
abbrev S1024 : Shape := ⟨1, ![1024]⟩
abbrev S2x2048x4x128 : Shape := ⟨4, ![2, 2048, 4, 128]⟩
abbrev S_ : Shape := ⟨0, ![]⟩
abbrev S2x2048x4 : Shape := ⟨3, ![2, 2048, 4]⟩
abbrev S2x2048x4x1 : Shape := ⟨4, ![2, 2048, 4, 1]⟩
abbrev S4x128 : Shape := ⟨2, ![4, 128]⟩
abbrev S1x1x4x128 : Shape := ⟨4, ![1, 1, 4, 128]⟩
abbrev S2x1x1024 : Shape := ⟨3, ![2, 1, 1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S512, .f32⟩
  | .hbm, ⟨6, _⟩ => ⟨S1024x1024, .f32⟩
  | .hbm, ⟨7, _⟩ => ⟨S2x1024, .f32⟩
  | .hbm, ⟨8, _⟩ => ⟨S1024, .f32⟩
  | .hbm, ⟨9, _⟩ => ⟨S2x1024, .f32⟩
  | .hbm, ⟨10, _⟩ => ⟨S2x1024, .f32⟩
  | .hbm, ⟨11, _⟩ => ⟨S2x2048x512, .f32⟩
  | .hbm, ⟨12, _⟩ => ⟨S2x2048x4x128, .f32⟩
  | .hbm, ⟨13, _⟩ => ⟨S_, .f32⟩
  | .hbm, ⟨14, _⟩ => ⟨S2x2048x4, .f32⟩
  | .hbm, ⟨15, _⟩ => ⟨S2x2048x4x1, .f32⟩
  | .hbm, ⟨16, _⟩ => ⟨S_, .f32⟩
  | .hbm, ⟨17, _⟩ => ⟨S2x2048x4x1, .f32⟩
  | .hbm, ⟨18, _⟩ => ⟨S2x2048x4x1, .f32⟩
  | .hbm, ⟨19, _⟩ => ⟨S2x2048x4x128, .f32⟩
  | .hbm, ⟨20, _⟩ => ⟨S2x2048x4x128, .f32⟩
  | .hbm, ⟨21, _⟩ => ⟨S2x2048x4x128, .f32⟩
  | .hbm, ⟨22, _⟩ => ⟨S_, .f32⟩
  | .hbm, ⟨23, _⟩ => ⟨S2x2048x4, .f32⟩
  | .hbm, ⟨24, _⟩ => ⟨S2x2048x4x1, .f32⟩
  | .hbm, ⟨25, _⟩ => ⟨S_, .f32⟩
  | .hbm, ⟨26, _⟩ => ⟨S2x2048x4x1, .f32⟩
  | .hbm, ⟨27, _⟩ => ⟨S2x2048x4x1, .f32⟩
  | .hbm, ⟨28, _⟩ => ⟨S2x2048x4x128, .f32⟩
  | .hbm, ⟨29, _⟩ => ⟨S2x2048x4x128, .f32⟩
  | .hbm, ⟨30, _⟩ => ⟨S_, .f32⟩
  | .hbm, ⟨31, _⟩ => ⟨S2x2048x4x1, .f32⟩
  | .hbm, ⟨32, _⟩ => ⟨S2x2048x4x1, .f32⟩
  | .hbm, ⟨33, _⟩ => ⟨S2x2048x4x1, .f32⟩
  | .hbm, ⟨34, _⟩ => ⟨S2x2048x4x128, .f32⟩
  | .hbm, ⟨35, _⟩ => ⟨S2x2048x4x128, .f32⟩
  | .hbm, ⟨36, _⟩ => ⟨S4x128, .f32⟩
  | .hbm, ⟨37, _⟩ => ⟨S1x1x4x128, .f32⟩
  | .hbm, ⟨38, _⟩ => ⟨S2x2048x4x128, .f32⟩
  | .hbm, ⟨39, _⟩ => ⟨S2x2048x4x128, .f32⟩
  | .hbm, ⟨40, _⟩ => ⟨S2x2048x512, .f32⟩
  | .hbm, ⟨41, _⟩ => ⟨S2x2048x512, .f32⟩
  | .hbm, ⟨42, _⟩ => ⟨S2x2048x512, .f32⟩
  | .hbm, ⟨43, _⟩ => ⟨S_, .f32⟩
  | .hbm, ⟨44, _⟩ => ⟨S2x2048x512, .f32⟩
  | .hbm, ⟨45, _⟩ => ⟨S2x2048x512, .f32⟩
  | .hbm, ⟨46, _⟩ => ⟨S_, .f32⟩
  | .hbm, ⟨47, _⟩ => ⟨S2x2048x512, .f32⟩
  | .hbm, ⟨48, _⟩ => ⟨S2x2048x512, .f32⟩
  | .hbm, ⟨49, _⟩ => ⟨S2x2048x512, .f32⟩
  | .hbm, ⟨50, _⟩ => ⟨S2x2048x512, .f32⟩
  | .hbm, ⟨51, _⟩ => ⟨S2x1x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048x1, .f32⟩
  | .hbm, ⟨66, _⟩ => ⟨S2x2048x1, .f32⟩
  | .hbm, ⟨67, _⟩ => ⟨S2x2048x1, .f32⟩
  | .hbm, ⟨68, _⟩ => ⟨S2x2048x1024, .f32⟩
  | .hbm, ⟨69, _⟩ => ⟨S2x2048x1024, .f32⟩
  | .hbm, ⟨70, _⟩ => ⟨S1x1x1024, .f32⟩
  | .hbm, ⟨71, _⟩ => ⟨S2x2048x1024, .f32⟩
  | .hbm, ⟨72, _⟩ => ⟨S2x2048x1024, .f32⟩
  | .hbm, ⟨73, _⟩ => ⟨S2x1x1024, .f32⟩
  | .hbm, ⟨74, _⟩ => ⟨S_, .f32⟩
  | .hbm, ⟨75, _⟩ => ⟨S2x1x1024, .f32⟩
  | .hbm, ⟨76, _⟩ => ⟨S2x1x1024, .f32⟩
  | .hbm, ⟨77, _⟩ => ⟨S2x2048x1024, .f32⟩
  | .hbm, ⟨78, _⟩ => ⟨S2x2048x1024, .f32⟩
  | .hbm, ⟨79, _⟩ => ⟨S2x1x1024, .f32⟩
  | .hbm, ⟨80, _⟩ => ⟨S2x2048x1024, .f32⟩
  | .hbm, ⟨81, _⟩ => ⟨S2x2048x1024, .f32⟩
  | .hbm, ⟨82, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Kernel7.lean ====
abbrev S2x2048x1024 : Shape := ⟨3, ![2, 2048, 1024]⟩
abbrev S2x2048x512 : Shape := ⟨3, ![2, 2048, 512]⟩
abbrev S512 : Shape := ⟨1, ![512]⟩
abbrev S1024x1024 : Shape := ⟨2, ![1024, 1024]⟩
abbrev S2x1024 : Shape := ⟨2, ![2, 1024]⟩
abbrev S1024 : Shape := ⟨1, ![1024]⟩
abbrev S1024x4096 : Shape := ⟨2, ![1024, 4096]⟩
abbrev S2x2048x4096 : Shape := ⟨3, ![2, 2048, 4096]⟩
abbrev S1x512 : Shape := ⟨2, ![1, 512]⟩
abbrev S_ : Shape := ⟨0, ![]⟩
abbrev S2x2x1024 : Shape := ⟨3, ![2, 2, 1024]⟩
abbrev S2x1x1024 : Shape := ⟨3, ![2, 1, 1024]⟩
abbrev S2x3x1024 : Shape := ⟨3, ![2, 3, 1024]⟩
abbrev S2x8x1024 : Shape := ⟨3, ![2, 8, 1024]⟩
abbrev S1x1024 : Shape := ⟨2, ![1, 1024]⟩
abbrev S4096x1024 : Shape := ⟨2, ![4096, 1024]⟩
abbrev S1x256x1024 : Shape := ⟨3, ![1, 256, 1024]⟩
abbrev S1x256x512 : Shape := ⟨3, ![1, 256, 512]⟩
abbrev S1x8x1024 : Shape := ⟨3, ![1, 8, 1024]⟩
abbrev S1x256x4096 : Shape := ⟨3, ![1, 256, 4096]⟩
abbrev S1x1x1024 : Shape := ⟨3, ![1, 1, 1024]⟩
abbrev S256x4096 : Shape := ⟨2, ![256, 4096]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S128 : Shape := ⟨1, ![128]⟩
abbrev S1x384 : Shape := ⟨2, ![1, 384]⟩
abbrev S256x384 : Shape := ⟨2, ![256, 384]⟩
abbrev S1x256 : Shape := ⟨2, ![1, 256]⟩
abbrev S256x256 : Shape := ⟨2, ![256, 256]⟩
abbrev S1x2x1024 : Shape := ⟨3, ![1, 2, 1024]⟩
abbrev S3x1024 : Shape := ⟨2, ![3, 1024]⟩
abbrev S1x3x1024 : Shape := ⟨3, ![1, 3, 1024]⟩

abbrev nBuf : Space → Nat
  | .hbm => 36
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S512, .f32⟩
  | .hbm, ⟨6, _⟩ => ⟨S1024x1024, .f32⟩
  | .hbm, ⟨7, _⟩ => ⟨S2x1024, .f32⟩
  | .hbm, ⟨8, _⟩ => ⟨S1024, .f32⟩
  | .hbm, ⟨9, _⟩ => ⟨S2x1024, .f32⟩
  | .hbm, ⟨10, _⟩ => ⟨S2x1024, .f32⟩
  | .hbm, ⟨11, _⟩ => ⟨S1024x4096, .f32⟩
  | .hbm, ⟨12, _⟩ => ⟨S2x2048x1024, .f32⟩
  | .hbm, ⟨13, _⟩ => ⟨S2x2048x4096, .f32⟩
  | .hbm, ⟨14, _⟩ => ⟨S1x512, .f32⟩
  | .hbm, ⟨15, _⟩ => ⟨S1024x1024, .bf16⟩
  | .hbm, ⟨16, _⟩ => ⟨S_, .f32⟩
  | .hbm, ⟨17, _⟩ => ⟨S2x2x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S_, .f32⟩
  | .hbm, ⟨22, _⟩ => ⟨S2x3x1024, .f32⟩
  | .hbm, ⟨23, _⟩ => ⟨S2x8x1024, .f32⟩
  | .hbm, ⟨24, _⟩ => ⟨S1x1024, .f32⟩
  | .hbm, ⟨25, _⟩ => ⟨S2x2048x4096, .bf16⟩
  | .hbm, ⟨26, _⟩ => ⟨S4096x1024, .f32⟩
  | .hbm, ⟨27, _⟩ => ⟨S4096x1024, .bf16⟩
  | .hbm, ⟨28, _⟩ => ⟨S2x2048x1024, .f32⟩
  | .hbm, ⟨29, _⟩ => ⟨S2x2048x512, .f32⟩
  | .hbm, ⟨30, _⟩ => ⟨S2x2048x512, .f32⟩
  | .hbm, ⟨31, _⟩ => ⟨S2x2048x512, .f32⟩
  | .hbm, ⟨32, _⟩ => ⟨S1024x1024, .bf16⟩
  | .hbm, ⟨33, _⟩ => ⟨S1x512, .f32⟩
  | .hbm, ⟨34, _⟩ => ⟨S1x1024, .f32⟩
  | .hbm, ⟨35, _⟩ => ⟨S2x8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x512, .f32⟩
  | .local _ .vmem, ⟨11, _⟩ => ⟨S1024x1024, .bf16⟩
  | .local _ .vmem, ⟨12, _⟩ => ⟨S1x8x1024, .f32⟩
  | .local _ .vmem, ⟨13, _⟩ => ⟨S1x8x1024, .f32⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x4096, .bf16⟩
  | .local _ .vmem, ⟨18, _⟩ => ⟨S1x256x4096, .bf16⟩
  | .local _ .vmem, ⟨19, _⟩ => ⟨S1x256x1024, .f32⟩
  | .local _ .vmem, ⟨20, _⟩ => ⟨S1x256x1024, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1024x1024, .bf16⟩
  | .local _ .vmem, ⟨28, _⟩ => ⟨S1x512, .f32⟩
  | .local _ .vmem, ⟨29, _⟩ => ⟨S1x1024, .f32⟩
  | .local _ .vmem, ⟨30, _⟩ => ⟨S1x8x1024, .f32⟩
  | .local _ .vmem, ⟨31, _⟩ => ⟨S1x8x1024, .f32⟩
  | .local _ .vmem, ⟨32, _⟩ => ⟨S4096x1024, .bf16⟩
  | .local _ .vmem, ⟨33, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v12_3 : Ref sig .tc := ⟨.hbm, 31, rfl⟩
abbrev main_v12_4 : Ref sig .tc := ⟨.hbm, 32, rfl⟩
abbrev main_v12_5 : Ref sig .tc := ⟨.hbm, 33, rfl⟩
abbrev main_v12_6 : Ref sig .tc := ⟨.hbm, 34, rfl⟩
abbrev main_v12_7 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![2, 8], ![false, false]⟩

def k0_cond15 (i : grid0.Coords) : BitVec 1 :=
  let arg0 : BitVec 32 := BitVec.ofNat 32 (i 0).val
  let c1_i32 : BitVec 32 := 1#32
  let v428 : BitVec 1 := Scalar.cmpi .eq arg0 c1_i32
  let arg1 : BitVec 32 := BitVec.ofNat 32 (i 1).val
  let c7_i32 : BitVec 32 := 7#32
  let v429 : BitVec 1 := Scalar.cmpi .eq arg1 c7_i32
  let v430 : BitVec 1 := Scalar.andi v428 v429
  let v431 : BitVec 32 := Scalar.extui v430
  let c0_i32_157 : BitVec 32 := 0#32
  let v432 : BitVec 1 := Scalar.cmpi .ne v431 c0_i32_157
  v432

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v400 : BitVec 32 := Scalar.extui v2
  let c0_i32_140 : BitVec 32 := 0#32
  let v401 : BitVec 1 := Scalar.cmpi .ne v400 c0_i32_140
  v401

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_141 : BitVec 1 := 1#1
  let v402 : BitVec 1 := Scalar.xori v2 true_141
  let v403 : BitVec 32 := Scalar.extui v402
  let c0_i32_142 : BitVec 32 := 0#32
  let v404 : BitVec 1 := Scalar.cmpi .ne v403 c0_i32_142
  v404

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v405 : BitVec 32 := Scalar.extui v2
  let c0_i32_143 : BitVec 32 := 0#32
  let v406 : BitVec 1 := Scalar.cmpi .ne v405 c0_i32_143
  v406

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_144 : BitVec 1 := 1#1
  let v407 : BitVec 1 := Scalar.xori v2 true_144
  let v408 : BitVec 32 := Scalar.extui v407
  let c0_i32_145 : BitVec 32 := 0#32
  let v409 : BitVec 1 := Scalar.cmpi .ne v408 c0_i32_145
  v409

def k0_cond8 (i : grid0.Coords) : BitVec 1 :=
  let arg1 : BitVec 32 := BitVec.ofNat 32 (i 1).val
  let c0_i32_146 : BitVec 32 := 0#32
  let v410 : BitVec 1 := Scalar.cmpi .eq arg1 c0_i32_146
  let v411 : BitVec 32 := Scalar.extui v410
  let c0_i32_147 : BitVec 32 := 0#32
  let v412 : BitVec 1 := Scalar.cmpi .ne v411 c0_i32_147
  v412

def k0_cond9 (i : grid0.Coords) : BitVec 1 :=
  let arg1 : BitVec 32 := BitVec.ofNat 32 (i 1).val
  let c0_i32_146 : BitVec 32 := 0#32
  let v410 : BitVec 1 := Scalar.cmpi .eq arg1 c0_i32_146
  let true_148 : BitVec 1 := 1#1
  let v413 : BitVec 1 := Scalar.xori v410 true_148
  let v414 : BitVec 32 := Scalar.extui v413
  let c0_i32_149 : BitVec 32 := 0#32
  let v415 : BitVec 1 := Scalar.cmpi .ne v414 c0_i32_149
  v415

def k0_cond10 (i : grid0.Coords) : BitVec 1 :=
  let arg1 : BitVec 32 := BitVec.ofNat 32 (i 1).val
  let c0_i32_146 : BitVec 32 := 0#32
  let v410 : BitVec 1 := Scalar.cmpi .eq arg1 c0_i32_146
  let v416 : BitVec 32 := Scalar.extui v410
  let c0_i32_150 : BitVec 32 := 0#32
  let v417 : BitVec 1 := Scalar.cmpi .ne v416 c0_i32_150
  v417

def k0_cond11 (i : grid0.Coords) : BitVec 1 :=
  let arg1 : BitVec 32 := BitVec.ofNat 32 (i 1).val
  let c0_i32_146 : BitVec 32 := 0#32
  let v410 : BitVec 1 := Scalar.cmpi .eq arg1 c0_i32_146
  let true_151 : BitVec 1 := 1#1
  let v418 : BitVec 1 := Scalar.xori v410 true_151
  let v419 : BitVec 32 := Scalar.extui v418
  let c0_i32_152 : BitVec 32 := 0#32
  let v420 : BitVec 1 := Scalar.cmpi .ne v419 c0_i32_152
  v420

def k0_cond12 (i : grid0.Coords) : BitVec 1 :=
  let arg1 : BitVec 32 := BitVec.ofNat 32 (i 1).val
  let c0_i32_146 : BitVec 32 := 0#32
  let v410 : BitVec 1 := Scalar.cmpi .eq arg1 c0_i32_146
  let v421 : BitVec 32 := Scalar.extui v410
  let c0_i32_153 : BitVec 32 := 0#32
  let v422 : BitVec 1 := Scalar.cmpi .ne v421 c0_i32_153
  v422

def k0_cond13 (i : grid0.Coords) : BitVec 1 :=
  let arg1 : BitVec 32 := BitVec.ofNat 32 (i 1).val
  let c0_i32_146 : BitVec 32 := 0#32
  let v410 : BitVec 1 := Scalar.cmpi .eq arg1 c0_i32_146
  let true_154 : BitVec 1 := 1#1
  let v423 : BitVec 1 := Scalar.xori v410 true_154
  let v424 : BitVec 32 := Scalar.extui v423
  let c0_i32_155 : BitVec 32 := 0#32
  let v425 : BitVec 1 := Scalar.cmpi .ne v424 c0_i32_155
  v425

def k0_cond14 (i : grid0.Coords) : BitVec 1 :=
  let arg1 : BitVec 32 := BitVec.ofNat 32 (i 1).val
  let c0_i32_146 : BitVec 32 := 0#32
  let v410 : BitVec 1 := Scalar.cmpi .eq arg1 c0_i32_146
  let v426 : BitVec 32 := Scalar.extui v410
  let c0_i32_156 : BitVec 32 := 0#32
  let v427 : BitVec 1 := Scalar.cmpi .ne v426 c0_i32_156
  v427

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Reference7Ideal.lean ====
abbrev S2x2048x1024 : Shape := ⟨3, ![2, 2048, 1024]⟩
abbrev S2x2048x512 : Shape := ⟨3, ![2, 2048, 512]⟩
abbrev S512 : Shape := ⟨1, ![512]⟩
abbrev S1024x1024 : Shape := ⟨2, ![1024, 1024]⟩
abbrev S2x1024 : Shape := ⟨2, ![2, 1024]⟩
abbrev S1024 : Shape := ⟨1, ![1024]⟩
abbrev S1024x4096 : Shape := ⟨2, ![1024, 4096]⟩
abbrev S2x2048x4096 : Shape := ⟨3, ![2, 2048, 4096]⟩
abbrev S2x2048x4x128 : Shape := ⟨4, ![2, 2048, 4, 128]⟩
abbrev S_ : Shape := ⟨0, ![]⟩
abbrev S2x2048x4 : Shape := ⟨3, ![2, 2048, 4]⟩
abbrev S2x2048x4x1 : Shape := ⟨4, ![2, 2048, 4, 1]⟩
abbrev S4x128 : Shape := ⟨2, ![4, 128]⟩
abbrev S1x1x4x128 : Shape := ⟨4, ![1, 1, 4, 128]⟩
abbrev S2x1x1024 : Shape := ⟨3, ![2, 1, 1024]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 128
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S512, .f32⟩
  | .hbm, ⟨6, _⟩ => ⟨S1024x1024, .f32⟩
  | .hbm, ⟨7, _⟩ => ⟨S2x1024, .f32⟩
  | .hbm, ⟨8, _⟩ => ⟨S1024, .f32⟩
  | .hbm, ⟨9, _⟩ => ⟨S2x1024, .f32⟩
  | .hbm, ⟨10, _⟩ => ⟨S2x1024, .f32⟩
  | .hbm, ⟨11, _⟩ => ⟨S1024x4096, .f32⟩
  | .hbm, ⟨12, _⟩ => ⟨S2x2048x1024, .f32⟩
  | .hbm, ⟨13, _⟩ => ⟨S2x2048x4096, .f32⟩
  | .hbm, ⟨14, _⟩ => ⟨S2x2048x512, .f32⟩
  | .hbm, ⟨15, _⟩ => ⟨S2x2048x4x128, .f32⟩
  | .hbm, ⟨16, _⟩ => ⟨S_, .f32⟩
  | .hbm, ⟨17, _⟩ => ⟨S2x2048x4, .f32⟩
  | .hbm, ⟨18, _⟩ => ⟨S2x2048x4x1, .f32⟩
  | .hbm, ⟨19, _⟩ => ⟨S_, .f32⟩
  | .hbm, ⟨20, _⟩ => ⟨S2x2048x4x1, .f32⟩
  | .hbm, ⟨21, _⟩ => ⟨S2x2048x4x1, .f32⟩
  | .hbm, ⟨22, _⟩ => ⟨S2x2048x4x128, .f32⟩
  | .hbm, ⟨23, _⟩ => ⟨S2x2048x4x128, .f32⟩
  | .hbm, ⟨24, _⟩ => ⟨S2x2048x4x128, .f32⟩
  | .hbm, ⟨25, _⟩ => ⟨S_, .f32⟩
  | .hbm, ⟨26, _⟩ => ⟨S2x2048x4, .f32⟩
  | .hbm, ⟨27, _⟩ => ⟨S2x2048x4x1, .f32⟩
  | .hbm, ⟨28, _⟩ => ⟨S_, .f32⟩
  | .hbm, ⟨29, _⟩ => ⟨S2x2048x4x1, .f32⟩
  | .hbm, ⟨30, _⟩ => ⟨S2x2048x4x1, .f32⟩
  | .hbm, ⟨31, _⟩ => ⟨S2x2048x4x128, .f32⟩
  | .hbm, ⟨32, _⟩ => ⟨S2x2048x4x128, .f32⟩
  | .hbm, ⟨33, _⟩ => ⟨S_, .f32⟩
  | .hbm, ⟨34, _⟩ => ⟨S2x2048x4x1, .f32⟩
  | .hbm, ⟨35, _⟩ => ⟨S2x2048x4x1, .f32⟩
  | .hbm, ⟨36, _⟩ => ⟨S2x2048x4x1, .f32⟩
  | .hbm, ⟨37, _⟩ => ⟨S2x2048x4x128, .f32⟩
  | .hbm, ⟨38, _⟩ => ⟨S2x2048x4x128, .f32⟩
  | .hbm, ⟨39, _⟩ => ⟨S4x128, .f32⟩
  | .hbm, ⟨40, _⟩ => ⟨S1x1x4x128, .f32⟩
  | .hbm, ⟨41, _⟩ => ⟨S2x2048x4x128, .f32⟩
  | .hbm, ⟨42, _⟩ => ⟨S2x2048x4x128, .f32⟩
  | .hbm, ⟨43, _⟩ => ⟨S2x2048x512, .f32⟩
  | .hbm, ⟨44, _⟩ => ⟨S2x2048x512, .f32⟩
  | .hbm, ⟨45, _⟩ => ⟨S2x2048x512, .f32⟩
  | .hbm, ⟨46, _⟩ => ⟨S_, .f32⟩
  | .hbm, ⟨47, _⟩ => ⟨S2x2048x512, .f32⟩
  | .hbm, ⟨48, _⟩ => ⟨S2x2048x512, .f32⟩
  | .hbm, ⟨49, _⟩ => ⟨S_, .f32⟩
  | .hbm, ⟨50, _⟩ => ⟨S2x2048x512, .f32⟩
  | .hbm, ⟨51, _⟩ => ⟨S2x2048x512, .f32⟩
  | .hbm, ⟨52, _⟩ => ⟨S_, .f32⟩
  | .hbm, ⟨53, _⟩ => ⟨S2x2048x512, .f32⟩
  | .hbm, ⟨54, _⟩ => ⟨S2x2048x512, .f32⟩
  | .hbm, ⟨55, _⟩ => ⟨S2x2048x512, .f32⟩
  | .hbm, ⟨56, _⟩ => ⟨S2x2048x512, .f32⟩
  | .hbm, ⟨57, _⟩ => ⟨S2x2048x512, .f32⟩
  | .hbm, ⟨58, _⟩ => ⟨S2x1x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S2x2048, .f32⟩
  | .hbm, ⟨67, _⟩ => ⟨S2x2048x1, .f32⟩
  | .hbm, ⟨68, _⟩ => ⟨S_, .f32⟩
  | .hbm, ⟨69, _⟩ => ⟨S2x2048x1, .f32⟩
  | .hbm, ⟨70, _⟩ => ⟨S2x2048x1, .f32⟩
  | .hbm, ⟨71, _⟩ => ⟨S_, .f32⟩
  | .hbm, ⟨72, _⟩ => ⟨S2x2048x1, .f32⟩
  | .hbm, ⟨73, _⟩ => ⟨S2x2048x1, .f32⟩
  | .hbm, ⟨74, _⟩ => ⟨S2x2048x1, .f32⟩
  | .hbm, ⟨75, _⟩ => ⟨S2x2048x1, .f32⟩
  | .hbm, ⟨76, _⟩ => ⟨S_, .f32⟩
  | .hbm, ⟨77, _⟩ => ⟨S2x2048x1, .f32⟩
  | .hbm, ⟨78, _⟩ => ⟨S2x2048x1, .f32⟩
  | .hbm, ⟨79, _⟩ => ⟨S2x2048x1024, .f32⟩
  | .hbm, ⟨80, _⟩ => ⟨S2x2048x1024, .f32⟩
  | .hbm, ⟨81, _⟩ => ⟨S1x1x1024, .f32⟩
  | .hbm, ⟨82, _⟩ => ⟨S2x2048x1024, .f32⟩
  | .hbm, ⟨83, _⟩ => ⟨S2x2048x1024, .f32⟩
  | .hbm, ⟨84, _⟩ => ⟨S2x1x1024, .f32⟩
  | .hbm, ⟨85, _⟩ => ⟨S_, .f32⟩
  | .hbm, ⟨86, _⟩ => ⟨S2x1x1024, .f32⟩
  | .hbm, ⟨87, _⟩ => ⟨S2x1x1024, .f32⟩
  | .hbm, ⟨88, _⟩ => ⟨S2x2048x1024, .f32⟩
  | .hbm, ⟨89, _⟩ => ⟨S2x2048x1024, .f32⟩
  | .hbm, ⟨90, _⟩ => ⟨S2x1x1024, .f32⟩
  | .hbm, ⟨91, _⟩ => ⟨S2x2048x1024, .f32⟩
  | .hbm, ⟨92, _⟩ => ⟨S2x2048x1024, .f32⟩
  | .hbm, ⟨93, _⟩ => ⟨S2x2048x4096, .f32⟩
  | .hbm, ⟨94, _⟩ => ⟨S2x2048x1024, .f32⟩
  | .hbm, ⟨95, _⟩ => ⟨S2x2048x1024, .f32⟩
  | .hbm, ⟨96, _⟩ => ⟨S2x2048x1024, .f32⟩
  | .hbm, ⟨97, _⟩ => ⟨S2x2048x1024, .f32⟩
  | .hbm, ⟨98, _⟩ => ⟨S2x2048x1024, .f32⟩
  | .hbm, ⟨99, _⟩ => ⟨S2x2048x1024, .f32⟩
  | .hbm, ⟨100, _⟩ => ⟨S_, .f32⟩
  | .hbm, ⟨101, _⟩ => ⟨S2x2048, .f32⟩
  | .hbm, ⟨102, _⟩ => ⟨S2x2048x1, .f32⟩
  | .hbm, ⟨103, _⟩ => ⟨S2x2048x1024, .f32⟩
  | .hbm, ⟨104, _⟩ => ⟨S2x2048x1024, .f32⟩
  | .hbm, ⟨105, _⟩ => ⟨S2x2048x1024, .f32⟩
  | .hbm, ⟨106, _⟩ => ⟨S2x2048x1, .f32⟩
  | .hbm, ⟨107, _⟩ => ⟨S_, .f32⟩
  | .hbm, ⟨108, _⟩ => ⟨S2x2048x1, .f32⟩
  | .hbm, ⟨109, _⟩ => ⟨S2x2048x1, .f32⟩
  | .hbm, ⟨110, _⟩ => ⟨S_, .f32⟩
  | .hbm, ⟨111, _⟩ => ⟨S2x2048, .f32⟩
  | .hbm, ⟨112, _⟩ => ⟨S2x2048x1024, .f32⟩
  | .hbm, ⟨113, _⟩ => ⟨S2x2048x1024, .f32⟩
  | .hbm, ⟨114, _⟩ => ⟨S2x2048x1024, .f32⟩
  | .hbm, ⟨115, _⟩ => ⟨S2x2048x1024, .f32⟩
  | .hbm, ⟨116, _⟩ => ⟨S2x2048x1024, .f32⟩
  | .hbm, ⟨117, _⟩ => ⟨S2x2048x1024, .f32⟩
  | .hbm, ⟨118, _⟩ => ⟨S2x2048x1024, .f32⟩
  | .hbm, ⟨119, _⟩ => ⟨S2x2048x1024, .f32⟩
  | .hbm, ⟨120, _⟩ => ⟨S2x2048x1024, .f32⟩
  | .hbm, ⟨121, _⟩ => ⟨S2x2048x512, .f32⟩
  | .hbm, ⟨122, _⟩ => ⟨S2x2048x512, .f32⟩
  | .hbm, ⟨123, _⟩ => ⟨S2x2048x512, .f32⟩
  | .hbm, ⟨124, _⟩ => ⟨S2x2048x512, .f32⟩
  | .hbm, ⟨125, _⟩ => ⟨S2x2048x512, .f32⟩
  | .hbm, ⟨126, _⟩ => ⟨S2x2048x512, .f32⟩
  | .hbm, ⟨127, _⟩ => ⟨S2x2048x512, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v25_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v25_1 : Ref sig .tc := ⟨.hbm, 55, rfl⟩
abbrev main_v25_0 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_4 : Ref sig .tc := ⟨.hbm, 65, rfl⟩
abbrev main_v34 : Ref sig .tc := ⟨.hbm, 66, rfl⟩
abbrev main_v35 : Ref sig .tc := ⟨.hbm, 67, rfl⟩
abbrev main_cst_5 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_7 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_8 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_9 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_10 : Ref sig .tc := ⟨.hbm, 107, rfl⟩
abbrev main_v70 : Ref sig .tc := ⟨.hbm, 108, rfl⟩
abbrev main_v71 : Ref sig .tc := ⟨.hbm, 109, rfl⟩
abbrev main_cst_11 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_v85 : Ref sig .tc := ⟨.hbm, 127, rfl⟩

abbrev nD : Nat := 1
abbrev τ : Topo := Topo.v7x

variable {F : FTy → Type} [FloatOps F]
-- ==== Kernel8.lean ====
abbrev S16x1024 : Shape := ⟨2, ![16, 1024]⟩
abbrev S1024 : Shape := ⟨1, ![1024]⟩
abbrev S1024x768 : Shape := ⟨2, ![1024, 768]⟩
abbrev S768 : Shape := ⟨1, ![768]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S1x768 : Shape := ⟨2, ![1, 768]⟩
abbrev S24x768 : Shape := ⟨2, ![24, 768]⟩

abbrev nBuf : Space → Nat
  | .hbm => 10
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x768, .f32⟩
  | .hbm, ⟨3, _⟩ => ⟨S768, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S1x768, .f32⟩
  | .hbm, ⟨9, _⟩ => ⟨S24x768, .f32⟩
  | .local _ .vmem, ⟨0, _⟩ => ⟨S24x1024, .f32⟩
  | .local _ .vmem, ⟨1, _⟩ => ⟨S1024x768, .f32⟩
  | .local _ .vmem, ⟨2, _⟩ => ⟨S1x768, .f32⟩
  | .local _ .vmem, ⟨3, _⟩ => ⟨S24x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference8Ideal.lean ====
abbrev S16x1024 : Shape := ⟨2, ![16, 1024]⟩
abbrev S1024 : Shape := ⟨1, ![1024]⟩
abbrev S1024x768 : Shape := ⟨2, ![1024, 768]⟩
abbrev S768 : Shape := ⟨1, ![768]⟩
abbrev S_ : Shape := ⟨0, ![]⟩
abbrev S16x768 : Shape := ⟨2, ![16, 768]⟩
abbrev S1x768 : Shape := ⟨2, ![1, 768]⟩
abbrev S1x1024 : Shape := ⟨2, ![1, 1024]⟩
abbrev S7x768 : Shape := ⟨2, ![7, 768]⟩
abbrev S24x768 : Shape := ⟨2, ![24, 768]⟩

abbrev nBuf : Space → Nat
  | .hbm => 33
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x768, .f32⟩
  | .hbm, ⟨3, _⟩ => ⟨S768, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x768, .f32⟩
  | .hbm, ⟨14, _⟩ => ⟨S1x768, .f32⟩
  | .hbm, ⟨15, _⟩ => ⟨S16x768, .f32⟩
  | .hbm, ⟨16, _⟩ => ⟨S16x768, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S1x768, .f32⟩
  | .hbm, ⟨28, _⟩ => ⟨S768, .f32⟩
  | .hbm, ⟨29, _⟩ => ⟨S768, .f32⟩
  | .hbm, ⟨30, _⟩ => ⟨S1x768, .f32⟩
  | .hbm, ⟨31, _⟩ => ⟨S7x768, .f32⟩
  | .hbm, ⟨32, _⟩ => ⟨S24x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Proof.LossMath.lean ====
module

public import Idealize.ShloMosaic.Lib.Pointwise
public import Idealize.ShloMosaic.Lib.IdealHost

/-! The loss of a token after its norm, and its gradient, on a row of 1024 numbers. -/

@[expose] public section

noncomputable section

namespace Cert.Loss

open Idealize.ShloMosaic

variable (x g y : Fin 1024 → EReal)

/-- The mean of a row's squares and the norm's epsilon. -/
def ms : EReal := Ideal.div (∑ k, x k * x k) (Ideal.ofBits .f32 0x44800000#32) + Ideal.ofBits .f32 0x358637BD#32

/-- One over the root of it. -/
def inv : EReal := Ideal.rsqrt (ms x)

/-- The difference of the scaled row and its target. -/
def err (k : Fin 1024) : EReal := x k * inv x * g k - y k

/-- The mean of the squared differences. -/
def tok : EReal := Ideal.div (∑ k, err x g y k * err x g y k) (Ideal.ofBits .f32 0x44800000#32)

/-- The gradient of the scaled row. -/
def dErr (k : Fin 1024) : EReal :=
  Ideal.div (Ideal.ofBits .f32 0x3F000000#32) (Ideal.ofBits .f32 0x44800000#32)
    * (Ideal.ofBits .f32 0x40000000#32 * err x g y k)

/-- What the mean of the squares hands back to each square. -/
def pull : EReal :=
  Ideal.div ((∑ k, x k * (dErr x g y k * g k)) * (Ideal.ofBits .f32 0xBF000000#32 * Ideal.div (inv x) (ms x))) (Ideal.ofBits .f32 0x44800000#32)

/-- The gradient of the row. -/
def dRow (k : Fin 1024) : EReal := dErr x g y k * g k * inv x + x k * pull x g y + pull x g y * x k

/-- A sum over the first two of three axes. -/
theorem reduce_first_two {n0 n1 n2 : ℕ} (h : (⟨3, ![n0, n1, n2]⟩ : Shape).ReducesTo [0, 1] ⟨1, ![n2]⟩)
    (v : (⟨3, ![n0, n1, n2]⟩ : Shape).Idx → EReal) (z : EReal) (k : Fin n2) :
    Ideal.hostReduceAdd h v z (ix1 k) = z + ∑ a : Fin n0, ∑ b : Fin n1, v (ix3 a b k) := by
  unfold Ideal.hostReduceAdd
  refine congrArg (z + ·) ((Finset.sum_filter_eq_sum_of_fiber _ (fun p : Fin n0 × Fin n1 => ix3 p.1 p.2 k)
    (fun _ _ e => Prod.ext (congrFun e 0) (congrFun e 1)) (fun i => ?_) v).trans ?_)
  · constructor
    · intro e
      refine ⟨(i 0, i 1), ?_⟩
      funext a
      match a with
      | ⟨0, _⟩ => rfl
      | ⟨1, _⟩ => rfl
      | ⟨2, _⟩ => exact (congrFun e 0).symm
    · rintro ⟨p, rfl⟩
      funext a
      rw [Fin.eq_zero a]
      rfl
  · simp only [Fintype.sum_prod_type]

/-- Half of a sum, by its parts. -/
theorem half_sum {ι : Type*} (s : Finset ι) (f : ι → EReal) :
    ∑ i ∈ s, Ideal.ofBits .f32 0x3F000000#32 * f i = Ideal.ofBits .f32 0x3F000000#32 * ∑ i ∈ s, f i := by
  have hh : Ideal.ofBits .f32 0x3F000000#32 = ((1 / 2 : ℝ) : EReal) := by simp [Ideal.ofBits, Ideal.ieee]; norm_cast; try norm_num
  rw [hh]
  induction s using Finset.cons_induction with
  | empty => simp
  | cons a s ha ih =>
    rw [Finset.sum_cons, Finset.sum_cons, ih, EReal.left_distrib_of_nonneg_of_ne_top (by exact_mod_cast (by norm_num : (0:ℝ) ≤ 1 / 2)) (EReal.coe_ne_top _)]

end Cert.Loss

end
-- ==== Proof.LossKer.lean ====
module

public import proofs.«01_k».proof.Proof.Gen.Kernel4Ideal.Value
public import proofs.«01_k».proof.Proof.LossMath
public import Idealize.ShloMosaic.Lib.Pipeline.ValueKit
public import Idealize.ShloMosaic.Lib.StableHlo.RunRead
public import Idealize.ShloMosaic.Lib.Claim

/-! The call with the loss: what its points read and what they compute. -/

@[expose] public section

set_option maxRecDepth 16384

noncomputable section

namespace Cert.Kernel4Ideal.Loss

open Cert.Kernel4Ideal Cert.Kernel4Ideal.Gen Idealize.ShloMosaic Idealize.ShloMosaic.TcCoe Idealize.SL.Sem Cert.Loss

section
variable (a : FVec Ideal S512x1024 .f32) (b : Vec Ideal S2048x1024 .bf16) (d : FVec Ideal S512x2048 .bf16) (e : Vec Ideal S1x1x1024 .f32) (x : Vec Ideal S1x512x1024 .f32)
  (g : Vec Ideal S1x1024 .f32) (y : Vec Ideal S1x512x1024 .f32)

/-- A token's row after the MLP, and its target. -/
def rowOf (r : Fin 512) (k : Fin 1024) : EReal := k0_pay17 a b d e x (ix2 r k)
def gainOf (k : Fin 1024) : EReal := g (ix2 0 k)
def goalOf (r : Fin 512) (k : Fin 1024) : EReal := y (ix3 0 r k)

theorem pay17_at (r : Fin 512) (k : Fin 1024) : k0_pay17 a b d e x (ix2 r k) = x (ix3 0 r k) + e (ix3 0 0 k) * k0_pay14 a b d (ix2 r k) := by
  pointwise [k0_pay17, k0_pay15]
theorem pay18_at (r : Fin 512) : k0_pay18 a b d e x (ix2 r 0) = ms (rowOf a b d e x r) := by
  pointwise [k0_pay18]
  rfl
theorem pay19_at (r : Fin 512) : k0_pay19 a b d e x (ix2 r 0) = inv (rowOf a b d e x r) := by
  pointwise [k0_pay19]
  rw [pay18_at]; rfl
theorem pay20_at (r : Fin 512) : k0_pay20 a b d e x (ix2 r 0)
    = Ideal.ofBits .f32 0xBF000000#32 * Ideal.div (inv (rowOf a b d e x r)) (ms (rowOf a b d e x r)) := by
  pointwise [k0_pay20]
  rw [pay18_at, pay19_at]
theorem pay21_at (r : Fin 512) (k : Fin 1024) : k0_pay21 a b d e x (ix2 r k) = rowOf a b d e x r k * inv (rowOf a b d e x r) := by
  pointwise [k0_pay21]
  rw [pay19_at]; rfl
theorem pay22_at (r : Fin 512) (k : Fin 1024) : k0_pay22 a b d e x g y (ix2 r k) = err (rowOf a b d e x r) (gainOf g) (goalOf y r) k := by
  pointwise [k0_pay22, k0_pay16]
  rw [pay21_at]; rfl
theorem pay24_at : k0_pay24 a b d e x g y (ix2 0 0) = ∑ r, tok (rowOf a b d e x r) (gainOf g) (goalOf y r) := by
  pointwise [k0_pay24]
  simp only [pay22_at]; rfl
theorem pay27_at (r : Fin 512) (k : Fin 1024) : k0_pay27 (k0_pay23 a b d e x g y) (ix2 r k) = dErr (rowOf a b d e x r) (gainOf g) (goalOf y r) k := by
  pointwise [k0_pay27, k0_pay23]
  simp only [pay22_at, Fin.sum_univ_one]; rfl
/-- The point's part of the norm's gain. -/
theorem pay28_at (k : Fin 1024) : k0_pay28 (k0_pay21 a b d e x) (k0_pay23 a b d e x g y) (ix2 0 k)
    = ∑ r, rowOf a b d e x r k * inv (rowOf a b d e x r) * dErr (rowOf a b d e x r) (gainOf g) (goalOf y r) k := by
  pointwise [k0_pay28]
  simp only [pay27_at, pay21_at]

/-- The gradient of the point's rows. -/
def dTile : FVec Ideal S512x1024 .f32 :=
  k0_pay29 (k0_pay16 g) (k0_pay17 a b d e x) (k0_pay19 a b d e x) (k0_pay20 a b d e x) (k0_pay23 a b d e x g y)

theorem dTile_at (r : Fin 512) (k : Fin 1024) : dTile a b d e x g y (ix2 r k) = dRow (rowOf a b d e x r) (gainOf g) (goalOf y r) k := by
  pointwise [dTile, k0_pay29, k0_pay16]
  simp only [Fin.sum_univ_one, pay27_at, pay19_at]
  rw [pay20_at]; rfl
theorem pay31_at (r : Fin 512) (k : Fin 1024) :
    k0_pay31 (k0_pay16 g) (k0_pay17 a b d e x) (k0_pay19 a b d e x) (k0_pay20 a b d e x) (k0_pay23 a b d e x g y) (ix3 0 r k) = dTile a b d e x g y (ix2 r k) := by
  pointwise [k0_pay31, dTile]
theorem pay32_at (r : Fin 512) (k : Fin 1024) :
    k0_pay1 (k0_pay32 (k0_pay15 e) (k0_pay16 g) (k0_pay17 a b d e x) (k0_pay19 a b d e x) (k0_pay20 a b d e x) (k0_pay23 a b d e x g y)) (ix3 0 r k)
      = e (ix3 0 0 k) * dTile a b d e x g y (ix2 r k) := by
  pointwise [k0_pay1, k0_pay32, k0_pay15, dTile]
theorem pay30_at (k : Fin 1024) :
    k0_pay30 (k0_pay14 a b d) (k0_pay16 g) (k0_pay17 a b d e x) (k0_pay19 a b d e x) (k0_pay20 a b d e x) (k0_pay23 a b d e x g y) (ix2 0 k)
      = ∑ r, dTile a b d e x g y (ix2 r k) * k0_pay14 a b d (ix2 r k) := by
  pointwise [k0_pay30, dTile]
end

section
variable (h : Vec Ideal S1x512x1024 .bf16) (u u' w w' : Vec Ideal S2048x1024 .bf16)

theorem pay8_at (r : Fin 512) (f : Fin 2048) : k0_pay8 h u (ix2 r f) = max (∑ k, h (ix3 0 r k) * u (ix2 f k)) 0 := by
  pointwise [k0_pay8, k0_pay7]
theorem pay11_at (r : Fin 512) (f : Fin 2048) : k0_pay11 h u (ix2 r f) = k0_pay8 h u (ix2 r f) := by
  pointwise [k0_pay11, k0_pay8]
theorem pay9_at (r : Fin 512) (f : Fin 2048) : k0_pay9 h u (ix3 0 r f) = k0_pay8 h u (ix2 r f) := by
  pointwise [k0_pay9]
theorem pay12_at (r : Fin 512) (f : Fin 2048) : k0_pay12 h u (ix3 0 r f) = k0_pay8 h u (ix2 r f) := by
  pointwise [k0_pay12]
  exact pay11_at h u r f
theorem pay14_at (r : Fin 512) (k : Fin 1024) : k0_pay14 (k0_pay10 h u w) w' (k0_pay13 h u') (ix2 r k)
    = (∑ f, k0_pay8 h u (ix2 r f) * k0_pay8 h u (ix2 r f) * w (ix2 f k)) + ∑ f, k0_pay8 h u' (ix2 r f) * k0_pay8 h u' (ix2 r f) * w' (ix2 f k) := by
  pointwise [k0_pay14, k0_pay10, k0_pay13]
  simp only [pay11_at]
end

theorem idx : ∀ t : Fin cfg0.N, win0_0.index t = ![t.val / 4, t.val % 4, 0] ∧ win0_1.index t = ![t.val / 4, t.val % 4, 0]
    ∧ win0_2.index t = ![t.val / 4, 0, 0] ∧ win0_3.index t = ![0, 0] ∧ win0_4.index t = ![t.val / 4, t.val % 4, 0]
    ∧ win0_5.index t = ![t.val / 4, t.val % 4, 0] ∧ win0_6.index t = ![t.val / 4, t.val % 4, 0] ∧ win0_7.index t = ![t.val / 4, t.val % 4, 0]
    ∧ win0_8.index t = ![0, 0] ∧ win0_9.index t = ![t.val / 4, 0, 0] ∧ win0_10.index t = ![0, 0] :=
  (by decide +kernel : ∀ t : Fin grid0.N, _)

/-- The sequence of a point, and the token of a row of its tile. -/
def bt (t : Fin cfg0.N) : Fin 2 := ⟨t.val / 4, by have : t.val < 8 := t.isLt; omega⟩
def st (t : Fin cfg0.N) (r : Fin 512) : Fin 2048 := ⟨t.val % 4 * 512 + r, by omega⟩

theorem read0 (X : FVec Ideal S2x2048x1024 .bf16) (t : Fin cfg0.N) :
    ((cfg0.win 0).blk t).view.read (Elt Ideal) X = fun y : S1x512x1024.Idx => X (ix3 (bt t) (st t (y 1)) (y 2)) := by
  blk_ext! [idx t, bt, st]
theorem read1 (X : FVec Ideal S2x2048x1024 .f32) (t : Fin cfg0.N) :
    ((cfg0.win 1).blk t).view.read (Elt Ideal) X = fun y : S1x512x1024.Idx => X (ix3 (bt t) (st t (y 1)) (y 2)) := by
  blk_ext! [idx t, bt, st]
theorem read2 (X : FVec Ideal S2x8x1024 .f32) (t : Fin cfg0.N) :
    ((cfg0.win 2).blk t).view.read (Elt Ideal) X = fun y : S1x8x1024.Idx => X (ix3 (bt t) (y 1) (y 2)) := by
  blk_ext! [idx t, bt]
theorem read3 (X : FVec Ideal S1x1024 .f32) (t : Fin cfg0.N) :
    ((cfg0.win 3).blk t).view.read (Elt Ideal) X = fun y : S1x1024.Idx => X (ix2 (y 0) (y 1)) := by
  blk_ext! [idx t]
theorem read4 (X : FVec Ideal S2x2048x1024 .f32) (t : Fin cfg0.N) :
    ((cfg0.win 4).blk t).view.read (Elt Ideal) X = fun y : S1x512x1024.Idx => X (ix3 (bt t) (st t (y 1)) (y 2)) := by
  blk_ext! [idx t, bt, st]
theorem read5 (X : FVec Ideal S2x2048x1024 .f32) (t : Fin cfg0.N) :
    ((cfg0.win 5).blk t).view.read (Elt Ideal) X = fun y : S1x512x1024.Idx => X (ix3 (bt t) (st t (y 1)) (y 2)) := by
  blk_ext! [idx t, bt, st]
theorem read6 (X : FVec Ideal S2x2048x1024 .bf16) (t : Fin cfg0.N) :
    ((cfg0.win 6).blk t).view.read (Elt Ideal) X = fun y : S1x512x1024.Idx => X (ix3 (bt t) (st t (y 1)) (y 2)) := by
  blk_ext! [idx t, bt, st]
theorem read7 (X : FVec Ideal S2x2048x4096 .bf16) (t : Fin cfg0.N) :
    ((cfg0.win 7).blk t).view.read (Elt Ideal) X = fun y : S1x512x4096.Idx => X (ix3 (bt t) (st t (y 1)) (y 2)) := by
  blk_ext! [idx t, bt, st]
theorem read8 (X : FVec Ideal S8x128 .f32) (t : Fin cfg0.N) :
    ((cfg0.win 8).blk t).view.read (Elt Ideal) X = fun y : S8x128.Idx => X (ix2 (y 0) (y 1)) := by
  blk_ext! [idx t]
theorem read9 (X : FVec Ideal S2x1x1024 .f32) (t : Fin cfg0.N) :
    ((cfg0.win 9).blk t).view.read (Elt Ideal) X = fun y : S1x1x1024.Idx => X (ix3 (bt t) (y 1) (y 2)) := by
  blk_ext! [idx t, bt]
theorem read10 (X : FVec Ideal S1x1024 .f32) (t : Fin cfg0.N) :
    ((cfg0.win 10).blk t).view.read (Elt Ideal) X = fun y : S1x1024.Idx => X (ix2 (y 0) (y 1)) := by
  blk_ext! [idx t]

end Cert.Kernel4Ideal.Loss

end
-- ==== Proof.LossRef.lean ====
module

public import proofs.«01_k».proof.Proof.Gen.Reference4Ideal.Run
public import proofs.«01_k».proof.Proof.LossMath
public import Idealize.ShloMosaic.Lib.Pipeline.ValueKit
public import Idealize.ShloMosaic.Lib.Claim

/-! What the reference of the call with the loss computes. -/

@[expose] public section

set_option maxRecDepth 16384

noncomputable section

namespace Cert.Reference4Ideal.Loss

open Cert.Reference4Ideal Cert.Reference4Ideal.Gen Idealize.ShloMosaic Idealize.ShloMosaic.TcCoe Idealize.SL.Sem Cert.Loss

section
variable (H : FVec Ideal S2x2048x1024 .f32) (U : FVec Ideal S1024x4096 .f32) (W : FVec Ideal S4096x1024 .f32) (X : FVec Ideal S2x2048x1024 .f32)
  (A : FVec Ideal S2x1024 .f32) (G : FVec Ideal S1024 .f32) (Y : FVec Ideal S2x2048x1024 .f32)

/-- The hidden layer after its relu. -/
def act (b : Fin 2) (s : Fin 2048) (f : Fin 4096) : EReal := max (∑ k, H (ix3 b s k) * U (ix2 k f)) 0

/-- The MLP's output. -/
def mlp (b : Fin 2) (s : Fin 2048) (k : Fin 1024) : EReal := ∑ f, act H U b s f * act H U b s f * W (ix2 f k)

/-- The residual stream after the MLP, a row a token. -/
def res (b : Fin 2) (s : Fin 2048) (k : Fin 1024) : EReal := X (ix3 b s k) + A (ix2 b k) * mlp H U W b s k
def gain (k : Fin 1024) : EReal := G (ix1 k)
def goal (b : Fin 2) (s : Fin 2048) (k : Fin 1024) : EReal := Y (ix3 b s k)

def rAct : FVec Ideal S2x2048x4096 .f32 :=
  maximumf (Host.dotGeneral dot_S2x2048x1024_S1024x4096_S2x2048x4096_2_0_01_1_n_n none H U) (broadcastInDim S2x2048x4096 ![] bcast_S_S2x2048x4096 (constant S_ .f32 0x00000000#32))
def rMlp : FVec Ideal S2x2048x1024 .f32 := Host.dotGeneral dot_S2x2048x4096_S4096x1024_S2x2048x1024_2_0_01_1_n_n none (mulf (rAct H U) (rAct H U)) W
def rGate : FVec Ideal S2x2048x1024 .f32 :=
  broadcastInDim S2x2048x1024 ![0, 1, 2] bcast_S2x1x1024_S2x2048x1024_0_1_2 (broadcastInDim S2x1x1024 ![0, 2] bcast_S2x1024_S2x1x1024_0_2 A)
def rRes : FVec Ideal S2x2048x1024 .f32 := addf X (mulf (rGate A) (rMlp H U W))
end

section
variable (Z : FVec Ideal S2x2048x1024 .f32) (G : FVec Ideal S1024 .f32) (Y : FVec Ideal S2x2048x1024 .f32)

def rN1 : FVec Ideal S2x2048x1 .f32 := broadcastInDim S2x2048x1 ![] bcast_S_S2x2048x1 (constant S_ .f32 0x44800000#32)
def rMs : FVec Ideal S2x2048x1 .f32 :=
  addf (Host.divf (broadcastInDim S2x2048x1 ![0, 1] bcast_S2x2048_S2x2048x1_0_1
      (Host.reduceAdd (mulf Z Z) (constant S_ .f32 0x00000000#32) reducesTo_S2x2048x1024_S2x2048_d2 h_S_)) rN1)
    (broadcastInDim S2x2048x1 ![] bcast_S_S2x2048x1 (constant S_ .f32 0x358637BD#32))
def rInv : FVec Ideal S2x2048x1 .f32 := Host.rsqrt (rMs Z)
def rInvs : FVec Ideal S2x2048x1024 .f32 := broadcastInDim S2x2048x1024 ![0, 1, 2] bcast_S2x2048x1_S2x2048x1024_0_1_2 (rInv Z)
def rGains : FVec Ideal S2x2048x1024 .f32 :=
  broadcastInDim S2x2048x1024 ![0, 1, 2] bcast_S1x1x1024_S2x2048x1024_0_1_2 (broadcastInDim S1x1x1024 ![2] bcast_S1024_S1x1x1024_2 G)
def rErr : FVec Ideal S2x2048x1024 .f32 := subf (mulf (mulf Z (rInvs Z)) (rGains G)) Y
def rTok : FVec Ideal S2x2048 .f32 :=
  Host.divf (Host.reduceAdd (mulf (rErr Z G Y) (rErr Z G Y)) (constant S_ .f32 0x00000000#32) reducesTo_S2x2048x1024_S2x2048_d2 h_S_)
    (broadcastInDim S2x2048 ![] bcast_S_S2x2048 (constant S_ .f32 0x44800000#32))
def rLoss : FVec Ideal S8x128 .f32 :=
  broadcastInDim S8x128 ![] bcast_S_S8x128 (mulf (constant S_ .f32 0x3F000000#32)
    (Host.reduceAdd (rTok Z G Y) (constant S_ .f32 0x00000000#32) reducesTo_S2x2048_S_d0_1 h_S_))
def rDErr : FVec Ideal S2x2048x1024 .f32 :=
  mulf (broadcastInDim S2x2048x1024 ![0, 1] bcast_S2x2048_S2x2048x1024_0_1
      (Host.divf (broadcastInDim S2x2048 ![] bcast_S_S2x2048 (mulf (constant S_ .f32 0x3F000000#32) (constant S_ .f32 0x3F800000#32)))
        (broadcastInDim S2x2048 ![] bcast_S_S2x2048 (constant S_ .f32 0x44800000#32))))
    (mulf (broadcastInDim S2x2048x1024 ![] bcast_S_S2x2048x1024 (constant S_ .f32 0x40000000#32)) (rErr Z G Y))
def rGain0 : FVec Ideal S1024 .f32 :=
  Host.reduceAdd (mulf (mulf Z (rInvs Z)) (rDErr Z G Y)) (constant S_ .f32 0x00000000#32) reducesTo_S2x2048x1024_S1024_d0_1 h_S_
def rGain : FVec Ideal S1x1024 .f32 :=
  broadcastInDim S1x1024 ![1] bcast_S1024_S1x1024_1
    (Host.reduceAdd (shapeCast S1x1x1024 (rGain0 Z G Y) shapeCasts_S1024_S1x1x1024) (constant S_ .f32 0x00000000#32) reducesTo_S1x1x1024_S1024_d0_1 h_S_)
def rDIn : FVec Ideal S2x2048x1024 .f32 := mulf (rDErr Z G Y) (rGains G)
def rPull : FVec Ideal S2x2048x1 .f32 :=
  Host.divf (mulf (shapeCast S2x2048x1 (Host.reduceAdd (mulf Z (rDIn Z G Y)) (constant S_ .f32 0x00000000#32) reducesTo_S2x2048x1024_S2x2048_d2 h_S_) shapeCasts_S2x2048_S2x2048x1)
    (mulf (broadcastInDim S2x2048x1 ![] bcast_S_S2x2048x1 (constant S_ .f32 0xBF000000#32)) (Host.divf (rInv Z) (rMs Z)))) rN1
def rPulls : FVec Ideal S2x2048x1024 .f32 :=
  broadcastInDim S2x2048x1024 ![0, 1] bcast_S2x2048_S2x2048x1024_0_1
    (Host.reduceAdd (rPull Z G Y) (constant S_ .f32 0x00000000#32) reducesTo_S2x2048x1_S2x2048_d2 h_S_)
def rRow : FVec Ideal S2x2048x1024 .f32 := addf (addf (mulf (rDIn Z G Y) (rInvs Z)) (mulf Z (rPulls Z G Y))) (mulf (rPulls Z G Y) Z)

/-- A token's row of an array. -/
def tokRow (Z : FVec Ideal S2x2048x1024 .f32) (b : Fin 2) (s : Fin 2048) (k : Fin 1024) : EReal := Z (ix3 b s k)

theorem rMs_at (b : Fin 2) (s : Fin 2048) : rMs Z (ix3 b s 0) = ms (tokRow Z b s) := by
  pointwise [rMs, rN1]
  rfl
theorem rInv_at (b : Fin 2) (s : Fin 2048) : rInv Z (ix3 b s 0) = inv (tokRow Z b s) := by
  pointwise [rInv]
  rw [rMs_at]; rfl
theorem rInvs_at (b : Fin 2) (s : Fin 2048) (k : Fin 1024) : rInvs Z (ix3 b s k) = inv (tokRow Z b s) := by
  pointwise [rInvs]
  exact rInv_at Z b s
theorem rErr_at (b : Fin 2) (s : Fin 2048) (k : Fin 1024) : rErr Z G Y (ix3 b s k) = err (tokRow Z b s) (gain G) (tokRow Y b s) k := by
  pointwise [rErr, rGains]
  rw [rInvs_at]; rfl
theorem rTok_at (b : Fin 2) (s : Fin 2048) : rTok Z G Y (ix2 b s) = tok (tokRow Z b s) (gain G) (tokRow Y b s) := by
  pointwise [rTok]
  simp only [rErr_at]; rfl
theorem rDErr_at (b : Fin 2) (s : Fin 2048) (k : Fin 1024) : rDErr Z G Y (ix3 b s k) = dErr (tokRow Z b s) (gain G) (tokRow Y b s) k := by
  pointwise [rDErr]
  rw [rErr_at]; rfl
theorem rDIn_at (b : Fin 2) (s : Fin 2048) (k : Fin 1024) : rDIn Z G Y (ix3 b s k) = dErr (tokRow Z b s) (gain G) (tokRow Y b s) k * gain G k := by
  pointwise [rDIn, rGains]
  rw [rDErr_at]; rfl
theorem rPull_at (b : Fin 2) (s : Fin 2048) : rPull Z G Y (ix3 b s 0) = pull (tokRow Z b s) (gain G) (tokRow Y b s) := by
  pointwise [rPull, rN1]
  rw [rInv_at, rMs_at]
  simp only [rDIn_at]; rfl
theorem rPulls_at (b : Fin 2) (s : Fin 2048) (k : Fin 1024) : rPulls Z G Y (ix3 b s k) = pull (tokRow Z b s) (gain G) (tokRow Y b s) := by
  pointwise [rPulls]
  exact (Fin.sum_univ_one fun x => rPull Z G Y (ix3 b s x)).trans (rPull_at Z G Y b s)
theorem rRow_at (b : Fin 2) (s : Fin 2048) (k : Fin 1024) : rRow Z G Y (ix3 b s k) = dRow (tokRow Z b s) (gain G) (tokRow Y b s) k := by
  pointwise [rRow]
  rw [rDIn_at, rInvs_at, rPulls_at]; rfl
theorem rLoss_at (i : Fin 8) (j : Fin 128) :
    rLoss Z G Y (ix2 i j) = Ideal.ofBits .f32 0x3F000000#32 * ∑ b, ∑ s, tok (tokRow Z b s) (gain G) (tokRow Y b s) := by
  pointwise [rLoss]
  exact congrArg _ (Finset.sum_congr rfl fun b _ => Finset.sum_congr rfl fun s _ => rTok_at Z G Y b s)
theorem rGain0_at (k : Fin 1024) :
    rGain0 Z G Y (ix1 k) = ∑ b, ∑ s, tokRow Z b s k * inv (tokRow Z b s) * dErr (tokRow Z b s) (gain G) (tokRow Y b s) k := by
  refine (reduce_first_two _ _ _ k).trans ?_
  refine (congrArg (· + _) Ideal.ofBits_zero_f32).trans ((zero_add _).trans ?_)
  refine Finset.sum_congr rfl fun b _ => Finset.sum_congr rfl fun s _ => ?_
  pointwise
  rw [rDErr_at, rInvs_at]; rfl
theorem one_row (V : FVec Ideal S1024 .f32) (k : Fin 1024) :
    shapeCast S1x1x1024 V shapeCasts_S1024_S1x1x1024 (ix3 0 0 k) = V (ix1 k) := by
  pointwise
theorem rGain_at (k : Fin 1024) :
    rGain Z G Y (ix2 0 k) = ∑ b, ∑ s, tokRow Z b s k * inv (tokRow Z b s) * dErr (tokRow Z b s) (gain G) (tokRow Y b s) k := by
  pointwise [rGain]
  refine (reduce_first_two _ _ _ k).trans ?_
  refine (zero_add _).trans ?_
  rw [Fin.sum_univ_one, Fin.sum_univ_one]
  exact (one_row _ k).trans (rGain0_at Z G Y k)
end

section
variable (H : FVec Ideal S2x2048x1024 .f32) (U : FVec Ideal S1024x4096 .f32) (W : FVec Ideal S4096x1024 .f32) (X : FVec Ideal S2x2048x1024 .f32)
  (A : FVec Ideal S2x1024 .f32) (G : FVec Ideal S1024 .f32) (Y : FVec Ideal S2x2048x1024 .f32)

theorem rAct_at (b : Fin 2) (s : Fin 2048) (f : Fin 4096) : rAct H U (ix3 b s f) = act H U b s f := by
  pointwise [rAct]
  rfl
theorem rMlp_at (b : Fin 2) (s : Fin 2048) (k : Fin 1024) : rMlp H U W (ix3 b s k) = mlp H U W b s k := by
  pointwise [rMlp]
  simp only [rAct_at]; rfl
theorem rRes_row (b : Fin 2) (s : Fin 2048) : tokRow (rRes H U W X A) b s = res H U W X A b s := by
  funext k
  show rRes H U W X A (ix3 b s k) = _
  pointwise [rRes, rGate]
  rw [rMlp_at]; rfl

/-- The gradient of the residual stream. -/
def dX (b : Fin 2) (s : Fin 2048) (k : Fin 1024) : EReal := dRow (res H U W X A b s) (gain G) (goal Y b s) k

def rDX : FVec Ideal S2x2048x1024 .f32 := rRow (rRes H U W X A) G Y
def rDMlp : FVec Ideal S2x2048x1024 .f32 := mulf (rGate A) (rDX H U W X A G Y)
def rDA : FVec Ideal S2x1x1024 .f32 :=
  broadcastInDim S2x1x1024 ![0, 2] bcast_S2x1024_S2x1x1024_0_2
    (Host.reduceAdd (shapeCast S2x1x1024 (Host.reduceAdd (mulf (rDX H U W X A G Y) (rMlp H U W)) (constant S_ .f32 0x00000000#32) reducesTo_S2x2048x1024_S2x1024_d1 h_S_)
      shapeCasts_S2x1024_S2x1x1024) (constant S_ .f32 0x00000000#32) reducesTo_S2x1x1024_S2x1024_d1 h_S_)

theorem rDX_at (b : Fin 2) (s : Fin 2048) (k : Fin 1024) : rDX H U W X A G Y (ix3 b s k) = dX H U W X A G Y b s k :=
  (rRow_at _ G Y b s k).trans (by rw [rRes_row]; rfl)
theorem rDMlp_at (b : Fin 2) (s : Fin 2048) (k : Fin 1024) :
    rDMlp H U W X A G Y (ix3 b s k) = A (ix2 b k) * dX H U W X A G Y b s k := by
  pointwise [rDMlp, rGate]
  rw [rDX_at]
theorem rDA_at (b : Fin 2) (k : Fin 1024) :
    rDA H U W X A G Y (ix3 b 0 k) = ∑ s, dX H U W X A G Y b s k * mlp H U W b s k := by
  pointwise [rDA]
  simp only [rDX_at, rMlp_at]
  exact Fin.sum_univ_one fun _ : Fin 1 => ∑ s, dX H U W X A G Y b s k * mlp H U W b s k
end

section
variable (m : (ℓ : Loc nD τ sig) → Buf (Elt Ideal) ℓ) (c : Dev nD)

abbrev aH : FVec Ideal S2x2048x1024 .f32 := m ((c.tc : Thread nD τ).loc main_arg0)
abbrev aU : FVec Ideal S1024x4096 .f32 := m ((c.tc : Thread nD τ).loc main_arg1)
abbrev aW : FVec Ideal S4096x1024 .f32 := m ((c.tc : Thread nD τ).loc main_arg2)
abbrev aX : FVec Ideal S2x2048x1024 .f32 := m ((c.tc : Thread nD τ).loc main_arg3)
abbrev aA : FVec Ideal S2x1024 .f32 := m ((c.tc : Thread nD τ).loc main_arg4)
abbrev aG : FVec Ideal S1024 .f32 := m ((c.tc : Thread nD τ).loc main_arg5)
abbrev aY : FVec Ideal S2x2048x1024 .f32 := m ((c.tc : Thread nD τ).loc main_arg6)

theorem out0 : Value.res_out0 m c = rDX (aH m c) (aU m c) (aW m c) (aX m c) (aA m c) (aG m c) (aY m c) := by
  unfold Value.res_out0 Value.res_main_v58; rfl
theorem out1 : Value.res_out1 m c = rDMlp (aH m c) (aU m c) (aW m c) (aX m c) (aA m c) (aG m c) (aY m c) := by
  unfold Value.res_out1 Value.res_main_v65; rfl
theorem out3 : Value.res_out3 m c = rLoss (rRes (aH m c) (aU m c) (aW m c) (aX m c) (aA m c)) (aG m c) (aY m c) := by
  unfold Value.res_out3 Value.res_main_v67; rfl
theorem out4 : Value.res_out4 m c = rDA (aH m c) (aU m c) (aW m c) (aX m c) (aA m c) (aG m c) (aY m c) := by
  unfold Value.res_out4 Value.res_main_v68; rfl
theorem out5 : Value.res_out5 m c = rGain (rRes (aH m c) (aU m c) (aW m c) (aX m c) (aA m c)) (aG m c) (aY m c) := by
  unfold Value.res_out5 Value.res_main_v69; rfl
end

end Cert.Reference4Ideal.Loss

end
-- ==== Proof.LossTile.lean ====
module

public import proofs.«01_k».proof.Proof.LossKer
public import proofs.«01_k».proof.Proof.LossRef
public import Idealize.ShloMosaic.Lib.Pipeline.ReadBack

/-! The call with the loss: the arguments' blocks, and a point's tile as rows of the reference. -/

@[expose] public section

set_option maxRecDepth 16384

noncomputable section

namespace Cert.Kernel4Ideal.Loss

open Cert.Kernel4Ideal Cert.Kernel4Ideal.Gen Idealize.ShloMosaic Idealize.ShloMosaic.TcCoe Idealize.SL.Sem Cert.Loss
open Cert.Reference4Ideal.Loss (act mlp res gain goal dX)

variable (m : (ℓ : Loc nD τ sig) → Buf (Elt Ideal) ℓ) (c : Dev nD)

abbrev aH : FVec Ideal S2x2048x1024 .f32 := m ((c.tc : Thread nD τ).loc main_arg0)
abbrev aU : FVec Ideal S1024x4096 .f32 := m ((c.tc : Thread nD τ).loc main_arg1)
abbrev aW : FVec Ideal S4096x1024 .f32 := m ((c.tc : Thread nD τ).loc main_arg2)
abbrev aX : FVec Ideal S2x2048x1024 .f32 := m ((c.tc : Thread nD τ).loc main_arg3)
abbrev aA : FVec Ideal S2x1024 .f32 := m ((c.tc : Thread nD τ).loc main_arg4)
abbrev aG : FVec Ideal S1024 .f32 := m ((c.tc : Thread nD τ).loc main_arg5)
abbrev aY : FVec Ideal S2x2048x1024 .f32 := m ((c.tc : Thread nD τ).loc main_arg6)

/-- The first weight turned, the gate in its row of the eight, and the gain as a row. -/
def kU (U : FVec Ideal S1024x4096 .f32) : FVec Ideal S4096x1024 .f32 := transpose S4096x1024 [1, 0] U transposes_S1024x4096_S4096x1024_1_0
def kA (A : FVec Ideal S2x1024 .f32) : FVec Ideal S2x8x1024 .f32 :=
  concatenate S2x8x1024 1 [⟨S2x5x1024, broadcastInDim S2x5x1024 ![] bcast_S_S2x5x1024 (constant S_ .f32 0x00000000#32 : FVec Ideal S_ .f32)⟩,
    ⟨S2x1x1024, broadcastInDim S2x1x1024 ![0, 2] bcast_S2x1024_S2x1x1024_0_2 A⟩,
    ⟨S2x2x1024, broadcastInDim S2x2x1024 ![] bcast_S_S2x2x1024 (constant S_ .f32 0x00000000#32 : FVec Ideal S_ .f32)⟩] concatenates_S2x5x1024_S2x1x1024_S2x2x1024_S2x8x1024_d1
def kG (G : FVec Ideal S1024 .f32) : FVec Ideal S1x1024 .f32 := shapeCast S1x1024 G shapeCasts_S1024_S1x1024

theorem kU_at (U : FVec Ideal S1024x4096 .f32) (f : Fin 4096) (k : Fin 1024) : kU U (ix2 f k) = U (ix2 k f) := by pointwise [kU]
theorem kA_at (A : FVec Ideal S2x1024 .f32) (b : Fin 2) (k : Fin 1024) : kA A (ix3 b 5 k) = A (ix2 b k) := by pointwise [kA]
theorem kG_at (G : FVec Ideal S1024 .f32) (k : Fin 1024) : kG G (ix2 0 k) = G (ix1 k) := by pointwise [kG]

theorem v_h : V m c main_v4 = aH m c := by unfold V; after_reads_simp; rfl
theorem v_u : V m c main_v6 = kU (aU m c) := by unfold V; after_reads_simp; rfl
theorem v_w : V m c main_v7 = aW m c := by unfold V; after_reads_simp; rfl
theorem v_a : V m c main_v3 = kA (aA m c) := by unfold V; after_reads_simp; rfl
theorem v_g : V m c main_v8 = kG (aG m c) := by unfold V; after_reads_simp; rfl

theorem blk0 (t : Fin cfg0.N) : iblk m c 0 t = fun y : S1x512x1024.Idx => aH m c (ix3 (bt t) (st t (y 1)) (y 2)) :=
  (congrArg (fun X => ((cfg0.win 0).blk t).view.read (Elt Ideal) X) (v_h m c)).trans (read0 _ t)
theorem blk1 (t : Fin cfg0.N) : iblk m c 1 t = fun y : S1x512x1024.Idx => aX m c (ix3 (bt t) (st t (y 1)) (y 2)) := by
  rw [← read1]; unfold iblk V; after_reads_simp
theorem blk2 (t : Fin cfg0.N) : iblk m c 2 t = fun y : S1x8x1024.Idx => kA (aA m c) (ix3 (bt t) (y 1) (y 2)) :=
  (congrArg (fun X => ((cfg0.win 2).blk t).view.read (Elt Ideal) X) (v_a m c)).trans (read2 _ t)
theorem blk3 (t : Fin cfg0.N) : iblk m c 3 t = fun y : S1x1024.Idx => kG (aG m c) (ix2 (y 0) (y 1)) :=
  (congrArg (fun X => ((cfg0.win 3).blk t).view.read (Elt Ideal) X) (v_g m c)).trans (read3 _ t)
theorem blk4 (t : Fin cfg0.N) : iblk m c 4 t = fun y : S1x512x1024.Idx => aY m c (ix3 (bt t) (st t (y 1)) (y 2)) := by
  rw [← read4]; unfold iblk V; after_reads_simp

/-- The two halves of a weight. -/
def lo (X : Vec Ideal S4096x1024 .bf16) : Vec Ideal S2048x1024 .bf16 := View.ld X (Rect.unit ![0, 0] ![2048, 1024] inb_S4096x1024_S2048x1024_0_0)
def hi (X : Vec Ideal S4096x1024 .bf16) : Vec Ideal S2048x1024 .bf16 := View.ld X (Rect.unit ![2048, 0] ![2048, 1024] inb_S4096x1024_S2048x1024_2048_0)

theorem lo_at (X : Vec Ideal S4096x1024 .bf16) (f : Fin 2048) (k : Fin 1024) : lo X (ix2 f k) = X (ix2 ⟨f, by omega⟩ k) := by
  unfold lo; rw [View.ld_unit]; pointwise
theorem hi_at (X : Vec Ideal S4096x1024 .bf16) (f : Fin 2048) (k : Fin 1024) : hi X (ix2 f k) = X (ix2 ⟨2048 + f, by omega⟩ k) := by
  unfold hi; rw [View.ld_unit]; pointwise

/-- What a point computes with: the MLP's two halves, the gate, the rows, the gain and the target. -/
abbrev tU : Vec Ideal S4096x1024 .bf16 := kU (aU m c)
abbrev tW : Vec Ideal S4096x1024 .bf16 := aW m c
def tA (t : Fin cfg0.N) : FVec Ideal S512x1024 .f32 := k0_pay10 (iblk m c 0 t) (lo (tU m c)) (lo (tW m c))
def tB : Vec Ideal S2048x1024 .bf16 := hi (tW m c)
def tD (t : Fin cfg0.N) : FVec Ideal S512x2048 .bf16 := k0_pay13 (iblk m c 0 t) (hi (tU m c))
def tE (t : Fin cfg0.N) : Vec Ideal S1x1x1024 .f32 := View.ld (iblk m c 2 t) (Rect.unit ![0, 5, 0] ![1, 1, 1024] inb_S1x8x1024_S1x1x1024_0_5_0)

theorem tE_at (t : Fin cfg0.N) (k : Fin 1024) : tE m c t (ix3 0 0 k) = aA m c (ix2 (bt t) k) := by
  have h : ∀ X : Vec Ideal S1x8x1024 .f32, View.ld X (Rect.unit ![0, 5, 0] ![1, 1, 1024] inb_S1x8x1024_S1x1x1024_0_5_0) (ix3 0 0 k) = X (ix3 0 5 k) := fun X => by
    rw [View.ld_unit]; pointwise
  exact (h _).trans ((congrFun (blk2 m c t) _).trans (kA_at _ _ _))

theorem act_lo (t : Fin cfg0.N) (r : Fin 512) (f : Fin 2048) :
    k0_pay8 (iblk m c 0 t) (lo (tU m c)) (ix2 r f) = act (aH m c) (aU m c) (bt t) (st t r) ⟨f, by omega⟩ := by
  rw [pay8_at, blk0]
  exact congrArg (fun z => max z 0) (Finset.sum_congr rfl fun k _ => congrArg _ ((lo_at _ _ _).trans (kU_at _ _ _)))
theorem act_hi (t : Fin cfg0.N) (r : Fin 512) (f : Fin 2048) :
    k0_pay8 (iblk m c 0 t) (hi (tU m c)) (ix2 r f) = act (aH m c) (aU m c) (bt t) (st t r) ⟨2048 + f, by omega⟩ := by
  rw [pay8_at, blk0]
  exact congrArg (fun z => max z 0) (Finset.sum_congr rfl fun k _ => congrArg _ ((hi_at _ _ _).trans (kU_at _ _ _)))

theorem mlp_tile (t : Fin cfg0.N) (r : Fin 512) (k : Fin 1024) :
    k0_pay14 (tA m c t) (tB m c) (tD m c t) (ix2 r k) = mlp (aH m c) (aU m c) (aW m c) (bt t) (st t r) k := by
  refine (pay14_at _ _ _ _ _ r k).trans ?_
  refine Eq.trans ?_ (Fin.sum_univ_add (a := 2048) (b := 2048)
    (fun f : Fin (2048 + 2048) => act (aH m c) (aU m c) (bt t) (st t r) f * act (aH m c) (aU m c) (bt t) (st t r) f * aW m c (ix2 f k))).symm
  refine congrArg₂ _ (Finset.sum_congr rfl fun f _ => ?_) (Finset.sum_congr rfl fun f _ => ?_)
  · rw [act_lo, lo_at]; rfl
  · rw [act_hi]; exact congrArg _ (hi_at _ _ _)

theorem row_tile (t : Fin cfg0.N) (r : Fin 512) : rowOf (tA m c t) (tB m c) (tD m c t) (tE m c t) (iblk m c 1 t) r
    = res (aH m c) (aU m c) (aW m c) (aX m c) (aA m c) (bt t) (st t r) := by
  funext k
  refine (pay17_at _ _ _ _ _ r k).trans ?_
  rw [mlp_tile, tE_at, blk1]; rfl
theorem gain_tile (t : Fin cfg0.N) : gainOf (iblk m c 3 t) = gain (aG m c) := by
  funext k
  exact (congrFun (blk3 m c t) _).trans (kG_at _ _)
theorem goal_tile (t : Fin cfg0.N) (r : Fin 512) : goalOf (iblk m c 4 t) r = goal (aY m c) (bt t) (st t r) := by
  funext k
  exact congrFun (blk4 m c t) _

/-- The gradient of the point's rows. -/
theorem grad_tile (t : Fin cfg0.N) (r : Fin 512) (k : Fin 1024) :
    dTile (tA m c t) (tB m c) (tD m c t) (tE m c t) (iblk m c 1 t) (iblk m c 3 t) (iblk m c 4 t) (ix2 r k)
      = dX (aH m c) (aU m c) (aW m c) (aX m c) (aA m c) (aG m c) (aY m c) (bt t) (st t r) k := by
  refine (dTile_at _ _ _ _ _ _ _ r k).trans ?_
  rw [row_tile, gain_tile, goal_tile]; rfl

end Cert.Kernel4Ideal.Loss

end
-- ==== Proof.LossFin.lean ====
module

public import proofs.«01_k».proof.Proof.LossTile

/-! The call with the loss: what each point leaves. -/

@[expose] public section

set_option maxRecDepth 16384

noncomputable section

namespace Cert.Kernel4Ideal.Loss

open Cert.Kernel4Ideal Cert.Kernel4Ideal.Gen Idealize.ShloMosaic Idealize.ShloMosaic.TcCoe Idealize.SL.Sem Cert.Loss
open Cert.Reference4Ideal.Loss (act mlp res gain goal dX)

variable (m : (ℓ : Loc nD τ sig) → Buf (Elt Ideal) ℓ) (c : Dev nD)

theorem lt8 (t : Fin cfg0.N) : t.val < 8 := t.isLt

/-- The two weights lie in the scratch from the first point on. -/
theorem first_w (t : Fin cfg0.N) (h : t.val % 8 = 0) :
    (outsAt0 m c t.val t.isLt).2.2.2.2.2.2.1 = tU m c ∧ (outsAt0 m c t.val t.isLt).2.2.2.2.2.2.2 = tW m c := by
  have := lt8 t
  rw [outsAt0_A m c t h h (by omega) h (by omega) (by omega) (by omega)]
  constructor
  · funext j; frame_out
    refine (congrFun (View.canon_cons_unit_lit _ _ _ fun a => rfl) j).trans ?_
    exact congrFun (v_u m c) j
  · funext j; frame_out
    refine (congrFun (View.canon_cons_unit_lit _ _ _ fun a => rfl) j).trans ?_
    exact congrFun (v_w m c) j

theorem next_w (t : Fin cfg0.N) (h : ¬t.val % 8 = 0) (l : t.val - 1 < cfg0.N) :
    (outsAt0 m c t.val t.isLt).2.2.2.2.2.2.1 = (outsAt0 m c (t.val - 1) l).2.2.2.2.2.2.1
      ∧ (outsAt0 m c t.val t.isLt).2.2.2.2.2.2.2 = (outsAt0 m c (t.val - 1) l).2.2.2.2.2.2.2 := by
  have := lt8 t
  by_cases h4 : t.val % 4 = 0
  · rw [outsAt0_C m c t h h (by omega) h (by omega) h4 (by omega)]; exact ⟨rfl, rfl⟩
  · rw [outsAt0_B m c t h h (by omega) h (by omega) h4 (by omega)]; exact ⟨rfl, rfl⟩

theorem kept_w : ∀ (n : ℕ) (l : n < cfg0.N), (outsAt0 m c n l).2.2.2.2.2.2.1 = tU m c ∧ (outsAt0 m c n l).2.2.2.2.2.2.2 = tW m c
  | 0, l => first_w m c ⟨0, l⟩ rfl
  | n + 1, l => by
    have h8 : n + 1 < 8 := l
    obtain ⟨a, b⟩ := next_w m c ⟨n + 1, l⟩ (by show ¬(n + 1) % 8 = 0; omega) (Nat.lt_of_succ_lt l)
    obtain ⟨a', b'⟩ := kept_w n (Nat.lt_of_succ_lt l)
    exact ⟨a.trans a', b.trans b'⟩

/-- The rows after the MLP at a point. -/
def pMlp (t : Fin cfg0.N) : FVec Ideal S512x1024 .f32 := k0_pay14 (tA m c t) (tB m c) (tD m c t)
def pRow (t : Fin cfg0.N) : FVec Ideal S512x1024 .f32 := k0_pay17 (tA m c t) (tB m c) (tD m c t) (tE m c t) (iblk m c 1 t)
def pInv (t : Fin cfg0.N) : FVec Ideal S512x1 .f32 := k0_pay19 (tA m c t) (tB m c) (tD m c t) (tE m c t) (iblk m c 1 t)
def pSlope (t : Fin cfg0.N) : FVec Ideal S512x1 .f32 := k0_pay20 (tA m c t) (tB m c) (tD m c t) (tE m c t) (iblk m c 1 t)
def pErr (t : Fin cfg0.N) : FVec Ideal S512x1024 .f32 := k0_pay23 (tA m c t) (tB m c) (tD m c t) (tE m c t) (iblk m c 1 t) (iblk m c 3 t) (iblk m c 4 t)

theorem fill_u_lo (X : Vec Ideal S4096x1024 .bf16) :
    (View.whole cc0_scratch0).readCov [⟨Rect.whole S4096x1024, ReadAs.same.apply (View.read (Elt Ideal) (View.whole main_v6) X)⟩]
      (Rect.unit ![0, 0] ![2048, 1024] inb_S4096x1024_S2048x1024_0_0).toLoadRect = lo X := View.readCov_fill _ _ _ _ _ fun a => rfl
theorem fill_u_hi (X : Vec Ideal S4096x1024 .bf16) :
    (View.whole cc0_scratch0).readCov [⟨Rect.whole S4096x1024, ReadAs.same.apply (View.read (Elt Ideal) (View.whole main_v6) X)⟩]
      (Rect.unit ![2048, 0] ![2048, 1024] inb_S4096x1024_S2048x1024_2048_0).toLoadRect = hi X := View.readCov_fill _ _ _ _ _ fun a => rfl
theorem fill_w_lo (X : Vec Ideal S4096x1024 .bf16) :
    (View.whole cc0_scratch1).readCov [⟨Rect.whole S4096x1024, ReadAs.same.apply (View.read (Elt Ideal) (View.whole main_v7) X)⟩]
      (Rect.unit ![0, 0] ![2048, 1024] inb_S4096x1024_S2048x1024_0_0).toLoadRect = lo X := View.readCov_fill _ _ _ _ _ fun a => rfl
theorem fill_w_hi (X : Vec Ideal S4096x1024 .bf16) :
    (View.whole cc0_scratch1).readCov [⟨Rect.whole S4096x1024, ReadAs.same.apply (View.read (Elt Ideal) (View.whole main_v7) X)⟩]
      (Rect.unit ![2048, 0] ![2048, 1024] inb_S4096x1024_S2048x1024_2048_0).toLoadRect = hi X := View.readCov_fill _ _ _ _ _ fun a => rfl

/-- The point's parts of the loss and of the gradients of the gate and the gain. -/
def pLoss (t : Fin cfg0.N) : FVec Ideal S1x1 .f32 :=
  k0_pay26 (k0_pay24 (tA m c t) (tB m c) (tD m c t) (tE m c t) (iblk m c 1 t) (iblk m c 3 t) (iblk m c 4 t)) k0_pay25
def pGate (t : Fin cfg0.N) : FVec Ideal S1x1024 .f32 :=
  k0_pay30 (pMlp m c t) (k0_pay16 (iblk m c 3 t)) (pRow m c t) (pInv m c t) (pSlope m c t) (pErr m c t)
def pGain (t : Fin cfg0.N) : FVec Ideal S1x1024 .f32 :=
  k0_pay28 (k0_pay21 (tA m c t) (tB m c) (tD m c t) (tE m c t) (iblk m c 1 t)) (pErr m c t)

theorem key5 (t : Fin cfg0.N) : (outsAt0 m c t.val t.isLt).1 = k0_pay31 (k0_pay16 (iblk m c 3 t)) (pRow m c t) (pInv m c t) (pSlope m c t) (pErr m c t) := by
  have := lt8 t
  by_cases h : t.val % 8 = 0
  · rw [outsAt0_A m c t h h (by omega) h (by omega) (by omega) (by omega)]
    funext j; frame_out
    rw [fill_u_lo, fill_u_hi, fill_w_lo, fill_w_hi, v_u, v_w]
    rfl
  · have e := kept_w m c (t.val - 1) (lt_of_le_of_lt (Nat.sub_le _ _) t.isLt)
    by_cases h4 : t.val % 4 = 0
    · rw [outsAt0_C m c t h h (by omega) h (by omega) h4 (by omega)]
      funext j; frame_out
      simp only [read_unread_whole]
      rw [e.1, e.2]
      rfl
    · rw [outsAt0_B m c t h h (by omega) h (by omega) h4 (by omega)]
      funext j; frame_out
      simp only [read_unread_whole]
      rw [e.1, e.2]
      rfl

theorem key6 (t : Fin cfg0.N) : (outsAt0 m c t.val t.isLt).2.1 = k0_pay1 (k0_pay32 (k0_pay15 (tE m c t)) (k0_pay16 (iblk m c 3 t)) (pRow m c t) (pInv m c t) (pSlope m c t) (pErr m c t)) := by
  have := lt8 t
  by_cases h : t.val % 8 = 0
  · rw [outsAt0_A m c t h h (by omega) h (by omega) (by omega) (by omega)]
    funext j; frame_out
    rw [fill_u_lo, fill_u_hi, fill_w_lo, fill_w_hi, v_u, v_w]
    rfl
  · have e := kept_w m c (t.val - 1) (lt_of_le_of_lt (Nat.sub_le _ _) t.isLt)
    by_cases h4 : t.val % 4 = 0
    · rw [outsAt0_C m c t h h (by omega) h (by omega) h4 (by omega)]
      funext j; frame_out
      simp only [read_unread_whole]
      rw [e.1, e.2]
      rfl
    · rw [outsAt0_B m c t h h (by omega) h (by omega) h4 (by omega)]
      funext j; frame_out
      simp only [read_unread_whole]
      rw [e.1, e.2]
      rfl

/-- The relu of the point's rows, stored in two halves. -/
def pAct (t : Fin cfg0.N) : Vec Ideal S1x512x4096 .bf16 :=
  View.canon [⟨Rect.unit ![0, 0, 2048] ![1, 512, 2048] inb_S1x512x4096_S1x512x2048_0_0_2048, k0_pay12 (iblk m c 0 t) (hi (tU m c))⟩,
    ⟨Rect.unit ![0, 0, 0] ![1, 512, 2048] inb_S1x512x4096_S1x512x2048_0_0_0, k0_pay9 (iblk m c 0 t) (lo (tU m c))⟩]

theorem key7 (t : Fin cfg0.N) : (outsAt0 m c t.val t.isLt).2.2.1 = pAct m c t := by
  have := lt8 t
  by_cases h : t.val % 8 = 0
  · rw [outsAt0_A m c t h h (by omega) h (by omega) (by omega) (by omega)]
    funext j; frame_out
    rw [fill_u_lo, fill_u_hi, v_u]
  · have e := kept_w m c (t.val - 1) (lt_of_le_of_lt (Nat.sub_le _ _) t.isLt)
    by_cases h4 : t.val % 4 = 0
    · rw [outsAt0_C m c t h h (by omega) h (by omega) h4 (by omega)]
      funext j; frame_out
      simp only [read_unread_whole]
      rw [e.1]
      rfl
    · rw [outsAt0_B m c t h h (by omega) h (by omega) h4 (by omega)]
      funext j; frame_out
      simp only [read_unread_whole]
      rw [e.1]
      rfl

theorem first8 (t : Fin cfg0.N) (h : t.val % 8 = 0) : (outsAt0 m c t.val t.isLt).2.2.2.1 = k0_pay2 (pLoss m c t) := by
  have := lt8 t
  rw [outsAt0_A m c t h h (by omega) h (by omega) (by omega) (by omega)]
  funext j; frame_out
  rw [fill_u_lo, fill_u_hi, fill_w_lo, fill_w_hi, v_u, v_w]
  rfl

theorem step8 (t : Fin cfg0.N) (h : ¬t.val % 8 = 0) (l : t.val - 1 < cfg0.N) : (outsAt0 m c t.val t.isLt).2.2.2.1 = k0_pay3 (pLoss m c t) ((outsAt0 m c (t.val - 1) l).2.2.2.1) := by
  have := lt8 t
  have e := kept_w m c (t.val - 1) l
  by_cases h4 : t.val % 4 = 0
  · rw [outsAt0_C m c t h h (by omega) h (by omega) h4 (by omega)]
    funext j; frame_out
    simp only [read_unread_whole]
    rw [e.1, e.2]
    rfl
  · rw [outsAt0_B m c t h h (by omega) h (by omega) h4 (by omega)]
    funext j; frame_out
    simp only [read_unread_whole]
    rw [e.1, e.2]
    rfl

theorem first10 (t : Fin cfg0.N) (h : t.val % 8 = 0) : (outsAt0 m c t.val t.isLt).2.2.2.2.2.1 = pGain m c t := by
  have := lt8 t
  rw [outsAt0_A m c t h h (by omega) h (by omega) (by omega) (by omega)]
  funext j; frame_out
  rw [fill_u_lo, fill_u_hi, fill_w_lo, fill_w_hi, v_u, v_w]
  rfl

theorem step10 (t : Fin cfg0.N) (h : ¬t.val % 8 = 0) (l : t.val - 1 < cfg0.N) : (outsAt0 m c t.val t.isLt).2.2.2.2.2.1 = k0_pay4 (pGain m c t) ((outsAt0 m c (t.val - 1) l).2.2.2.2.2.1) := by
  have := lt8 t
  have e := kept_w m c (t.val - 1) l
  by_cases h4 : t.val % 4 = 0
  · rw [outsAt0_C m c t h h (by omega) h (by omega) h4 (by omega)]
    funext j; frame_out
    simp only [read_unread_whole]
    rw [e.1, e.2]
    rfl
  · rw [outsAt0_B m c t h h (by omega) h (by omega) h4 (by omega)]
    funext j; frame_out
    simp only [read_unread_whole]
    rw [e.1, e.2]
    rfl

theorem first9 (t : Fin cfg0.N) (h4 : t.val % 4 = 0) : (outsAt0 m c t.val t.isLt).2.2.2.2.1 = k0_pay5 (pGate m c t) := by
  have := lt8 t
  by_cases h : t.val % 8 = 0
  · rw [outsAt0_A m c t h h (by omega) h (by omega) (by omega) (by omega)]
    funext j; frame_out
    rw [fill_u_lo, fill_u_hi, fill_w_lo, fill_w_hi, v_u, v_w]
    rfl
  · have e := kept_w m c (t.val - 1) (lt_of_le_of_lt (Nat.sub_le _ _) t.isLt)
    rw [outsAt0_C m c t h h (by omega) h (by omega) h4 (by omega)]
    funext j; frame_out
    simp only [read_unread_whole]
    rw [e.1, e.2]
    rfl

theorem step9 (t : Fin cfg0.N) (h4 : ¬t.val % 4 = 0) (l : t.val - 1 < cfg0.N) :
    (outsAt0 m c t.val t.isLt).2.2.2.2.1 = k0_pay6 (pGate m c t) ((outsAt0 m c (t.val - 1) l).2.2.2.2.1) := by
  have := lt8 t
  have h : ¬t.val % 8 = 0 := by omega
  have e := kept_w m c (t.val - 1) l
  rw [outsAt0_B m c t h h (by omega) h (by omega) h4 (by omega)]
  funext j; frame_out
  simp only [read_unread_whole]
  rw [e.1, e.2]
  rfl

end Cert.Kernel4Ideal.Loss

end
-- ==== Proof.LossOut.lean ====
module

public import proofs.«01_k».proof.Proof.LossFin
public import Idealize.ShloMosaic.Lib.Claim

/-! The call with the loss: the arrays that it leaves. -/

@[expose] public section

set_option maxRecDepth 16384

noncomputable section

namespace Cert.Kernel4Ideal.Loss

open Cert.Kernel4Ideal Cert.Kernel4Ideal.Gen Idealize.ShloMosaic Idealize.ShloMosaic.TcCoe Idealize.SL.Sem Cert.Loss
open Cert.Reference4Ideal.Loss (act mlp res gain goal dX)

variable (m : (ℓ : Loc nD τ sig) → Buf (Elt Ideal) ℓ) (c : Dev nD)

/-- The results, at a token or a column. -/
abbrev yX (b : Fin 2) (s : Fin 2048) (k : Fin 1024) : EReal := dX (aH m c) (aU m c) (aW m c) (aX m c) (aA m c) (aG m c) (aY m c) b s k
abbrev yRow (b : Fin 2) (s : Fin 2048) : Fin 1024 → EReal := res (aH m c) (aU m c) (aW m c) (aX m c) (aA m c) b s
abbrev yTok (b : Fin 2) (s : Fin 2048) : EReal := tok (yRow m c b s) (gain (aG m c)) (goal (aY m c) b s)
abbrev yGate (b : Fin 2) (k : Fin 1024) (s : Fin 2048) : EReal := yX m c b s k * mlp (aH m c) (aU m c) (aW m c) b s k
abbrev yGain (k : Fin 1024) (b : Fin 2) (s : Fin 2048) : EReal :=
  yRow m c b s k * inv (yRow m c b s) * dErr (yRow m c b s) (gain (aG m c)) (goal (aY m c) b s) k

theorem point5 (t : Fin cfg0.N) (r : Fin 512) (k : Fin 1024) :
    k0_pay31 (k0_pay16 (iblk m c 3 t)) (pRow m c t) (pInv m c t) (pSlope m c t) (pErr m c t) (ix3 0 r k) = yX m c (bt t) (st t r) k :=
  (pay31_at _ _ _ _ _ _ _ r k).trans (grad_tile m c t r k)
theorem point6 (t : Fin cfg0.N) (r : Fin 512) (k : Fin 1024) :
    k0_pay1 (k0_pay32 (k0_pay15 (tE m c t)) (k0_pay16 (iblk m c 3 t)) (pRow m c t) (pInv m c t) (pSlope m c t) (pErr m c t)) (ix3 0 r k)
      = aA m c (ix2 (bt t) k) * yX m c (bt t) (st t r) k :=
  (pay32_at _ _ _ _ _ _ _ r k).trans (congrArg₂ _ (tE_at m c t k) (grad_tile m c t r k))
theorem point8 (t : Fin cfg0.N) : pLoss m c t (ix2 0 0) = Ideal.ofBits .f32 0x3F000000#32 * ∑ r, yTok m c (bt t) (st t r) := by
  have e : pLoss m c t (ix2 0 0) = Ideal.ofBits .f32 0x3F000000#32
      * k0_pay24 (tA m c t) (tB m c) (tD m c t) (tE m c t) (iblk m c 1 t) (iblk m c 3 t) (iblk m c 4 t) (ix2 0 0) := by
    unfold pLoss
    generalize k0_pay24 (tA m c t) (tB m c) (tD m c t) (tE m c t) (iblk m c 1 t) (iblk m c 3 t) (iblk m c 4 t) = X
    pointwise [k0_pay26, k0_pay25]
  rw [e, pay24_at]
  exact congrArg _ (Finset.sum_congr rfl fun r _ => by rw [row_tile, gain_tile, goal_tile])
theorem point9 (t : Fin cfg0.N) (k : Fin 1024) : pGate m c t (ix2 0 k) = ∑ r, yGate m c (bt t) k (st t r) :=
  (pay30_at _ _ _ _ _ _ _ k).trans (Finset.sum_congr rfl fun r _ => congrArg₂ _ (grad_tile m c t r k) (mlp_tile m c t r k))
theorem point10 (t : Fin cfg0.N) (k : Fin 1024) : pGain m c t (ix2 0 k) = ∑ r, yGain m c k (bt t) (st t r) :=
  (pay28_at _ _ _ _ _ _ _ k).trans (Finset.sum_congr rfl fun r _ => by rw [row_tile, gain_tile, goal_tile])

/-- Both halves of the stored relu. -/
theorem point7 (t : Fin cfg0.N) (r : Fin 512) (f : Fin 4096) : pAct m c t (ix3 0 r f) = act (aH m c) (aU m c) (bt t) (st t r) f := by
  unfold pAct
  by_cases hf : f.val < 2048
  · rw [View.canon_cons_of_not_mem _ _ (by
      rw [Rect.mem_set_unit]
      intro hm
      have := (hm 2).1
      exact absurd (show 2048 ≤ f.val from this) (by omega))]
    have e : (ix3 0 r f : S1x512x4096.Idx) = (Rect.unit ![0, 0, 0] ![1, 512, 2048] inb_S1x512x4096_S1x512x2048_0_0_0 : Rect S1x512x4096).emb (ix3 0 r (⟨f.val, hf⟩ : Fin 2048)) := by
      funext a
      match a with
      | ⟨0, _⟩ => rfl
      | ⟨1, _⟩ => exact Fin.ext (by show r.val = 0 + 1 * r.val; omega)
      | ⟨2, _⟩ => exact Fin.ext (by show f.val = 0 + 1 * f.val; omega)
    rw [e, View.canon_cons_emb]
    exact (pay9_at _ _ r _).trans (act_lo m c t r _)
  · have e : (ix3 0 r f : S1x512x4096.Idx) = (Rect.unit ![0, 0, 2048] ![1, 512, 2048] inb_S1x512x4096_S1x512x2048_0_0_2048 : Rect S1x512x4096).emb (ix3 0 r (⟨f.val - 2048, by omega⟩ : Fin 2048)) := by
      funext a
      match a with
      | ⟨0, _⟩ => rfl
      | ⟨1, _⟩ => exact Fin.ext (by show r.val = 0 + 1 * r.val; omega)
      | ⟨2, _⟩ => exact Fin.ext (by show f.val = 2048 + 1 * (f.val - 2048); omega)
    rw [e, View.canon_cons_emb]
    refine ((pay12_at _ _ r _).trans (act_hi m c t r _)).trans ?_
    exact congrArg _ (Fin.ext (by show 2048 + (f.val - 2048) = f.val; omega))

theorem final5 : (dats m 0 c).arrAt 5 (cfgs 0).N = fun x : S2x2048x1024.Idx => yX m c (x 0) (x 1) (x 2) := by
  refine (dats m 0 c).arrAt_eq_of_covers 5 _ (by decide +kernel) fun t hf y => ?_
  blk_simp
  rw [after0_5]
  refine Eq.trans ?_ (congrFun (read5 (fun x => yX m c (x 0) (x 1) (x 2)) t) y).symm
  rw [key5]
  have one : ∀ y : S1x512x1024.Idx, k0_pay31 (k0_pay16 (iblk m c 3 t)) (pRow m c t) (pInv m c t) (pSlope m c t) (pErr m c t) y
      = yX m c (bt t) (st t (y 1)) (y 2) := fun y => by
    idx_vars y
    rw [Fin.eq_zero y0]
    exact point5 m c t y1 y2
  exact one y

theorem final6 : (dats m 0 c).arrAt 6 (cfgs 0).N = fun x : S2x2048x1024.Idx => aA m c (ix2 (x 0) (x 2)) * yX m c (x 0) (x 1) (x 2) := by
  refine (dats m 0 c).arrAt_eq_of_covers 6 _ (by decide +kernel) fun t hf y => ?_
  blk_simp
  rw [after0_6]
  refine Eq.trans ?_ (congrFun (read6 (fun x => aA m c (ix2 (x 0) (x 2)) * yX m c (x 0) (x 1) (x 2)) t) y).symm
  rw [key6]
  have one : ∀ y : S1x512x1024.Idx,
      k0_pay1 (k0_pay32 (k0_pay15 (tE m c t)) (k0_pay16 (iblk m c 3 t)) (pRow m c t) (pInv m c t) (pSlope m c t) (pErr m c t)) y
        = aA m c (ix2 (bt t) (y 2)) * yX m c (bt t) (st t (y 1)) (y 2) := fun y => by
    idx_vars y
    rw [Fin.eq_zero y0]
    exact point6 m c t y1 y2
  exact one y

theorem final7 : (dats m 0 c).arrAt 7 (cfgs 0).N = fun x : S2x2048x4096.Idx => act (aH m c) (aU m c) (x 0) (x 1) (x 2) := by
  refine (dats m 0 c).arrAt_eq_of_covers 7 _ (by decide +kernel) fun t hf y => ?_
  blk_simp
  rw [after0_7]
  refine Eq.trans ?_ (congrFun (read7 (fun x => act (aH m c) (aU m c) (x 0) (x 1) (x 2)) t) y).symm
  rw [key7]
  have one : ∀ y : S1x512x4096.Idx, pAct m c t y = act (aH m c) (aU m c) (bt t) (st t (y 1)) (y 2) := fun y => by
    idx_vars y
    rw [Fin.eq_zero y0]
    exact point7 m c t y1 y2
  exact one y

/-- The sum over the points' rows is the sum over the tokens. -/
theorem sum_tokens (F : Fin 2 → Fin 2048 → EReal) :
    ∑ s : Fin 8, ∑ r : Fin 512, F ⟨s.val / 4, by omega⟩ ⟨s.val % 4 * 512 + r.val, by omega⟩ = ∑ b, ∑ s, F b s := by
  have h : ∀ b : Fin 2, ∑ q : Fin 4, ∑ r : Fin 512, F b ⟨q.val * 512 + r.val, by omega⟩ = ∑ s : Fin 2048, F b s :=
    fun b => Fin.sum_mul_add_congr fun q r hl => rfl
  rw [Fin.sum_univ_two, ← h, ← h, Fin.sum_univ_eight, Fin.sum_univ_four, Fin.sum_univ_four]
  simp only [← add_assoc]
  rfl

theorem run8 (t : Fin cfg0.N) (F : Fin 2 → Fin 2048 → EReal) (hs : ∀ s : Fin 8, 8 * (t.val / 8) + s.val < cfg0.N) :
    ∑ s : Fin 8, ∑ r : Fin 512, F (bt ⟨8 * (t.val / 8) + s.val, hs s⟩) (st ⟨8 * (t.val / 8) + s.val, hs s⟩ r) = ∑ b, ∑ s, F b s := by
  rw [← sum_tokens]
  have := lt8 t
  refine Finset.sum_congr rfl fun s _ => Finset.sum_congr rfl fun r _ => congrArg₂ F (Fin.ext ?_) (Fin.ext ?_)
  · show (8 * (t.val / 8) + s.val) / 4 = s.val / 4
    omega
  · show (8 * (t.val / 8) + s.val) % 4 * 512 + r.val = s.val % 4 * 512 + r.val
    omega

theorem run4 (t : Fin cfg0.N) (F : Fin 2 → Fin 2048 → EReal) (hs : ∀ s : Fin 4, 4 * (t.val / 4) + s.val < cfg0.N) :
    ∑ s : Fin 4, ∑ r : Fin 512, F (bt ⟨4 * (t.val / 4) + s.val, hs s⟩) (st ⟨4 * (t.val / 4) + s.val, hs s⟩ r) = ∑ s, F (bt t) s := by
  refine Fin.sum_mul_add_congr fun s r hl => congrArg₂ F (Fin.ext ?_) (Fin.ext ?_)
  · show (4 * (t.val / 4) + s.val) / 4 = t.val / 4
    omega
  · show (4 * (t.val / 4) + s.val) % 4 * 512 + r.val = s.val * 512 + r.val
    omega

theorem pay2_at (v : FVec Ideal S1x1 .f32) : ∀ j : S8x128.Idx, k0_pay2 v j = v (ix2 0 0) := fun j => by
  idx_vars j
  pointwise [k0_pay2]
theorem pay3_at (v : FVec Ideal S1x1 .f32) (w : Vec Ideal S8x128 .f32) : ∀ j : S8x128.Idx, k0_pay3 v w j = w j + v (ix2 0 0) := fun j => by
  idx_vars j
  pointwise [k0_pay3, k0_pay2]
theorem pay4_at (v : FVec Ideal S1x1024 .f32) (w : Vec Ideal S1x1024 .f32) : ∀ j : S1x1024.Idx, k0_pay4 v w j = w j + v j := fun j => by
  idx_vars j
  pointwise [k0_pay4]
theorem pay5_at (v : FVec Ideal S1x1024 .f32) : ∀ j : S1x1x1024.Idx, k0_pay5 v j = v (ix2 0 (j 2)) := fun j => by
  idx_vars j
  pointwise [k0_pay5]
theorem pay6_at (v : FVec Ideal S1x1024 .f32) (w : Vec Ideal S1x1x1024 .f32) : ∀ j : S1x1x1024.Idx, k0_pay6 v w j = w j + v (ix2 0 (j 2)) := fun j => by
  idx_vars j
  rw [Fin.eq_zero j0, Fin.eq_zero j1]
  pointwise [k0_pay6]

theorem final8 : (dats m 0 c).arrAt 8 (cfgs 0).N = fun x : S8x128.Idx => Ideal.ofBits .f32 0x3F000000#32 * ∑ b, ∑ s, yTok m c b s := by
  refine (dats m 0 c).arrAt_eq_of_covers 8 _ (by decide +kernel) fun t hf y => ?_
  blk_simp
  rw [after0_8]
  refine Eq.trans ?_ (congrFun (read8 (fun x => Ideal.ofBits .f32 0x3F000000#32 * ∑ b, ∑ s, yTok m c b s) t) y).symm
  rw [Pipeline.eq_sum_fin_of_reset_step_apply_of_flush (fun n h => (outsAt0 m c n h).2.2.2.1) 8 (fun _ => (0 : EReal))
    (fun t (y : S8x128.Idx) => (pLoss m c t (ix2 0 0) : EReal))
    (fun t h j => by rw [first8 m c t h, zero_add]; exact pay2_at _ j)
    (fun t h j => by rw [step8 m c t h]; exact pay3_at _ _ j)
    t ((flush0_8 t).mp hf) _, zero_add]
  refine (Finset.sum_congr rfl fun s _ => point8 m c _).trans ((half_sum _ _).trans (congrArg _ ?_))
  exact run8 t (fun b s => yTok m c b s) _

theorem final9 : (dats m 0 c).arrAt 9 (cfgs 0).N = fun x : S2x1x1024.Idx => ∑ s, yGate m c (x 0) (x 2) s := by
  refine (dats m 0 c).arrAt_eq_of_covers 9 _ (by decide +kernel) fun t hf y => ?_
  blk_simp
  rw [after0_9]
  refine Eq.trans ?_ (congrFun (read9 (fun x => ∑ s, yGate m c (x 0) (x 2) s) t) y).symm
  rw [Pipeline.eq_sum_fin_of_reset_step_apply_of_flush (fun n h => (outsAt0 m c n h).2.2.2.2.1) 4 (fun _ => (0 : EReal))
    (fun t (y : S1x1x1024.Idx) => (pGate m c t (ix2 0 (y 2)) : EReal))
    (fun t h j => by rw [first9 m c t h, zero_add]; exact pay5_at _ j)
    (fun t h j => by rw [step9 m c t h]; exact pay6_at _ _ j)
    t ((flush0_9 t).mp hf) _, zero_add]
  refine (Finset.sum_congr rfl fun s _ => point9 m c _ _).trans ?_
  exact run4 t (fun b s => yGate m c b (y 2) s) _

theorem final10 : (dats m 0 c).arrAt 10 (cfgs 0).N = fun x : S1x1024.Idx => ∑ b, ∑ s, yGain m c (x 1) b s := by
  refine (dats m 0 c).arrAt_eq_of_covers 10 _ (by decide +kernel) fun t hf y => ?_
  blk_simp
  rw [after0_10]
  refine Eq.trans ?_ (congrFun (read10 (fun x => ∑ b, ∑ s, yGain m c (x 1) b s) t) y).symm
  rw [Pipeline.eq_sum_fin_of_reset_step_apply_of_flush (fun n h => (outsAt0 m c n h).2.2.2.2.2.1) 8 (fun _ => (0 : EReal))
    (fun t (y : S1x1024.Idx) => (pGain m c t y : EReal))
    (fun t h j => by rw [first10 m c t h, zero_add])
    (fun t h j => by rw [step10 m c t h]; exact pay4_at _ _ j)
    t ((flush0_10 t).mp hf) _, zero_add]
  have one : ∀ (t : Fin cfg0.N) (y : S1x1024.Idx), pGain m c t y = ∑ r, yGain m c (y 1) (bt t) (st t r) := fun t y => by
    idx_vars y
    rw [Fin.eq_zero y0]
    exact point10 m c t y1
  refine (Finset.sum_congr rfl fun s _ => one _ _).trans ?_
  exact run8 t (fun b s => yGain m c (y 1) b s) _

end Cert.Kernel4Ideal.Loss

end
-- ==== Proof.LossClaim.lean ====
module

public import proofs.«01_k».proof.Defs
public import proofs.«01_k».proof.Proof.Gen.Kernel4
public import proofs.«01_k».proof.Proof.Gen.Kernel4.Frame
public import proofs.«01_k».proof.Proof.LossOut
public import Idealize.ShloMosaic.Lib.Quiescent
public import Idealize.ShloMosaic.Adequacy
public import Idealize.ShloMosaic.Init

/-! The claims about the call with the loss. -/

@[expose] public section

set_option maxRecDepth 16384

noncomputable section

namespace Cert.Proof.Loss

open Idealize.ShloMosaic Idealize.SL.Sem

/-- The kernel runs and leaves its arguments as they were. -/
theorem frame_kernel : Cert.quiescent_Kernel4 := fun m g _ => Cert.Kernel4.Gen.frame m g

/-- So does its ideal reading. -/
theorem frame_kernelIdeal : Cert.quiescent_Kernel4Ideal := fun m g _ => Cert.Kernel4Ideal.Gen.frame m g

/-- And the reference. -/
theorem frame_reference : Cert.quiescent_Reference4Ideal := by
  intro m g _
  exact (θ_run _ _ _).mono (fun r h => ⟨fun c => (h c).2.2.2.2.2.2, sem_eq_zero_of_no_sems (by decide) _⟩) (Cert.Reference4Ideal.Value.run m g)

section
open Cert.Reference4Ideal Cert.Reference4Ideal.Loss
variable (H : FVec Ideal S2x2048x1024 .f32) (U : FVec Ideal S1024x4096 .f32) (W : FVec Ideal S4096x1024 .f32) (X : FVec Ideal S2x2048x1024 .f32)
  (A : FVec Ideal S2x1024 .f32) (G : FVec Ideal S1024 .f32) (Y : FVec Ideal S2x2048x1024 .f32)

theorem ref_dx : rDX H U W X A G Y = fun x : S2x2048x1024.Idx => dX H U W X A G Y (x 0) (x 1) (x 2) := by
  funext x
  idx_vars x
  exact rDX_at H U W X A G Y x0 x1 x2
theorem ref_dmlp : rDMlp H U W X A G Y = fun x : S2x2048x1024.Idx => A (ix2 (x 0) (x 2)) * dX H U W X A G Y (x 0) (x 1) (x 2) := by
  funext x
  idx_vars x
  exact rDMlp_at H U W X A G Y x0 x1 x2
theorem ref_act : (rAct H U : S2x2048x4096.Idx → EReal) = fun x : S2x2048x4096.Idx => act H U (x 0) (x 1) (x 2) := by
  funext x
  idx_vars x
  exact rAct_at H U x0 x1 x2
theorem ref_loss : rLoss (rRes H U W X A) G Y
    = fun x : S8x128.Idx => Ideal.ofBits .f32 0x3F000000#32 * ∑ b, ∑ s, Cert.Loss.tok (res H U W X A b s) (gain G) (goal Y b s) := by
  funext x
  idx_vars x
  refine (rLoss_at _ G Y x0 x1).trans (congrArg _ (Finset.sum_congr rfl fun b _ => Finset.sum_congr rfl fun s _ => ?_))
  rw [rRes_row]; rfl
theorem ref_gate : rDA H U W X A G Y = fun x : S2x1x1024.Idx => ∑ s, dX H U W X A G Y (x 0) s (x 2) * mlp H U W (x 0) s (x 2) := by
  funext x
  idx_vars x
  rw [Fin.eq_zero x1]
  exact rDA_at H U W X A G Y x0 x2
theorem ref_gain : rGain (rRes H U W X A) G Y = fun x : S1x1024.Idx => ∑ b, ∑ s, res H U W X A b s (x 1) * Cert.Loss.inv (res H U W X A b s)
      * Cert.Loss.dErr (res H U W X A b s) (gain G) (goal Y b s) (x 1) := by
  funext x
  idx_vars x
  rw [Fin.eq_zero x0]
  refine (rGain_at _ G Y x1).trans (Finset.sum_congr rfl fun b _ => Finset.sum_congr rfl fun s _ => ?_)
  rw [rRes_row]; rfl
end

set_option maxHeartbeats 1600000 in
/-- The kernel's six results are the reference's. -/
theorem algebraic : Cert.algebraic_Kernel4Ideal_Reference4Ideal := by
  pair_intro
  · run_from Cert.Kernel4Ideal.Gen.run_main m g
  · refine (θ_run _ _ _).mono (fun r h c => ?_) (Cert.Reference4Ideal.Value.run m' g')
    obtain ⟨e0, e1, e2, e3, e4, e5, e6⟩ := hagree c
    obtain ⟨h0, h1, h2, h3, h4, h5, hf⟩ := h c
    have k0 := h0.trans (Cert.Reference4Ideal.Loss.out0 m' c)
    have k1 := h1.trans (Cert.Reference4Ideal.Loss.out1 m' c)
    have k3 := h3.trans (Cert.Reference4Ideal.Loss.out3 m' c)
    have k4 := h4.trans (Cert.Reference4Ideal.Loss.out4 m' c)
    have k5 := h5.trans (Cert.Reference4Ideal.Loss.out5 m' c)
    simp only [Cert.Reference4Ideal.Loss.aH, Cert.Reference4Ideal.Loss.aU, Cert.Reference4Ideal.Loss.aW, Cert.Reference4Ideal.Loss.aX,
      Cert.Reference4Ideal.Loss.aA, Cert.Reference4Ideal.Loss.aG, Cert.Reference4Ideal.Loss.aY] at k0 k1 k3 k4 k5
    rw [e0, e1, e2, e3, e4, e5, e6] at k0 k1 k3 k4 k5
    rw [e0, e1] at h2
    exact ⟨(k0.trans (ref_dx _ _ _ _ _ _ _)).trans (Cert.Kernel4Ideal.Loss.final5 m c).symm,
      (k1.trans (ref_dmlp _ _ _ _ _ _ _)).trans (Cert.Kernel4Ideal.Loss.final6 m c).symm,
      (h2.trans (ref_act _ _)).trans (Cert.Kernel4Ideal.Loss.final7 m c).symm,
      (k3.trans (ref_loss _ _ _ _ _ _ _)).trans (Cert.Kernel4Ideal.Loss.final8 m c).symm,
      (k4.trans (ref_gate _ _ _ _ _ _ _)).trans (Cert.Kernel4Ideal.Loss.final9 m c).symm,
      (k5.trans (ref_gain _ _ _ _ _ _ _)).trans (Cert.Kernel4Ideal.Loss.final10 m c).symm, hf⟩

end Cert.Proof.Loss

end
-- ==== Proof.GateMath.lean ====
module

public import proofs.«01_k».proof.Proof.LossMath

/-! The head norms with their gate, the output projection and the second norm, on the rows of a token. -/

@[expose] public section

noncomputable section

namespace Cert.Gate

open Idealize.ShloMosaic

section
variable (o : Fin 128 → EReal)

/-- The mean of a head's row, its variance, and the row made standard. -/
def mean : EReal := Ideal.div (∑ k, o k) (Ideal.ofBits .f32 0x43000000#32)
def dev (k : Fin 128) : EReal := o k - mean o
def var : EReal := Ideal.div (∑ k, dev o k * dev o k) (Ideal.ofBits .f32 0x43000000#32) + Ideal.ofBits .f32 0x358637BD#32
def std (k : Fin 128) : EReal := dev o k * Ideal.rsqrt (var o)
end

/-- A lane of a head, and the head and lane of a column. -/
def at4 (h : Fin 4) (e : Fin 128) : Fin 512 := ⟨h.val * 128 + e.val, by omega⟩
def hd (j : Fin 512) : Fin 4 := ⟨j.val / 128, by omega⟩
def ln (j : Fin 512) : Fin 128 := ⟨j.val % 128, by omega⟩

theorem at4_hd_ln (j : Fin 512) : at4 (hd j) (ln j) = j := Fin.ext (by show j.val / 128 * 128 + j.val % 128 = j.val; omega)
theorem hd_at4 (h : Fin 4) (e : Fin 128) : hd (at4 h e) = h := Fin.ext (by show (h.val * 128 + e.val) / 128 = h.val; omega)
theorem ln_at4 (h : Fin 4) (e : Fin 128) : ln (at4 h e) = e := Fin.ext (by show (h.val * 128 + e.val) % 128 = e.val; omega)

/-- One head's columns of a row. -/
def head (o : Fin 512 → EReal) (h : Fin 4) (e : Fin 128) : EReal := o (at4 h e)

/-- The swish. -/
def swish (x : EReal) : EReal := x * Ideal.logistic x

/-- The four standard rows with their gains. -/
def normed (o g : Fin 512 → EReal) (j : Fin 512) : EReal := std (head o (hd j)) (ln j) * g j

/-- The gated rows, beside the other group of heads. -/
def mix (o g r y : Fin 512 → EReal) (j : Fin 1024) : EReal :=
  if h : j.val < 512 then normed o g ⟨j.val, h⟩ * swish (r ⟨j.val, h⟩) else y ⟨j.val - 512, by omega⟩

/-- The output projection of a row, and the residual stream after it. -/
def proj (m : Fin 1024 → EReal) (W : Fin 1024 → Fin 1024 → EReal) (k : Fin 1024) : EReal := ∑ j, m j * W j k
def stream (x a : Fin 1024 → EReal) (m : Fin 1024 → EReal) (W : Fin 1024 → Fin 1024 → EReal) (k : Fin 1024) : EReal := x k + a k * proj m W k

/-- The second norm with its scale and shift. -/
def hidden (z g sc sh : Fin 1024 → EReal) (k : Fin 1024) : EReal :=
  z k * Cert.Loss.inv z * g k * (1 + sc k) + sh k

/-- Four heads' columns, one after the other. -/
theorem four_heads (f : Fin 4 → Fin 128 → EReal) (j : Fin 512) :
    (if h : j.val < 128 then f 0 ⟨j.val, h⟩ else if h : j.val - 128 < 128 then f 1 ⟨j.val - 128, h⟩
      else if h : j.val - 128 - 128 < 128 then f 2 ⟨j.val - 128 - 128, h⟩ else f 3 ⟨j.val - 128 - 128 - 128, by omega⟩) = f (hd j) (ln j) := by
  unfold hd ln
  by_cases h0 : j.val < 128
  · rw [dif_pos h0]; exact congrArg₂ f (Fin.ext (by show 0 = j.val / 128; omega)) (Fin.ext (by show j.val = j.val % 128; omega))
  rw [dif_neg h0]
  by_cases h1 : j.val - 128 < 128
  · rw [dif_pos h1]; exact congrArg₂ f (Fin.ext (by show 1 = j.val / 128; omega)) (Fin.ext (by show j.val - 128 = j.val % 128; omega))
  rw [dif_neg h1]
  by_cases h2 : j.val - 128 - 128 < 128
  · rw [dif_pos h2]; exact congrArg₂ f (Fin.ext (by show 2 = j.val / 128; omega)) (Fin.ext (by show j.val - 128 - 128 = j.val % 128; omega))
  rw [dif_neg h2]
  exact congrArg₂ f (Fin.ext (by show 3 = j.val / 128; omega)) (Fin.ext (by show j.val - 128 - 128 - 128 = j.val % 128; omega))

end Cert.Gate

end
-- ==== Proof.GatePay.lean ====
module

public import proofs.«01_k».proof.Proof.Gen.Kernel6Ideal.Skeleton
public import proofs.«01_k».proof.Proof.GateMath

/-! What the body of the forward call makes of its blocks of 512 tokens. -/

@[expose] public section

set_option maxRecDepth 16384

noncomputable section

namespace Cert.Kernel6Ideal.Gate

open Cert.Kernel6Ideal Cert.Kernel6Ideal.Gen Idealize.ShloMosaic Idealize.ShloMosaic.TcCoe Idealize.SL.Sem Cert.Gate

/-- A row of a tile. -/
def row5 (v : FVec Ideal S512x512 .f32) (r : Fin 512) (j : Fin 512) : EReal := v (ix2 r j)
def row10 (v : FVec Ideal S512x1024 .f32) (r : Fin 512) (j : Fin 1024) : EReal := v (ix2 r j)
def one5 (v : FVec Ideal S1x512 .f32) (j : Fin 512) : EReal := v (ix2 0 j)
def one10 (v : FVec Ideal S1x1024 .f32) (j : Fin 1024) : EReal := v (ix2 0 j)
def mat (v : FVec Ideal S1024x1024 .bf16) (i j : Fin 1024) : EReal := v (ix2 i j)

theorem pay12_at (x y : Vec Ideal S1x512x512 .f32) (r j : Fin 512) : k0_pay12 x y (ix2 r j) = (x (ix3 0 r j) + y (ix3 0 r j) : EReal) := by
  pointwise [k0_pay12]

theorem pay15_at (g : FVec Ideal S1x512 .f32) (x y : Vec Ideal S1x512x512 .f32) (r : Fin 512) (e : Fin 128) :
    k0_pay15 g (k0_pay13 x y) (k0_pay14 x y) (Scalar.ofBits .f32 0x43000000#32) (ix2 r e)
      = std (head (row5 (k0_pay12 x y) r) 0) e * one5 g (at4 0 e) := by
  unfold k0_pay14 k0_pay13
  generalize k0_pay12 x y = v
  have hh : head (row5 v r) 0 = fun e : Fin 128 => v (ix2 r ⟨e.val, by omega⟩) :=
    funext fun e => congrArg (fun j => v (ix2 r j)) (Fin.ext (by show 0 * 128 + e.val = e.val; omega))
  have hg : one5 g (at4 0 e) = g (ix2 0 ⟨e.val, by omega⟩) := congrArg (fun j => g (ix2 0 j)) (Fin.ext (by show 0 * 128 + e.val = e.val; omega))
  rw [hh, hg]
  pointwise [k0_pay15]
  rfl

theorem pay16_at (g : FVec Ideal S1x512 .f32) (v : FVec Ideal S512x512 .f32) (r : Fin 512) (e : Fin 128) :
    k0_pay16 g v (ix2 r e) = std (head (row5 v r) 1) e * one5 g (at4 1 e) := by
  pointwise [k0_pay16]
  rfl

/-- The third head's row, from its parts. -/
def third (g : FVec Ideal S1x512 .f32) (v67 : FVec Ideal S512x128 .f32) (v71 : FVec Ideal S512x1 .f32) (v74 : FVec Ideal S512x128 .f32) : FVec Ideal S512x128 .f32 :=
  mulf (mulf (subf v67 (broadcastTo S512x128 v71 broadcasts_S512x1_S512x128))
      (broadcastTo S512x128 (rsqrt (addf (divf (shapeCast S512x1 (multiReduction .add [1] S512 v74 0x00000000#32 reduces_S512x128_S512 (.inl rfl) rfl) shapeCasts_S512_S512x1)
        (broadcast S512x1 (Scalar.ofBits .f32 0x43000000#32))) (broadcast S512x1 (Scalar.ofBits .f32 0x358637BD#32)))) broadcasts_S512x1_S512x128))
    (broadcastTo S512x128 (extractStridedSlice S1x128 ![0, 256] g slices_S1x512_o0_256_S1x128) broadcasts_S1x128_S512x128)

theorem pay17_at (v : FVec Ideal S512x512 .f32) (r : Fin 512) (e : Fin 128) : k0_pay17 v (ix2 r e) = head (row5 v r) 2 e := by
  pointwise [k0_pay17]
  rfl
theorem pay18_at (v : FVec Ideal S512x512 .f32) (r : Fin 512) : k0_pay18 v (ix2 r 0) = mean (head (row5 v r) 2) := by
  unfold k0_pay18
  have := pay17_at v
  generalize k0_pay17 v = w at this
  pointwise
  simp only [this]
  rfl
theorem pay19_at (v : FVec Ideal S512x512 .f32) (r : Fin 512) (e : Fin 128) :
    k0_pay19 v (ix2 r e) = dev (head (row5 v r) 2) e * dev (head (row5 v r) 2) e := by
  unfold k0_pay19
  have h7 := pay17_at v
  have h8 := pay18_at v
  generalize k0_pay17 v = w at h7
  generalize k0_pay18 v = u at h8
  pointwise
  rw [h7, h8]
  rfl
theorem third_at (g : FVec Ideal S1x512 .f32) (v : FVec Ideal S512x512 .f32) (r : Fin 512) (e : Fin 128) :
    third g (k0_pay17 v) (k0_pay18 v) (k0_pay19 v) (ix2 r e) = std (head (row5 v r) 2) e * one5 g (at4 2 e) := by
  have h7 := pay17_at v
  have h8 := pay18_at v
  have h9 := pay19_at v
  generalize k0_pay17 v = w at h7 ⊢
  generalize k0_pay18 v = u at h8 ⊢
  generalize k0_pay19 v = z at h9 ⊢
  pointwise [third]
  rw [h7, h8]
  simp only [h9]
  rfl

/-- The fourth head's row. -/
def fourth (g : FVec Ideal S1x512 .f32) (v : FVec Ideal S512x512 .f32) : FVec Ideal S512x128 .f32 :=
  have o : FVec Ideal S512x128 .f32 := extractStridedSlice S512x128 ![0, 384] v slices_S512x512_o0_384_S512x128
  have u : FVec Ideal S512x1 .f32 := divf (shapeCast S512x1 (multiReduction .add [1] S512 o 0x00000000#32 reduces_S512x128_S512 (.inl rfl) rfl) shapeCasts_S512_S512x1)
    (broadcast S512x1 (Scalar.ofBits .f32 0x43000000#32))
  have d : FVec Ideal S512x128 .f32 := subf o (broadcastTo S512x128 u broadcasts_S512x1_S512x128)
  have z : FVec Ideal S512x1 .f32 := divf (shapeCast S512x1 (multiReduction .add [1] S512 (mulf d d) 0x00000000#32 reduces_S512x128_S512 (.inl rfl) rfl) shapeCasts_S512_S512x1)
    (broadcast S512x1 (Scalar.ofBits .f32 0x43000000#32))
  mulf (mulf d (broadcastTo S512x128 (rsqrt (addf z (broadcast S512x1 (Scalar.ofBits .f32 0x358637BD#32)))) broadcasts_S512x1_S512x128))
    (broadcastTo S512x128 (extractStridedSlice S1x128 ![0, 384] g slices_S1x512_o0_384_S1x128) broadcasts_S1x128_S512x128)
theorem fourth_at (g : FVec Ideal S1x512 .f32) (v : FVec Ideal S512x512 .f32) (r : Fin 512) (e : Fin 128) :
    fourth g v (ix2 r e) = std (head (row5 v r) 3) e * one5 g (at4 3 e) := by
  pointwise [fourth]
  rfl

/-- The four rows gated, beside the other heads. -/
def mixed (a b c d : FVec Ideal S512x128 .f32) (q y : FVec Ideal S512x512 .f32) : FVec Ideal S512x1024 .bf16 :=
  truncf .bf16 (concatenate S512x1024 1 [⟨S512x512, mulf (concatenate S512x512 1 [⟨S512x128, a⟩, ⟨S512x128, b⟩, ⟨S512x128, c⟩, ⟨S512x128, d⟩]
    concatenates_S512x128_S512x128_S512x128_S512x128_S512x512_d1) (mulf q (logistic q))⟩, ⟨S512x512, y⟩] concatenates_S512x512_S512x512_S512x1024_d1) bitsLt_bf16_f32

theorem mixed_at (a b c d : FVec Ideal S512x128 .f32) (q y v : FVec Ideal S512x512 .f32) (g : FVec Ideal S1x512 .f32) (r : Fin 512)
    (ha : ∀ e, a (ix2 r e) = std (head (row5 v r) 0) e * one5 g (at4 0 e)) (hb : ∀ e, b (ix2 r e) = std (head (row5 v r) 1) e * one5 g (at4 1 e))
    (hc : ∀ e, c (ix2 r e) = std (head (row5 v r) 2) e * one5 g (at4 2 e)) (hd' : ∀ e, d (ix2 r e) = std (head (row5 v r) 3) e * one5 g (at4 3 e))
    (j : Fin 1024) : mixed a b c d q y (ix2 r j) = mix (row5 v r) (one5 g) (row5 q r) (row5 y r) j := by
  pointwise [mixed]
  unfold mix
  by_cases h : j.val < 512
  · rw [dif_pos h, dif_pos h]
    simp only [ha, hb, hc, hd']
    refine congrArg₂ _ ((four_heads (fun h e => std (head (row5 v r) h) e * one5 g (at4 h e)) ⟨j.val, h⟩).trans ?_) rfl
    unfold normed
    rw [at4_hd_ln]
  · rw [dif_neg h, dif_neg h]; rfl

theorem pay20_eq (a : FVec Ideal S1x1024 .f32) (x : FVec Ideal S512x1024 .f32) (q y : FVec Ideal S512x512 .f32) (g : FVec Ideal S1x512 .f32)
    (w : FVec Ideal S1024x1024 .bf16) (v : FVec Ideal S512x512 .f32) (v44 v66 v67 : FVec Ideal S512x128 .f32) (v71 : FVec Ideal S512x1 .f32) (v74 : FVec Ideal S512x128 .f32) :
    k0_pay20 a x q y g w v v44 v66 v67 v71 v74
      = addf x (mulf (broadcastTo S512x1024 a broadcasts_S1x1024_S512x1024) (matmul dot_S512x1024_S1024x1024_S512x1024_1_0_0_1_n_n none
          (mixed v44 v66 (third g v67 v71 v74) (fourth g v) q y) w (constant S512x1024 .f32 0x00000000#32))) := rfl

section
variable (a : FVec Ideal S1x1024 .f32) (x : FVec Ideal S512x1024 .f32) (q y : FVec Ideal S512x512 .f32) (g : FVec Ideal S1x512 .f32)
  (w : FVec Ideal S1024x1024 .bf16) (v : FVec Ideal S512x512 .f32) (v44 : FVec Ideal S512x128 .f32) (r : Fin 512)
  (h0 : ∀ e, v44 (ix2 r e) = std (head (row5 v r) 0) e * one5 g (at4 0 e))
include h0

/-- The residual stream after the output projection, on a row. -/
theorem pay20_at (k : Fin 1024) :
    k0_pay20 a x q y g w v v44 (k0_pay16 g v) (k0_pay17 v) (k0_pay18 v) (k0_pay19 v) (ix2 r k)
      = stream (row10 x r) (one10 a) (mix (row5 v r) (one5 g) (row5 q r) (row5 y r)) (mat w) k := by
  rw [pay20_eq]
  have hm := mixed_at v44 (k0_pay16 g v) (third g (k0_pay17 v) (k0_pay18 v) (k0_pay19 v)) (fourth g v) q y v g r h0 (pay16_at g v r)
    (third_at g v r) (fourth_at g v r)
  generalize mixed v44 (k0_pay16 g v) (third g (k0_pay17 v) (k0_pay18 v) (k0_pay19 v)) (fourth g v) q y = M at hm ⊢
  pointwise
  simp only [hm]
  rfl

/-- The sum of its squares. -/
theorem pay21_at :
    k0_pay21 a x q y g w v v44 (k0_pay16 g v) (k0_pay17 v) (k0_pay18 v) (k0_pay19 v) (ix2 r 0)
      = ∑ k, stream (row10 x r) (one10 a) (mix (row5 v r) (one5 g) (row5 q r) (row5 y r)) (mat w) k
          * stream (row10 x r) (one10 a) (mix (row5 v r) (one5 g) (row5 q r) (row5 y r)) (mat w) k := by
  have h := pay20_at a x q y g w v v44 r h0
  unfold k0_pay21
  generalize k0_pay20 a x q y g w v v44 (k0_pay16 g v) (k0_pay17 v) (k0_pay18 v) (k0_pay19 v) = M at h ⊢
  pointwise
  simp only [h]
end

theorem pay1_at (z : FVec Ideal S512x1024 .f32) (r : Fin 512) (k : Fin 1024) : k0_pay1 z (ix3 0 r k) = z (ix2 r k) := by pointwise [k0_pay1]
theorem pay2_at (sh sc g : FVec Ideal S1x1024 .f32) (z : FVec Ideal S512x1024 .f32) (s : FVec Ideal S512x1 .f32) (r : Fin 512)
    (h : s (ix2 r 0) = ∑ k, row10 z r k * row10 z r k) (k : Fin 1024) :
    k0_pay2 sh sc g z s (k0_pay22 (F := Ideal)) (ix3 0 r k) = hidden (row10 z r) (one10 g) (one10 sc) (one10 sh) k := by
  pointwise [k0_pay2, k0_pay22]
  rw [h]
  rfl
theorem pay3_at (v : Vec Ideal S1x1x1024 .f32) (k : Fin 1024) : one10 (k0_pay3 v) k = v (ix3 0 0 k) := by unfold one10; pointwise [k0_pay3]
theorem pay4_at (v : Vec Ideal S1x1x1024 .f32) (k : Fin 1024) : one10 (k0_pay4 v) k = v (ix3 0 0 k) := by unfold one10; pointwise [k0_pay4]
theorem pay5_at (v : Vec Ideal S1x1x1024 .f32) (k : Fin 1024) : one10 (k0_pay5 v) k = v (ix3 0 0 k) := by unfold one10; pointwise [k0_pay5]
theorem pay6_at (v : Vec Ideal S1x512x1024 .f32) (r : Fin 512) (k : Fin 1024) : row10 (k0_pay6 v) r k = v (ix3 0 r k) := by unfold row10; pointwise [k0_pay6]
theorem pay7_at (v : Vec Ideal S1x512x512 .f32) (r : Fin 512) (j : Fin 512) : row5 (k0_pay7 v) r j = v (ix3 0 r j) := by unfold row5; pointwise [k0_pay7]
theorem pay8_at (v : Vec Ideal S1x512x512 .f32) (r : Fin 512) (j : Fin 512) : row5 (k0_pay8 v) r j = v (ix3 0 r j) := by unfold row5; pointwise [k0_pay8]
theorem pay9_at (v : Vec Ideal S1x512 .f32) (j : Fin 512) : one5 (k0_pay9 v) j = v (ix2 0 j) := by unfold one5; pointwise [k0_pay9]
theorem pay10_at (v : Vec Ideal S1x1024 .f32) (j : Fin 1024) : one10 (k0_pay10 v) j = v (ix2 0 j) := by unfold one10; pointwise [k0_pay10]
theorem pay11_at (v : Vec Ideal S1024x1024 .bf16) (i j : Fin 1024) : mat (k0_pay11 v) i j = v (ix2 i j) := by unfold mat; pointwise [k0_pay11]

end Cert.Kernel6Ideal.Gate

end
-- ==== Proof.GateRef.lean ====
module

public import proofs.«01_k».proof.Proof.Gen.Reference6Ideal.Run
public import proofs.«01_k».proof.Proof.GateMath
public import Idealize.ShloMosaic.Lib.Pipeline.ValueKit
public import Idealize.ShloMosaic.Lib.Claim

/-! What the reference of the call with the output projection computes. -/

@[expose] public section

set_option maxRecDepth 16384

noncomputable section

namespace Cert.Reference6Ideal.Gate

open Cert.Reference6Ideal Cert.Reference6Ideal.Gen Idealize.ShloMosaic Idealize.ShloMosaic.TcCoe Idealize.SL.Sem Cert.Gate

section
variable (O P Q Y : FVec Ideal S2x2048x512 .f32) (g : FVec Ideal S512 .f32)

/-- A token's row of an array. -/
def tok5 (Z : FVec Ideal S2x2048x512 .f32) (b : Fin 2) (s : Fin 2048) (j : Fin 512) : EReal := Z (ix3 b s j)
def tok10 (Z : FVec Ideal S2x2048x1024 .f32) (b : Fin 2) (s : Fin 2048) (k : Fin 1024) : EReal := Z (ix3 b s k)

/-- The two halves' sum at a token. -/
def both (b : Fin 2) (s : Fin 2048) (j : Fin 512) : EReal := O (ix3 b s j) + P (ix3 b s j)

def rSplit : FVec Ideal S2x2048x4x128 .f32 := shapeCast _ (addf O P) shapeCasts_S2x2048x512_S2x2048x4x128

theorem rSplit_at (b : Fin 2) (s : Fin 2048) (h : Fin 4) (e : Fin 128) : rSplit O P (ix4 b s h e) = both O P b s (at4 h e) := by
  pointwise [rSplit]
  rfl
end
section
variable (Z : FVec Ideal S2x2048x4x128 .f32) (g : FVec Ideal S512 .f32)
def rN : FVec Ideal S2x2048x4x1 .f32 := broadcastInDim S2x2048x4x1 ![] bcast_S_S2x2048x4x1 (constant S_ .f32 0x43000000#32)
def rMean : FVec Ideal S2x2048x4x1 .f32 :=
  Host.divf (broadcastInDim S2x2048x4x1 ![0, 1, 2] bcast_S2x2048x4_S2x2048x4x1_0_1_2
    (Host.reduceAdd Z (constant S_ .f32 0x00000000#32) reducesTo_S2x2048x4x128_S2x2048x4_d3 h_S_)) rN
def rDev : FVec Ideal S2x2048x4x128 .f32 := subf Z (broadcastInDim S2x2048x4x128 ![0, 1, 2, 3] bcast_S2x2048x4x1_S2x2048x4x128_0_1_2_3 (rMean Z))
def rVar : FVec Ideal S2x2048x4x1 .f32 :=
  addf (Host.divf (broadcastInDim S2x2048x4x1 ![0, 1, 2] bcast_S2x2048x4_S2x2048x4x1_0_1_2
    (Host.reduceAdd (mulf (rDev Z) (rDev Z)) (constant S_ .f32 0x00000000#32) reducesTo_S2x2048x4x128_S2x2048x4_d3 h_S_)) rN)
    (broadcastInDim S2x2048x4x1 ![] bcast_S_S2x2048x4x1 (constant S_ .f32 0x358637BD#32))
def rStd : FVec Ideal S2x2048x4x128 .f32 :=
  mulf (rDev Z) (broadcastInDim S2x2048x4x128 ![0, 1, 2, 3] bcast_S2x2048x4x1_S2x2048x4x128_0_1_2_3 (Host.rsqrt (rVar Z)))
def rGain : FVec Ideal S2x2048x4x128 .f32 :=
  broadcastInDim S2x2048x4x128 ![0, 1, 2, 3] bcast_S1x1x4x128_S2x2048x4x128_0_1_2_3
    (broadcastInDim S1x1x4x128 ![2, 3] bcast_S4x128_S1x1x4x128_2_3 (shapeCast _ g shapeCasts_S512_S4x128))
def rNormed : FVec Ideal S2x2048x512 .f32 := shapeCast _ (mulf (rStd Z) (rGain g)) shapeCasts_S2x2048x4x128_S2x2048x512

def four (Z : FVec Ideal S2x2048x4x128 .f32) (b : Fin 2) (s : Fin 2048) (h : Fin 4) (e : Fin 128) : EReal := Z (ix4 b s h e)

theorem rMean_at (b : Fin 2) (s : Fin 2048) (h : Fin 4) : rMean Z (ix4 b s h 0) = mean (four Z b s h) := by
  pointwise [rMean, rN]
  rfl
theorem rDev_at (b : Fin 2) (s : Fin 2048) (h : Fin 4) (e : Fin 128) : rDev Z (ix4 b s h e) = dev (four Z b s h) e := by
  pointwise [rDev]
  rw [rMean_at]; rfl
theorem rVar_at (b : Fin 2) (s : Fin 2048) (h : Fin 4) : rVar Z (ix4 b s h 0) = var (four Z b s h) := by
  have hd := rDev_at Z
  unfold rVar
  generalize rDev Z = D at hd ⊢
  pointwise [rN]
  simp only [hd]
  rfl
theorem rStd_at (b : Fin 2) (s : Fin 2048) (h : Fin 4) (e : Fin 128) : rStd Z (ix4 b s h e) = std (four Z b s h) e := by
  pointwise [rStd]
  rw [rDev_at, rVar_at]
  rfl
theorem rGain_at (b : Fin 2) (s : Fin 2048) (h : Fin 4) (e : Fin 128) : rGain g (ix4 b s h e) = g (ix1 (at4 h e)) := by
  pointwise [rGain]
  rfl
theorem rNormed_at (b : Fin 2) (s : Fin 2048) (j : Fin 512) : rNormed Z g (ix3 b s j) = std (four Z b s (hd j)) (ln j) * g (ix1 j) := by
  have hs := rStd_at Z
  have hg := rGain_at g
  unfold rNormed
  generalize rStd Z = S at hs ⊢
  generalize rGain g = G at hg ⊢
  pointwise
  refine congrArg₂ _ (hs b s (hd j) (ln j)) ((hg b s (hd j) (ln j)).trans ?_)
  rw [at4_hd_ln]
end

section
variable (N Q Y : FVec Ideal S2x2048x512 .f32)
def rSwish : FVec Ideal S2x2048x512 .f32 :=
  mulf Q (Host.divf (broadcastInDim S2x2048x512 ![] bcast_S_S2x2048x512 (constant S_ .f32 0x3F800000#32))
    (addf (broadcastInDim S2x2048x512 ![] bcast_S_S2x2048x512 (constant S_ .f32 0x3F800000#32)) (Host.exp (Host.negf Q))))
def rMixed : FVec Ideal S2x2048x1024 .f32 :=
  concatenate S2x2048x1024 2 [⟨S2x2048x512, mulf N (rSwish Q)⟩, ⟨S2x2048x512, Y⟩] concatenates_S2x2048x512_S2x2048x512_S2x2048x1024_d2
theorem rSwish_at (b : Fin 2) (s : Fin 2048) (j : Fin 512) : rSwish Q (ix3 b s j) = swish (Q (ix3 b s j)) := by
  pointwise [rSwish]
  rfl
theorem rMixed_at (b : Fin 2) (s : Fin 2048) (j : Fin 1024) :
    rMixed N Q Y (ix3 b s j) = if h : j.val < 512 then N (ix3 b s ⟨j, h⟩) * swish (Q (ix3 b s ⟨j, h⟩)) else Y (ix3 b s ⟨j - 512, by omega⟩) := by
  unfold rMixed
  have h := rSwish_at Q
  generalize rSwish Q = S at h ⊢
  pointwise
  simp only [h]
end

section
variable (X M : FVec Ideal S2x2048x1024 .f32) (W : FVec Ideal S1024x1024 .f32) (A B C : FVec Ideal S2x1024 .f32) (G : FVec Ideal S1024 .f32)
def rRow (A : FVec Ideal S2x1024 .f32) : FVec Ideal S2x1x1024 .f32 := broadcastInDim S2x1x1024 ![0, 2] bcast_S2x1024_S2x1x1024_0_2 A
def rStream : FVec Ideal S2x2048x1024 .f32 :=
  addf X (mulf (broadcastInDim S2x2048x1024 ![0, 1, 2] bcast_S2x1x1024_S2x2048x1024_0_1_2 (rRow A))
    (Host.dotGeneral dot_S2x2048x1024_S1024x1024_S2x2048x1024_2_0_01_1_n_n none M W))
theorem rStream_at (b : Fin 2) (s : Fin 2048) (k : Fin 1024) :
    rStream X M W A (ix3 b s k) = stream (tok10 X b s) (fun k => A (ix2 b k)) (tok10 M b s) (fun i k => W (ix2 i k)) k := by
  pointwise [rStream, rRow]
  rfl

def rMs (Z : FVec Ideal S2x2048x1024 .f32) : FVec Ideal S2x2048x1 .f32 :=
  addf (Host.divf (broadcastInDim S2x2048x1 ![0, 1] bcast_S2x2048_S2x2048x1_0_1
      (Host.reduceAdd (mulf Z Z) (constant S_ .f32 0x00000000#32) reducesTo_S2x2048x1024_S2x2048_d2 h_S_))
      (broadcastInDim S2x2048x1 ![] bcast_S_S2x2048x1 (constant S_ .f32 0x44800000#32)))
    (broadcastInDim S2x2048x1 ![] bcast_S_S2x2048x1 (constant S_ .f32 0x358637BD#32))
def rHidden (Z : FVec Ideal S2x2048x1024 .f32) : FVec Ideal S2x2048x1024 .bf16 :=
  truncf .bf16 (addf (mulf (mulf (mulf Z (broadcastInDim S2x2048x1024 ![0, 1, 2] bcast_S2x2048x1_S2x2048x1024_0_1_2 (Host.rsqrt (rMs Z))))
      (broadcastInDim S2x2048x1024 ![0, 1, 2] bcast_S1x1x1024_S2x2048x1024_0_1_2 (broadcastInDim S1x1x1024 ![2] bcast_S1024_S1x1x1024_2 G)))
      (broadcastInDim S2x2048x1024 ![0, 1, 2] bcast_S2x1x1024_S2x2048x1024_0_1_2
        (addf (broadcastInDim S2x1x1024 ![] bcast_S_S2x1x1024 (constant S_ .f32 0x3F800000#32)) (rRow C))))
    (broadcastInDim S2x2048x1024 ![0, 1, 2] bcast_S2x1x1024_S2x2048x1024_0_1_2 (rRow B))) bitsLt_bf16_f32
theorem rMs_at (Z : FVec Ideal S2x2048x1024 .f32) (b : Fin 2) (s : Fin 2048) : rMs Z (ix3 b s 0) = Cert.Loss.ms (tok10 Z b s) := by
  pointwise [rMs]
  rfl
theorem rHidden_at (Z : FVec Ideal S2x2048x1024 .f32) (b : Fin 2) (s : Fin 2048) (k : Fin 1024) :
    rHidden B C G Z (ix3 b s k) = hidden (tok10 Z b s) (fun k => G (ix1 k)) (fun k => C (ix2 b k)) (fun k => B (ix2 b k)) k := by
  pointwise [rHidden, rRow]
  rw [rMs_at]
  rfl
end

section
variable (X : FVec Ideal S2x2048x1024 .f32) (O P Q Y : FVec Ideal S2x2048x512 .f32) (g : FVec Ideal S512 .f32) (W : FVec Ideal S1024x1024 .f32)
  (A : FVec Ideal S2x1024 .f32) (G : FVec Ideal S1024 .f32) (B C : FVec Ideal S2x1024 .f32)

/-- A token's row of the two results. -/
def midRow (b : Fin 2) (s : Fin 2048) : Fin 1024 → EReal :=
  stream (tok10 X b s) (fun k => A (ix2 b k)) (mix (both O P b s) (fun j => g (ix1 j)) (tok5 Q b s) (tok5 Y b s)) (fun i k => W (ix2 i k))
def hidRow (b : Fin 2) (s : Fin 2048) : Fin 1024 → EReal :=
  hidden (midRow X O P Q Y g W A b s) (fun k => G (ix1 k)) (fun k => C (ix2 b k)) (fun k => B (ix2 b k))

def rMid : FVec Ideal S2x2048x1024 .f32 := rStream X (rMixed (rNormed (rSplit O P) g) Q Y) W A

theorem rMixed_row (b : Fin 2) (s : Fin 2048) : tok10 (rMixed (rNormed (rSplit O P) g) Q Y) b s = mix (both O P b s) (fun j => g (ix1 j)) (tok5 Q b s) (tok5 Y b s) := by
  funext j
  refine (rMixed_at _ Q Y b s j).trans ?_
  have hz : ∀ h, four (rSplit O P) b s h = head (both O P b s) h := fun h => funext fun e => rSplit_at O P b s h e
  unfold mix
  by_cases h : j.val < 512
  · rw [dif_pos h, dif_pos h, rNormed_at, hz]; rfl
  · rw [dif_neg h, dif_neg h]; rfl
theorem rMid_row (b : Fin 2) (s : Fin 2048) : tok10 (rMid X O P Q Y g W A) b s = midRow X O P Q Y g W A b s := by
  funext k
  refine (rStream_at X _ W A b s k).trans ?_
  rw [rMixed_row]; rfl

/-- The reference's two results, a row a token. -/
theorem ref_mid : rMid X O P Q Y g W A = fun x : S2x2048x1024.Idx => midRow X O P Q Y g W A (x 0) (x 1) (x 2) := by
  funext x
  idx_vars x
  exact congrFun (rMid_row X O P Q Y g W A x0 x1) x2
theorem ref_hid : (rHidden B C G (rMid X O P Q Y g W A) : S2x2048x1024.Idx → EReal)
    = fun x : S2x2048x1024.Idx => hidRow X O P Q Y g W A G B C (x 0) (x 1) (x 2) := by
  funext x
  idx_vars x
  refine (rHidden_at B C G _ x0 x1 x2).trans ?_
  rw [rMid_row]; rfl
end

section
variable (m : (ℓ : Loc nD τ sig) → Buf (Elt Ideal) ℓ) (c : Dev nD)
abbrev a0 : FVec Ideal S2x2048x1024 .f32 := m ((c.tc : Thread nD τ).loc main_arg0)
abbrev a1 : FVec Ideal S2x2048x512 .f32 := m ((c.tc : Thread nD τ).loc main_arg1)
abbrev a2 : FVec Ideal S2x2048x512 .f32 := m ((c.tc : Thread nD τ).loc main_arg2)
abbrev a3 : FVec Ideal S2x2048x512 .f32 := m ((c.tc : Thread nD τ).loc main_arg3)
abbrev a4 : FVec Ideal S2x2048x512 .f32 := m ((c.tc : Thread nD τ).loc main_arg4)
abbrev a5 : FVec Ideal S512 .f32 := m ((c.tc : Thread nD τ).loc main_arg5)
abbrev a6 : FVec Ideal S1024x1024 .f32 := m ((c.tc : Thread nD τ).loc main_arg6)
abbrev a7 : FVec Ideal S2x1024 .f32 := m ((c.tc : Thread nD τ).loc main_arg7)
abbrev a8 : FVec Ideal S1024 .f32 := m ((c.tc : Thread nD τ).loc main_arg8)
abbrev a9 : FVec Ideal S2x1024 .f32 := m ((c.tc : Thread nD τ).loc main_arg9)
abbrev a10 : FVec Ideal S2x1024 .f32 := m ((c.tc : Thread nD τ).loc main_arg10)

theorem out1 : Value.res_out1 m c = rHidden (a9 m c) (a10 m c) (a8 m c) (rMid (a0 m c) (a1 m c) (a2 m c) (a3 m c) (a4 m c) (a5 m c) (a6 m c) (a7 m c)) := by
  unfold Value.res_out1 Value.res_main_v54; rfl

/-- The reference runs to the two results. -/
theorem run_ref (ρ : Dev nD → PrngReg) :
    θ_run defs (onTc (τ := τ) (main (F := Ideal))) ⟨m, fun _ => 0, ρ⟩ fun r => ∀ c : Dev nD,
      r.2.mem ((c.tc : Thread nD τ).loc main_v32) = rMid (a0 m c) (a1 m c) (a2 m c) (a3 m c) (a4 m c) (a5 m c) (a6 m c) (a7 m c)
      ∧ r.2.mem ((c.tc : Thread nD τ).loc main_v54)
          = rHidden (a9 m c) (a10 m c) (a8 m c) (rMid (a0 m c) (a1 m c) (a2 m c) (a3 m c) (a4 m c) (a5 m c) (a6 m c) (a7 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c => ⟨(h c).1.trans rfl, (h c).2.1.trans (out1 m c), (h c).2.2⟩) (Value.run m ρ)
end

end Cert.Reference6Ideal.Gate

end
-- ==== Proof.GateVal.lean ====
module

public import proofs.«01_k».proof.Proof.Gen.Kernel6Ideal.Value
public import proofs.«01_k».proof.Proof.GatePay
public import proofs.«01_k».proof.Proof.GateRef
public import Idealize.ShloMosaic.Lib.StableHlo.RunRead
public import Idealize.ShloMosaic.Lib.Pipeline.ReadBack
public import Idealize.ShloMosaic.Lib.Claim

/-! The call with the output projection: the arrays that it reads, and the two that it leaves, as rows of the reference. -/

@[expose] public section

set_option maxRecDepth 16384

noncomputable section

namespace Cert.Kernel6Ideal.Gate

open Cert.Kernel6Ideal Cert.Kernel6Ideal.Gen Idealize.ShloMosaic Idealize.ShloMosaic.TcCoe Idealize.SL.Sem Cert.Gate
open Cert.Reference6Ideal.Gate (tok5 tok10 both midRow hidRow)

variable (m : (ℓ : Loc nD τ sig) → Buf (Elt Ideal) ℓ) (c : Dev nD)

/-- The arguments, at their shapes. -/
abbrev a0 : FVec Ideal S2x2048x1024 .f32 := m ((c.tc : Thread nD τ).loc main_arg0)
abbrev a1 : FVec Ideal S2x2048x512 .f32 := m ((c.tc : Thread nD τ).loc main_arg1)
abbrev a2 : FVec Ideal S2x2048x512 .f32 := m ((c.tc : Thread nD τ).loc main_arg2)
abbrev a3 : FVec Ideal S2x2048x512 .f32 := m ((c.tc : Thread nD τ).loc main_arg3)
abbrev a4 : FVec Ideal S2x2048x512 .f32 := m ((c.tc : Thread nD τ).loc main_arg4)
abbrev a5 : FVec Ideal S512 .f32 := m ((c.tc : Thread nD τ).loc main_arg5)
abbrev a6 : FVec Ideal S1024x1024 .f32 := m ((c.tc : Thread nD τ).loc main_arg6)
abbrev a7 : FVec Ideal S2x1024 .f32 := m ((c.tc : Thread nD τ).loc main_arg7)
abbrev a8 : FVec Ideal S1024 .f32 := m ((c.tc : Thread nD τ).loc main_arg8)
abbrev a9 : FVec Ideal S2x1024 .f32 := m ((c.tc : Thread nD τ).loc main_arg9)
abbrev a10 : FVec Ideal S2x1024 .f32 := m ((c.tc : Thread nD τ).loc main_arg10)

/-- The gains as rows, and the three rows of the modulation in their places among the eight. -/
def kR (g : FVec Ideal S512 .f32) : FVec Ideal S1x512 .f32 := shapeCast S1x512 g shapeCasts_S512_S1x512
def kG (g : FVec Ideal S1024 .f32) : FVec Ideal S1x1024 .f32 := shapeCast S1x1024 g shapeCasts_S1024_S1x1024
def kM (A B C : FVec Ideal S2x1024 .f32) : FVec Ideal S2x8x1024 .f32 :=
  concatenate S2x8x1024 1 [⟨S2x2x1024, broadcastInDim S2x2x1024 ![] bcast_S_S2x2x1024 (constant S_ .f32 0x00000000#32 : FVec Ideal S_ .f32)⟩,
    ⟨S2x1x1024, broadcastInDim S2x1x1024 ![0, 2] bcast_S2x1024_S2x1x1024_0_2 A⟩,
    ⟨S2x1x1024, broadcastInDim S2x1x1024 ![0, 2] bcast_S2x1024_S2x1x1024_0_2 B⟩,
    ⟨S2x1x1024, broadcastInDim S2x1x1024 ![0, 2] bcast_S2x1024_S2x1x1024_0_2 C⟩,
    ⟨S2x3x1024, broadcastInDim S2x3x1024 ![] bcast_S_S2x3x1024 (constant S_ .f32 0x00000000#32 : FVec Ideal S_ .f32)⟩]
    concatenates_S2x2x1024_S2x1x1024_S2x1x1024_S2x1x1024_S2x3x1024_S2x8x1024_d1

theorem kR_at (g : FVec Ideal S512 .f32) (j : Fin 512) : kR g (ix2 0 j) = g (ix1 j) := by pointwise [kR]
theorem kG_at (g : FVec Ideal S1024 .f32) (k : Fin 1024) : kG g (ix2 0 k) = g (ix1 k) := by pointwise [kG]
theorem kM2 (A B C : FVec Ideal S2x1024 .f32) (b : Fin 2) (k : Fin 1024) : kM A B C (ix3 b 2 k) = A (ix2 b k) := by pointwise [kM]
theorem kM3 (A B C : FVec Ideal S2x1024 .f32) (b : Fin 2) (k : Fin 1024) : kM A B C (ix3 b 3 k) = B (ix2 b k) := by pointwise [kM]
theorem kM4 (A B C : FVec Ideal S2x1024 .f32) (b : Fin 2) (k : Fin 1024) : kM A B C (ix3 b 4 k) = C (ix2 b k) := by pointwise [kM]

theorem v_r : V m c main_v0 = kR (a5 m c) := by unfold V; after_reads_simp; rfl
theorem v_w : V m c main_v1 = a6 m c := by unfold V; after_reads_simp; rfl
theorem v_m : V m c main_v7 = kM (a7 m c) (a9 m c) (a10 m c) := by unfold V; after_reads_simp; rfl
theorem v_g : V m c main_v8 = kG (a8 m c) := by unfold V; after_reads_simp; rfl

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![0, 0] ∧ win0_6.index t = ![0, 0] ∧ win0_7.index t = ![t.val / 4, 0, 0] ∧ win0_8.index t = ![0, 0]
    ∧ win0_9.index t = ![t.val / 4, t.val % 4, 0] ∧ win0_10.index t = ![t.val / 4, t.val % 4, 0] :=
  (by decide +kernel : ∀ t : Fin grid0.N, _)

/-- The sequence and the tokens of a point. -/
def bt (t : Fin cfg0.N) : Fin 2 := ⟨t.val / 4, by have : t.val < 8 := t.isLt; omega⟩
def st (t : Fin cfg0.N) (r : Fin 512) : Fin 2048 := ⟨t.val % 4 * 512 + r, by omega⟩

theorem read0 (X : FVec Ideal S2x2048x1024 .f32) (t : Fin cfg0.N) :
    ((cfg0.win 0).blk t).view.read (Elt Ideal) X = fun y : S1x512x1024.Idx => X (ix3 (bt t) (st t (y 1)) (y 2)) := by blk_ext! [idx t, bt, st]
theorem read1 (X : FVec Ideal S2x2048x512 .f32) (t : Fin cfg0.N) :
    ((cfg0.win 1).blk t).view.read (Elt Ideal) X = fun y : S1x512x512.Idx => X (ix3 (bt t) (st t (y 1)) (y 2)) := by blk_ext! [idx t, bt, st]
theorem read2 (X : FVec Ideal S2x2048x512 .f32) (t : Fin cfg0.N) :
    ((cfg0.win 2).blk t).view.read (Elt Ideal) X = fun y : S1x512x512.Idx => X (ix3 (bt t) (st t (y 1)) (y 2)) := by blk_ext! [idx t, bt, st]
theorem read3 (X : FVec Ideal S2x2048x512 .f32) (t : Fin cfg0.N) :
    ((cfg0.win 3).blk t).view.read (Elt Ideal) X = fun y : S1x512x512.Idx => X (ix3 (bt t) (st t (y 1)) (y 2)) := by blk_ext! [idx t, bt, st]
theorem read4 (X : FVec Ideal S2x2048x512 .f32) (t : Fin cfg0.N) :
    ((cfg0.win 4).blk t).view.read (Elt Ideal) X = fun y : S1x512x512.Idx => X (ix3 (bt t) (st t (y 1)) (y 2)) := by blk_ext! [idx t, bt, st]
theorem read5 (X : FVec Ideal S1x512 .f32) (t : Fin cfg0.N) :
    ((cfg0.win 5).blk t).view.read (Elt Ideal) X = fun y : S1x512.Idx => X (ix2 (y 0) (y 1)) := by blk_ext! [idx t, bt, st]
theorem read6 (X : FVec Ideal S1024x1024 .bf16) (t : Fin cfg0.N) :
    ((cfg0.win 6).blk t).view.read (Elt Ideal) X = fun y : S1024x1024.Idx => X (ix2 (y 0) (y 1)) := by blk_ext! [idx t, bt, st]
theorem read7 (X : FVec Ideal S2x8x1024 .f32) (t : Fin cfg0.N) :
    ((cfg0.win 7).blk t).view.read (Elt Ideal) X = fun y : S1x8x1024.Idx => X (ix3 (bt t) (y 1) (y 2)) := by blk_ext! [idx t, bt, st]
theorem read8 (X : FVec Ideal S1x1024 .f32) (t : Fin cfg0.N) :
    ((cfg0.win 8).blk t).view.read (Elt Ideal) X = fun y : S1x1024.Idx => X (ix2 (y 0) (y 1)) := by blk_ext! [idx t, bt, st]
theorem read9 (X : FVec Ideal S2x2048x1024 .f32) (t : Fin cfg0.N) :
    ((cfg0.win 9).blk t).view.read (Elt Ideal) X = fun y : S1x512x1024.Idx => X (ix3 (bt t) (st t (y 1)) (y 2)) := by blk_ext! [idx t, bt, st]
theorem read10 (X : FVec Ideal S2x2048x1024 .bf16) (t : Fin cfg0.N) :
    ((cfg0.win 10).blk t).view.read (Elt Ideal) X = fun y : S1x512x1024.Idx => X (ix3 (bt t) (st t (y 1)) (y 2)) := by blk_ext! [idx t, bt, st]

theorem blk0 (t : Fin cfg0.N) : iblk m c 0 t = fun y : S1x512x1024.Idx => a0 m c (ix3 (bt t) (st t (y 1)) (y 2)) := by
  rw [← read0]; unfold iblk V; after_reads_simp
theorem blk1 (t : Fin cfg0.N) : iblk m c 1 t = fun y : S1x512x512.Idx => a1 m c (ix3 (bt t) (st t (y 1)) (y 2)) := by
  rw [← read1]; unfold iblk V; after_reads_simp
theorem blk2 (t : Fin cfg0.N) : iblk m c 2 t = fun y : S1x512x512.Idx => a2 m c (ix3 (bt t) (st t (y 1)) (y 2)) := by
  rw [← read2]; unfold iblk V; after_reads_simp
theorem blk3 (t : Fin cfg0.N) : iblk m c 3 t = fun y : S1x512x512.Idx => a3 m c (ix3 (bt t) (st t (y 1)) (y 2)) := by
  rw [← read3]; unfold iblk V; after_reads_simp
theorem blk4 (t : Fin cfg0.N) : iblk m c 4 t = fun y : S1x512x512.Idx => a4 m c (ix3 (bt t) (st t (y 1)) (y 2)) := by
  rw [← read4]; unfold iblk V; after_reads_simp
theorem blk5 (t : Fin cfg0.N) : iblk m c 5 t = fun y : S1x512.Idx => kR (a5 m c) (ix2 (y 0) (y 1)) :=
  (congrArg (fun X => ((cfg0.win 5).blk t).view.read (Elt Ideal) X) (v_r m c)).trans (read5 _ t)
theorem blk6 (t : Fin cfg0.N) : iblk m c 6 t = fun y : S1024x1024.Idx => a6 m c (ix2 (y 0) (y 1)) :=
  (congrArg (fun X => ((cfg0.win 6).blk t).view.read (Elt Ideal) X) (v_w m c)).trans (read6 _ t)
theorem blk7 (t : Fin cfg0.N) : iblk m c 7 t = fun y : S1x8x1024.Idx => kM (a7 m c) (a9 m c) (a10 m c) (ix3 (bt t) (y 1) (y 2)) :=
  (congrArg (fun X => ((cfg0.win 7).blk t).view.read (Elt Ideal) X) (v_m m c)).trans (read7 _ t)
theorem blk8 (t : Fin cfg0.N) : iblk m c 8 t = fun y : S1x1024.Idx => kG (a8 m c) (ix2 (y 0) (y 1)) :=
  (congrArg (fun X => ((cfg0.win 8).blk t).view.read (Elt Ideal) X) (v_g m c)).trans (read8 _ t)

theorem whole3 (X : Vec Ideal S1x512x1024 .f32) : View.ld X r0_3 = X := View.ld_unit_lit _ X (by decide)
theorem whole4 (X : Vec Ideal S1x512x512 .f32) : View.ld X r0_4 = X := View.ld_unit_lit _ X (by decide)
theorem whole5 (X : Vec Ideal S1x512 .f32) : View.ld X r0_5 = X := View.ld_unit_lit _ X (by decide)
theorem whole6 (X : Vec Ideal S1x1024 .f32) : View.ld X r0_6 = X := View.ld_unit_lit _ X (by decide)
theorem whole7 (X : Vec Ideal S1024x1024 .bf16) : View.ld X r0_7 = X := View.ld_unit_lit _ X (by decide)
theorem row2 (X : Vec Ideal S1x8x1024 .f32) (k : Fin 1024) : View.ld X r0_0 (ix3 0 0 k) = X (ix3 0 2 k) := by rw [View.ld_unit]; pointwise
theorem row3 (X : Vec Ideal S1x8x1024 .f32) (k : Fin 1024) : View.ld X r0_1 (ix3 0 0 k) = X (ix3 0 3 k) := by rw [View.ld_unit]; pointwise
theorem row4 (X : Vec Ideal S1x8x1024 .f32) (k : Fin 1024) : View.ld X r0_2 (ix3 0 0 k) = X (ix3 0 4 k) := by rw [View.ld_unit]; pointwise

/-- What a point computes with. -/
def tA (t : Fin cfg0.N) : FVec Ideal S1x1024 .f32 := k0_pay3 (View.ld (iblk m c 7 t) r0_0)
def tB (t : Fin cfg0.N) : FVec Ideal S1x1024 .f32 := k0_pay4 (View.ld (iblk m c 7 t) r0_1)
def tC (t : Fin cfg0.N) : FVec Ideal S1x1024 .f32 := k0_pay5 (View.ld (iblk m c 7 t) r0_2)
def tX (t : Fin cfg0.N) : FVec Ideal S512x1024 .f32 := k0_pay6 (iblk m c 0 t)
def tQ (t : Fin cfg0.N) : FVec Ideal S512x512 .f32 := k0_pay7 (iblk m c 3 t)
def tY (t : Fin cfg0.N) : FVec Ideal S512x512 .f32 := k0_pay8 (iblk m c 4 t)
def tR (t : Fin cfg0.N) : FVec Ideal S1x512 .f32 := k0_pay9 (iblk m c 5 t)
def tG (t : Fin cfg0.N) : FVec Ideal S1x1024 .f32 := k0_pay10 (iblk m c 8 t)
def tW (t : Fin cfg0.N) : FVec Ideal S1024x1024 .bf16 := k0_pay11 (iblk m c 6 t)
def tO (t : Fin cfg0.N) : FVec Ideal S512x512 .f32 := k0_pay12 (iblk m c 1 t) (iblk m c 2 t)
def tH (t : Fin cfg0.N) : FVec Ideal S512x128 .f32 :=
  k0_pay15 (tR m c t) (k0_pay13 (iblk m c 1 t) (iblk m c 2 t)) (k0_pay14 (iblk m c 1 t) (iblk m c 2 t)) (Scalar.ofBits .f32 0x43000000#32)
def tZ (t : Fin cfg0.N) : FVec Ideal S512x1024 .f32 :=
  k0_pay20 (tA m c t) (tX m c t) (tQ m c t) (tY m c t) (tR m c t) (tW m c t) (tO m c t) (tH m c t)
    (k0_pay16 (tR m c t) (tO m c t)) (k0_pay17 (tO m c t)) (k0_pay18 (tO m c t)) (k0_pay19 (tO m c t))

theorem tA_row (t : Fin cfg0.N) : one10 (tA m c t) = fun k => a7 m c (ix2 (bt t) k) := by
  funext k
  refine (pay3_at _ k).trans ((row2 _ k).trans ?_)
  rw [blk7]; exact kM2 _ _ _ _ _
theorem tB_row (t : Fin cfg0.N) : one10 (tB m c t) = fun k => a9 m c (ix2 (bt t) k) := by
  funext k
  refine (pay4_at _ k).trans ((row3 _ k).trans ?_)
  rw [blk7]; exact kM3 _ _ _ _ _
theorem tC_row (t : Fin cfg0.N) : one10 (tC m c t) = fun k => a10 m c (ix2 (bt t) k) := by
  funext k
  refine (pay5_at _ k).trans ((row4 _ k).trans ?_)
  rw [blk7]; exact kM4 _ _ _ _ _
theorem tX_row (t : Fin cfg0.N) (r : Fin 512) : row10 (tX m c t) r = tok10 (a0 m c) (bt t) (st t r) := by
  funext k
  refine (pay6_at _ r k).trans ?_
  rw [blk0]; rfl
theorem tQ_row (t : Fin cfg0.N) (r : Fin 512) : row5 (tQ m c t) r = tok5 (a3 m c) (bt t) (st t r) := by
  funext k
  refine (pay7_at _ r k).trans ?_
  rw [blk3]; rfl
theorem tY_row (t : Fin cfg0.N) (r : Fin 512) : row5 (tY m c t) r = tok5 (a4 m c) (bt t) (st t r) := by
  funext k
  refine (pay8_at _ r k).trans ?_
  rw [blk4]; rfl
theorem tR_row (t : Fin cfg0.N) : one5 (tR m c t) = fun j => a5 m c (ix1 j) := by
  funext k
  refine (pay9_at _ k).trans ?_
  rw [blk5]; exact kR_at _ _
theorem tG_row (t : Fin cfg0.N) : one10 (tG m c t) = fun k => a8 m c (ix1 k) := by
  funext k
  refine (pay10_at _ k).trans ?_
  rw [blk8]; exact kG_at _ _
theorem tW_mat (t : Fin cfg0.N) : mat (tW m c t) = fun i k => a6 m c (ix2 i k) := by
  funext i k
  refine (pay11_at _ i k).trans ?_
  rw [blk6]; rfl
theorem tO_row (t : Fin cfg0.N) (r : Fin 512) : row5 (tO m c t) r = both (a1 m c) (a2 m c) (bt t) (st t r) := by
  funext j
  refine (pay12_at _ _ r j).trans ?_
  rw [blk1, blk2]; rfl
theorem tH_at (t : Fin cfg0.N) (r : Fin 512) (e : Fin 128) : tH m c t (ix2 r e) = std (head (row5 (tO m c t) r) 0) e * one5 (tR m c t) (at4 0 e) :=
  pay15_at _ _ _ r e

theorem tZ_row (t : Fin cfg0.N) (r : Fin 512) : row10 (tZ m c t) r
    = midRow (a0 m c) (a1 m c) (a2 m c) (a3 m c) (a4 m c) (a5 m c) (a6 m c) (a7 m c) (bt t) (st t r) := by
  funext k
  refine (pay20_at _ _ _ _ _ _ _ _ r (tH_at m c t r) k).trans ?_
  rw [tX_row, tA_row, tO_row, tR_row, tQ_row, tY_row, tW_mat]; rfl

theorem canon9 (p : FVec Ideal S1x512x1024 .f32) : (View.canon [⟨r0_3, p⟩] : Vec Ideal S1x512x1024 .f32) = p := View.canon_cons_unit_lit _ _ _ (by decide)
theorem canon10 (p : FVec Ideal S1x512x1024 .bf16) : (View.canon [⟨r0_3, p⟩] : Vec Ideal S1x512x1024 .bf16) = p := View.canon_cons_unit_lit _ _ _ (by decide)

theorem point9 (t : Fin cfg0.N) (r : Fin 512) (k : Fin 1024) :
    out0_9 (iblk m c 0 t) (iblk m c 1 t) (iblk m c 2 t) (iblk m c 3 t) (iblk m c 4 t) (iblk m c 5 t) (iblk m c 6 t) (iblk m c 7 t) (iblk m c 8 t) (ix3 0 r k)
      = midRow (a0 m c) (a1 m c) (a2 m c) (a3 m c) (a4 m c) (a5 m c) (a6 m c) (a7 m c) (bt t) (st t r) k := by
  unfold_out out0_9
  rw [canon9, whole3, whole4, whole4, whole4, whole4, whole5, whole7]
  refine (pay1_at (tZ m c t) r k).trans ?_
  exact congrFun (tZ_row m c t r) k

theorem point10 (t : Fin cfg0.N) (r : Fin 512) (k : Fin 1024) :
    out0_10 (iblk m c 0 t) (iblk m c 1 t) (iblk m c 2 t) (iblk m c 3 t) (iblk m c 4 t) (iblk m c 5 t) (iblk m c 6 t) (iblk m c 7 t) (iblk m c 8 t) (ix3 0 r k)
      = hidRow (a0 m c) (a1 m c) (a2 m c) (a3 m c) (a4 m c) (a5 m c) (a6 m c) (a7 m c) (a8 m c) (a9 m c) (a10 m c) (bt t) (st t r) k := by
  unfold_out out0_10
  rw [canon10, whole3, whole4, whole4, whole4, whole4, whole5, whole6, whole7]
  have h := pay21_at (tA m c t) (tX m c t) (tQ m c t) (tY m c t) (tR m c t) (tW m c t) (tO m c t) (tH m c t) r (tH_at m c t r)
  have hz : row10 (tZ m c t) r = stream (row10 (tX m c t) r) (one10 (tA m c t)) (mix (row5 (tO m c t) r) (one5 (tR m c t)) (row5 (tQ m c t) r) (row5 (tY m c t) r)) (mat (tW m c t)) :=
    funext fun k => pay20_at _ _ _ _ _ _ _ _ r (tH_at m c t r) k
  rw [← hz] at h
  refine (pay2_at (tB m c t) (tC m c t) (tG m c t) (tZ m c t) _ r h k).trans ?_
  rw [tZ_row, tB_row, tC_row, tG_row]; rfl

theorem final9 : (dats m 0 c).arrAt 9 (cfgs 0).N = fun x : S2x2048x1024.Idx =>
    midRow (a0 m c) (a1 m c) (a2 m c) (a3 m c) (a4 m c) (a5 m c) (a6 m c) (a7 m c) (x 0) (x 1) (x 2) := by
  refine (dats m 0 c).arrAt_eq_of_covers 9 _ (by decide +kernel) fun t hf y => ?_
  blk_simp
  rw [after0_9]
  refine Eq.trans ?_ (congrFun (read9 (fun x => midRow (a0 m c) (a1 m c) (a2 m c) (a3 m c) (a4 m c) (a5 m c) (a6 m c) (a7 m c) (x 0) (x 1) (x 2)) t) y).symm
  have one : ∀ y : S1x512x1024.Idx, out0_9 (iblk m c 0 t) (iblk m c 1 t) (iblk m c 2 t) (iblk m c 3 t) (iblk m c 4 t) (iblk m c 5 t) (iblk m c 6 t) (iblk m c 7 t) (iblk m c 8 t) y
      = midRow (a0 m c) (a1 m c) (a2 m c) (a3 m c) (a4 m c) (a5 m c) (a6 m c) (a7 m c) (bt t) (st t (y 1)) (y 2) := fun y => by
    idx_vars y
    rw [Fin.eq_zero y0]
    exact point9 m c t y1 y2
  exact one y

theorem final10 : (dats m 0 c).arrAt 10 (cfgs 0).N = fun x : S2x2048x1024.Idx =>
    hidRow (a0 m c) (a1 m c) (a2 m c) (a3 m c) (a4 m c) (a5 m c) (a6 m c) (a7 m c) (a8 m c) (a9 m c) (a10 m c) (x 0) (x 1) (x 2) := by
  refine (dats m 0 c).arrAt_eq_of_covers 10 _ (by decide +kernel) fun t hf y => ?_
  blk_simp
  rw [after0_10]
  refine Eq.trans ?_ (congrFun (read10 (fun x => hidRow (a0 m c) (a1 m c) (a2 m c) (a3 m c) (a4 m c) (a5 m c) (a6 m c) (a7 m c) (a8 m c) (a9 m c) (a10 m c) (x 0) (x 1) (x 2)) t) y).symm
  have one : ∀ y : S1x512x1024.Idx, out0_10 (iblk m c 0 t) (iblk m c 1 t) (iblk m c 2 t) (iblk m c 3 t) (iblk m c 4 t) (iblk m c 5 t) (iblk m c 6 t) (iblk m c 7 t) (iblk m c 8 t) y
      = hidRow (a0 m c) (a1 m c) (a2 m c) (a3 m c) (a4 m c) (a5 m c) (a6 m c) (a7 m c) (a8 m c) (a9 m c) (a10 m c) (bt t) (st t (y 1)) (y 2) := fun y => by
    idx_vars y
    rw [Fin.eq_zero y0]
    exact point10 m c t y1 y2
  exact one y

end Cert.Kernel6Ideal.Gate

end
-- ==== Proof.GateClaim.lean ====
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.GateVal
public import Idealize.ShloMosaic.Lib.Claim
public import Idealize.ShloMosaic.Lib.Quiescent
public import Idealize.ShloMosaic.Adequacy
public import Idealize.ShloMosaic.Init

/-! The claims about the forward call with the head norms, the output projection and the second norm. -/

@[expose] public section

set_option maxRecDepth 16384

noncomputable section

namespace Cert.Proof.Gate

open Idealize.ShloMosaic Idealize.SL.Sem

/-- The kernel runs and leaves its arguments as they were. -/
theorem frame_kernel : Cert.quiescent_Kernel6 := fun m g _ => Cert.Kernel6.Gen.frame m g

/-- So does its ideal reading. -/
theorem frame_kernelIdeal : Cert.quiescent_Kernel6Ideal := fun m g _ => Cert.Kernel6Ideal.Gen.frame m g

/-- And the reference. -/
theorem frame_reference : Cert.quiescent_Reference6Ideal := by
  intro m g _
  exact (θ_run _ _ _).mono (fun r h => ⟨fun c => (h c).2.2, sem_eq_zero_of_no_sems (by decide) _⟩) (Cert.Reference6Ideal.Value.run m g)

set_option maxHeartbeats 1600000 in
/-- The kernel's two results are the reference's. -/
theorem algebraic : Cert.algebraic_Kernel6Ideal_Reference6Ideal := by
  pair_intro
  · run_from Cert.Kernel6Ideal.Gen.run_main m g
  · refine (θ_run _ _ _).mono (fun r h c => ?_) (Cert.Reference6Ideal.Gate.run_ref m' g')
    obtain ⟨e0, e1, e2, e3, e4, e5, e6, e7, e8, e9, e10⟩ := hagree c
    obtain ⟨h0, h1, hf⟩ := h c
    simp only [Cert.Reference6Ideal.Gate.a0, Cert.Reference6Ideal.Gate.a1, Cert.Reference6Ideal.Gate.a2, Cert.Reference6Ideal.Gate.a3,
      Cert.Reference6Ideal.Gate.a4, Cert.Reference6Ideal.Gate.a5, Cert.Reference6Ideal.Gate.a6, Cert.Reference6Ideal.Gate.a7,
      Cert.Reference6Ideal.Gate.a8, Cert.Reference6Ideal.Gate.a9, Cert.Reference6Ideal.Gate.a10] at h0 h1
    rw [e0, e1, e2, e3, e4, e5, e6, e7] at h0
    rw [e0, e1, e2, e3, e4, e5, e6, e7, e8, e9, e10] at h1
    exact ⟨(h0.trans (Cert.Reference6Ideal.Gate.ref_mid _ _ _ _ _ _ _ _)).trans (Cert.Kernel6Ideal.Gate.final9 m c).symm,
      (h1.trans (Cert.Reference6Ideal.Gate.ref_hid _ _ _ _ _ _ _ _ _ _ _)).trans (Cert.Kernel6Ideal.Gate.final10 m c).symm, hf⟩

end Cert.Proof.Gate

end
-- ==== Proof.BackMath.lean ====
module

public import proofs.«01_k».proof.Proof.GateMath

/-! The gradients of the residual stream, of the gate and of the other group of heads, on the rows of a token. -/

@[expose] public section

noncomputable section

namespace Cert.Back

open Idealize.ShloMosaic

section
variable (z g sc dh dm : Fin 1024 → EReal)

/-- The gradient of the normed row. -/
def lift (k : Fin 1024) : EReal := dh k * (1 + sc k) * g k

/-- What the mean of the squares hands back to each square. -/
def pull : EReal :=
  Ideal.div ((∑ k, z k * lift g sc dh k) * (Ideal.ofBits .f32 0xBF000000#32 * Ideal.div (Cert.Loss.inv z) (Cert.Loss.ms z))) (Ideal.ofBits .f32 0x44800000#32)

/-- The gradient of the residual stream. -/
def dZ (k : Fin 1024) : EReal := dm k + lift g sc dh k * Cert.Loss.inv z + z k * pull z g sc dh + pull z g sc dh * z k
end

/-- The gradient of the hidden row. -/
def dHid (W : Fin 1024 → Fin 4096 → EReal) (da : Fin 4096 → EReal) (k : Fin 1024) : EReal := ∑ f, da f * W k f

/-- The gradient of the mixed row. -/
def dMix (W : Fin 1024 → Fin 1024 → EReal) (a dz : Fin 1024 → EReal) (j : Fin 1024) : EReal := ∑ k, a k * dz k * W j k

/-- The columns of the first group of heads, and of the other. -/
def lo (j : Fin 512) : Fin 1024 := ⟨j.val, by omega⟩
def hi (j : Fin 512) : Fin 1024 := ⟨512 + j.val, by omega⟩

/-- The gradient of the gate. -/
def dGate (n d r : EReal) : EReal := n * d * Ideal.logistic r + r * (n * d) * (Ideal.logistic r * (1 - Ideal.logistic r))

end Cert.Back

end
-- ==== Proof.BackPay.lean ====
module

public import proofs.«01_k».proof.Proof.Gen.Kernel7Ideal.Skeleton
public import proofs.«01_k».proof.Proof.BackMath

/-! What the body of the backward call makes of its blocks of 256 tokens. -/

@[expose] public section

set_option maxRecDepth 16384

noncomputable section

namespace Cert.Kernel7Ideal.Back

open Cert.Kernel7Ideal Cert.Kernel7Ideal.Gen Idealize.ShloMosaic Idealize.ShloMosaic.TcCoe Idealize.SL.Sem Cert.Gate Cert.Back

/-- A row of a tile. -/
def row5 (v : FVec Ideal S256x512 .f32) (r : Fin 256) (j : Fin 512) : EReal := v (ix2 r j)
def row10 (v : FVec Ideal S256x1024 .f32) (r : Fin 256) (j : Fin 1024) : EReal := v (ix2 r j)
def one5 (v : FVec Ideal S1x512 .f32) (j : Fin 512) : EReal := v (ix2 0 j)
def one10 (v : FVec Ideal S1x1024 .f32) (j : Fin 1024) : EReal := v (ix2 0 j)
def mat (v : FVec Ideal S1024x1024 .bf16) (i j : Fin 1024) : EReal := v (ix2 i j)

section
variable (g : FVec Ideal S1x512 .f32) (o : FVec Ideal S256x512 .f32) (p : Vec Ideal S1x256x512 .f32)

theorem pay16_at (r : Fin 256) (j : Fin 512) : k0_pay16 o p (ix2 r j) = (o (ix2 r j) + p (ix3 0 r j) : EReal) := by
  pointwise [k0_pay16]

theorem pay27_at (r : Fin 256) (e : Fin 128) : k0_pay27 o g p (ix2 r e) = std (head (row5 (k0_pay16 o p) r) 0) e * one5 g (at4 0 e) := by
  unfold k0_pay27 k0_pay25 k0_pay26 k0_pay23 k0_pay22 k0_pay21 k0_pay19 k0_pay18 k0_pay17
  generalize k0_pay16 o p = v
  have hh : head (row5 v r) 0 = fun e : Fin 128 => v (ix2 r ⟨e.val, by omega⟩) :=
    funext fun e => congrArg (fun j => v (ix2 r j)) (Fin.ext (by show 0 * 128 + e.val = e.val; omega))
  have hg : one5 g (at4 0 e) = g (ix2 0 ⟨e.val, by omega⟩) := congrArg (fun j => g (ix2 0 j)) (Fin.ext (by show 0 * 128 + e.val = e.val; omega))
  rw [hh, hg]
  pointwise
  rfl

theorem pay39_at (r : Fin 256) (e : Fin 128) :
    k0_pay39 g (k0_pay28 o p) (k0_pay29 o p) (k0_pay32 o p) (Scalar.ofBits .f32 0x43000000#32) (ix2 r e)
      = std (head (row5 (k0_pay16 o p) r) 1) e * one5 g (at4 1 e) := by
  unfold k0_pay39 k0_pay38 k0_pay37 k0_pay35 k0_pay34 k0_pay33 k0_pay32 k0_pay30 k0_pay29 k0_pay28
  generalize k0_pay16 o p = v
  pointwise
  rfl
end

section
variable (g : FVec Ideal S1x512 .f32) (v : FVec Ideal S256x512 .f32)

theorem pay50_at (r : Fin 256) (e : Fin 128) : k0_pay50 g v (ix2 r e) = std (head (row5 v r) 2) e * one5 g (at4 2 e) := by
  pointwise [k0_pay50, k0_pay49, k0_pay48, k0_pay46, k0_pay45, k0_pay44, k0_pay42, k0_pay41, k0_pay40]
  rfl

/-- The fourth head's row. -/
def fourth : FVec Ideal S256x128 .f32 :=
  mulf (k0_pay59 (k0_pay51 v) (k0_pay52 v) (k0_pay53 v)) (broadcastTo S256x128 (k0_pay60 g) broadcasts_S1x128_S256x128)
theorem fourth_at (r : Fin 256) (e : Fin 128) : fourth g v (ix2 r e) = std (head (row5 v r) 3) e * one5 g (at4 3 e) := by
  pointwise [fourth, k0_pay60, k0_pay59, k0_pay57, k0_pay56, k0_pay55, k0_pay53, k0_pay52, k0_pay51]
  rfl

theorem pay61_at (a b c : FVec Ideal S256x128 .f32) (r : Fin 256)
    (ha : ∀ e, a (ix2 r e) = std (head (row5 v r) 0) e * one5 g (at4 0 e)) (hb : ∀ e, b (ix2 r e) = std (head (row5 v r) 1) e * one5 g (at4 1 e))
    (hc : ∀ e, c (ix2 r e) = std (head (row5 v r) 2) e * one5 g (at4 2 e)) (j : Fin 512) :
    k0_pay61 g a b c (k0_pay51 v) (k0_pay52 v) (k0_pay53 v) (ix2 r j) = normed (row5 v r) (one5 g) j := by
  have e : k0_pay61 g a b c (k0_pay51 v) (k0_pay52 v) (k0_pay53 v)
      = concatenate S256x512 1 [⟨S256x128, a⟩, ⟨S256x128, b⟩, ⟨S256x128, c⟩, ⟨S256x128, fourth g v⟩] concatenates_S256x128_S256x128_S256x128_S256x128_S256x512_d1 := rfl
  rw [e]
  have hd' := fourth_at g v r
  generalize fourth g v = d at hd' ⊢
  pointwise
  simp only [ha, hb, hc, hd']
  refine (four_heads (fun h e => std (head (row5 v r) h) e * one5 g (at4 h e)) j).trans ?_
  unfold normed
  rw [at4_hd_ln]
end

section
variable (a : FVec Ideal S1x1024 .f32) (w : FVec Ideal S1024x1024 .bf16) (x : FVec Ideal S256x1024 .f32) (q y : FVec Ideal S256x512 .f32) (g : FVec Ideal S1x512 .f32)
  (o : FVec Ideal S256x512 .f32) (p : Vec Ideal S1x256x512 .f32)

/-- The normed heads, the residual stream, one over its root, and the slope of that, on a tile. -/
def pN : FVec Ideal S256x512 .f32 :=
  k0_pay61 g (k0_pay27 o g p) (k0_pay39 g (k0_pay28 o p) (k0_pay29 o p) (k0_pay32 o p) (Scalar.ofBits .f32 0x43000000#32))
    (k0_pay50 g (k0_pay16 o p)) (k0_pay51 (k0_pay16 o p)) (k0_pay52 (k0_pay16 o p)) (k0_pay53 (k0_pay16 o p))
def pZ : FVec Ideal S256x1024 .f32 :=
  k0_pay67 a w x q y g (k0_pay27 o g p) (k0_pay39 g (k0_pay28 o p) (k0_pay29 o p) (k0_pay32 o p) (Scalar.ofBits .f32 0x43000000#32))
    (k0_pay50 g (k0_pay16 o p)) (k0_pay51 (k0_pay16 o p)) (k0_pay52 (k0_pay16 o p)) (k0_pay53 (k0_pay16 o p))
def pInv : FVec Ideal S256x1 .f32 :=
  k0_pay69 a w x q y g (k0_pay27 o g p) (k0_pay39 g (k0_pay28 o p) (k0_pay29 o p) (k0_pay32 o p) (Scalar.ofBits .f32 0x43000000#32))
    (k0_pay50 g (k0_pay16 o p)) (k0_pay51 (k0_pay16 o p)) (k0_pay52 (k0_pay16 o p)) (k0_pay53 (k0_pay16 o p))
def pSlope : FVec Ideal S256x1 .f32 :=
  k0_pay70 a w x q y g (k0_pay27 o g p) (k0_pay39 g (k0_pay28 o p) (k0_pay29 o p) (k0_pay32 o p) (Scalar.ofBits .f32 0x43000000#32))
    (k0_pay50 g (k0_pay16 o p)) (k0_pay51 (k0_pay16 o p)) (k0_pay52 (k0_pay16 o p)) (k0_pay53 (k0_pay16 o p))

theorem pN_at (r : Fin 256) (j : Fin 512) : pN g o p (ix2 r j) = normed (row5 (k0_pay16 o p) r) (one5 g) j :=
  pay61_at g (k0_pay16 o p) _ _ _ r (pay27_at g o p r) (pay39_at g o p r) (pay50_at g _ r) j

/-- The gated rows beside the other heads. -/
def mixed (n : FVec Ideal S256x512 .f32) : FVec Ideal S256x1024 .bf16 :=
  truncf .bf16 (concatenate S256x1024 1 [⟨S256x512, mulf n (mulf q (logistic q))⟩, ⟨S256x512, y⟩] concatenates_S256x512_S256x512_S256x1024_d1) bitsLt_bf16_f32
theorem mixed_at (n : FVec Ideal S256x512 .f32) (r : Fin 256) (u h : Fin 512 → EReal) (hn : ∀ j, n (ix2 r j) = normed u h j) (j : Fin 1024) :
    mixed q y n (ix2 r j) = mix u h (row5 q r) (row5 y r) j := by
  pointwise [mixed]
  unfold mix
  by_cases h : j.val < 512
  · rw [dif_pos h, dif_pos h, hn]; rfl
  · rw [dif_neg h, dif_neg h]; rfl

theorem pZ_at (r : Fin 256) (k : Fin 1024) :
    pZ a w x q y g o p (ix2 r k) = stream (row10 x r) (one10 a) (mix (row5 (k0_pay16 o p) r) (one5 g) (row5 q r) (row5 y r)) (mat w) k := by
  have e : pZ a w x q y g o p = addf x (mulf (broadcastTo S256x1024 a broadcasts_S1x1024_S256x1024) (matmul dot_S256x1024_S1024x1024_S256x1024_1_0_0_1_n_n none
      (mixed q y (pN g o p)) w (constant S256x1024 .f32 0x00000000#32))) := rfl
  rw [e]
  have hm := mixed_at q y (pN g o p) r _ _ (pN_at g o p r)
  generalize mixed q y (pN g o p) = M at hm ⊢
  pointwise
  simp only [hm]
  rfl

/-- The mean of a tile's squares. -/
def msT (z : FVec Ideal S256x1024 .f32) : FVec Ideal S256x1 .f32 :=
  addf (divf (shapeCast S256x1 (multiReduction .add [1] S256 (mulf z z) 0x00000000#32 reduces_S256x1024_S256 (.inl rfl) rfl) shapeCasts_S256_S256x1)
    (broadcast S256x1 (Scalar.ofBits .f32 0x44800000#32))) (broadcast S256x1 (Scalar.ofBits .f32 0x358637BD#32))
theorem msT_at (z : FVec Ideal S256x1024 .f32) (r : Fin 256) : msT z (ix2 r 0) = Cert.Loss.ms (row10 z r) := by
  pointwise [msT]
  rfl
theorem pInv_at (r : Fin 256) : pInv a w x q y g o p (ix2 r 0) = Cert.Loss.inv (row10 (pZ a w x q y g o p) r) := by
  have e : pInv a w x q y g o p = rsqrt (msT (pZ a w x q y g o p)) := rfl
  rw [e]
  have h := msT_at (pZ a w x q y g o p) r
  generalize msT (pZ a w x q y g o p) = M at h ⊢
  pointwise
  rw [h]; rfl
theorem pSlope_at (r : Fin 256) : pSlope a w x q y g o p (ix2 r 0)
    = Ideal.ofBits .f32 0xBF000000#32 * Ideal.div (Cert.Loss.inv (row10 (pZ a w x q y g o p) r)) (Cert.Loss.ms (row10 (pZ a w x q y g o p) r)) := by
  have e : pSlope a w x q y g o p = mulf (broadcast S256x1 (Scalar.ofBits .f32 0xBF000000#32)) (divf (rsqrt (msT (pZ a w x q y g o p))) (msT (pZ a w x q y g o p))) := rfl
  rw [e]
  have h := msT_at (pZ a w x q y g o p) r
  generalize msT (pZ a w x q y g o p) = M at h ⊢
  pointwise
  rw [h]; rfl
end

section
variable (a c : FVec Ideal S1x1024 .f32) (w : FVec Ideal S1024x1024 .bf16) (d : FVec Ideal S256x1024 .f32) (G : FVec Ideal S1x1024 .f32) (z : FVec Ideal S256x1024 .f32)
  (i s : FVec Ideal S256x1 .f32) (D : Vec Ideal S1x256x1024 .f32) (r : Fin 256)

/-- A row of the gradient that comes in. -/
def inRow (k : Fin 1024) : EReal := D (ix3 0 r k)

def pLift : FVec Ideal S256x1024 .f32 :=
  mulf (k0_pay75 c d (Scalar.ofBits .f32 0x3F800000#32)) (broadcastTo S256x1024 G broadcasts_S1x1024_S256x1024)
theorem pLift_at (k : Fin 1024) : pLift c d G (ix2 r k) = lift (one10 G) (one10 c) (row10 d r) k := by
  pointwise [pLift, k0_pay75]
  rfl

def pPull (l : FVec Ideal S256x1024 .f32) : FVec Ideal S256x1 .f32 :=
  divf (mulf (shapeCast S256x1 (multiReduction .add [1] S256 (mulf z l) 0x00000000#32 reduces_S256x1024_S256 (.inl rfl) rfl) shapeCasts_S256_S256x1) s)
    (broadcast S256x1 (Scalar.ofBits .f32 0x44800000#32))
def pPulls (u : FVec Ideal S256x1 .f32) : FVec Ideal S256x1024 .f32 :=
  broadcastTo S256x1024 (shapeCast S256x1 (multiReduction .add [1] S256 u 0x00000000#32 reduces_S256x1_S256 (.inl rfl) rfl) shapeCasts_S256_S256x1) broadcasts_S256x1_S256x1024
def pD (l u : FVec Ideal S256x1024 .f32) : FVec Ideal S256x1024 .f32 :=
  addf (addf (addf (shapeCast S256x1024 D shapeCasts_S1x256x1024_S256x1024) (mulf l (broadcastTo S256x1024 i broadcasts_S256x1_S256x1024))) (mulf z u)) (mulf u z)
theorem pPull_at (l : FVec Ideal S256x1024 .f32) :
    pPull z s l (ix2 r 0) = Ideal.div ((∑ k : Fin 1024, (z (ix2 r k) * l (ix2 r k) : EReal)) * s (ix2 r 0)) (Ideal.ofBits .f32 0x44800000#32) := by
  pointwise [pPull]
theorem pPulls_at (u : FVec Ideal S256x1 .f32) (k : Fin 1024) : pPulls u (ix2 r k) = u (ix2 r 0) := by
  pointwise [pPulls]
  exact Fin.sum_univ_one fun x => u (ix2 r x)
theorem pD_at (l u : FVec Ideal S256x1024 .f32) (k : Fin 1024) :
    pD z i D l u (ix2 r k) = (D (ix3 0 r k) + l (ix2 r k) * i (ix2 r 0) + z (ix2 r k) * u (ix2 r k) + u (ix2 r k) * z (ix2 r k) : EReal) := by
  pointwise [pD]

theorem pay77_eq : k0_pay77 c d G z i s (Scalar.ofBits .f32 0x3F800000#32) D = pD z i D (pLift c d G) (pPulls (pPull z s (pLift c d G))) := rfl
theorem pay77_at (hi : i (ix2 r 0) = Cert.Loss.inv (row10 z r))
    (hs : s (ix2 r 0) = Ideal.ofBits .f32 0xBF000000#32 * Ideal.div (Cert.Loss.inv (row10 z r)) (Cert.Loss.ms (row10 z r))) (k : Fin 1024) :
    k0_pay77 c d G z i s (Scalar.ofBits .f32 0x3F800000#32) D (ix2 r k) = dZ (row10 z r) (one10 G) (one10 c) (row10 d r) (inRow D r) k := by
  rw [pay77_eq]
  have hl := pLift_at c d G r
  generalize pLift c d G = l at hl ⊢
  rw [pD_at, pPulls_at, pPull_at, hs, hi]
  simp only [hl]
  rfl

theorem pay81_at (h : FVec Ideal S256x1024 .f32) (e : h = k0_pay77 c d G z i s (Scalar.ofBits .f32 0x3F800000#32) D) (j : Fin 1024) :
    k0_pay81 a c w d G z i s (Scalar.ofBits .f32 0x3F800000#32) D (ix2 r j) = dMix (mat w) (one10 a) (row10 h r) j := by
  unfold k0_pay81 k0_pay79 k0_pay78
  rw [← e]
  pointwise
  rfl
theorem pay84_at (j : Fin 512) : k0_pay84 a c w d G z i s (Scalar.ofBits .f32 0x3F800000#32) D (ix2 r j)
    = k0_pay81 a c w d G z i s (Scalar.ofBits .f32 0x3F800000#32) D (ix2 r (hi j)) := by
  unfold k0_pay84
  generalize k0_pay81 a c w d G z i s (Scalar.ofBits .f32 0x3F800000#32) D = M
  pointwise
  rfl
theorem pay83_at (j : Fin 512) : k0_pay83 a c w d G z i s (Scalar.ofBits .f32 0x3F800000#32) D (ix2 r j)
    = k0_pay81 a c w d G z i s (Scalar.ofBits .f32 0x3F800000#32) D (ix2 r (lo j)) := by
  unfold k0_pay83
  generalize k0_pay81 a c w d G z i s (Scalar.ofBits .f32 0x3F800000#32) D = M
  pointwise
  rfl
/-- The gradient of the gate on a tile. -/
def pG (n q u : FVec Ideal S256x512 .f32) : FVec Ideal S256x512 .f32 :=
  addf (mulf (mulf n u) (logistic q)) (mulf (mulf q (mulf n u)) (mulf (logistic q) (subf (broadcast S256x512 (Scalar.ofBits .f32 0x3F800000#32)) (logistic q))))
theorem pG_at (n q u : FVec Ideal S256x512 .f32) (j : Fin 512) : pG n q u (ix2 r j) = dGate (n (ix2 r j)) (u (ix2 r j)) (q (ix2 r j)) := by
  pointwise [pG]
  rfl
theorem pay88_at (n q : FVec Ideal S256x512 .f32) (j : Fin 512) :
    k0_pay88 (k0_pay62 q) (k0_pay63 q) (k0_pay85 a c w d G n z i s (Scalar.ofBits .f32 0x3F800000#32) D)
        (k0_pay87 a c w d q G n z i s (Scalar.ofBits .f32 0x3F800000#32) D) (ix2 r j)
      = dGate (n (ix2 r j)) (k0_pay81 a c w d G z i s (Scalar.ofBits .f32 0x3F800000#32) D (ix2 r (lo j))) (q (ix2 r j)) := by
  have h := pay83_at a c w d G z i s D r j
  unfold k0_pay87 k0_pay85 k0_pay88 k0_pay63 k0_pay62
  rw [← h]
  generalize k0_pay83 a c w d G z i s (Scalar.ofBits .f32 0x3F800000#32) D = M
  exact pG_at r n q M j
end

theorem pay104_at (z : FVec Ideal S256x1024 .f32) (r : Fin 256) (k : Fin 1024) : k0_pay104 z (ix3 0 r k) = z (ix2 r k) := by pointwise [k0_pay104]
theorem pay106_at (z : FVec Ideal S256x512 .f32) (r : Fin 256) (k : Fin 512) : k0_pay106 z (ix3 0 r k) = z (ix2 r k) := by pointwise [k0_pay106]
theorem pay107_at (z : FVec Ideal S256x512 .f32) (r : Fin 256) (k : Fin 512) : k0_pay107 z (ix3 0 r k) = z (ix2 r k) := by pointwise [k0_pay107]
theorem pay6_at (v : Vec Ideal S1x1x1024 .f32) (k : Fin 1024) : one10 (k0_pay6 v) k = v (ix3 0 0 k) := by unfold one10; pointwise [k0_pay6]
theorem pay7_at (v : Vec Ideal S1x1x1024 .f32) (k : Fin 1024) : one10 (k0_pay7 v) k = v (ix3 0 0 k) := by unfold one10; pointwise [k0_pay7]
theorem pay8_at (v : Vec Ideal S1024x1024 .bf16) (i j : Fin 1024) : mat (k0_pay8 v) i j = v (ix2 i j) := by unfold mat; pointwise [k0_pay8]
theorem pay9_at (v : Vec Ideal S1x256x4096 .bf16) (w : Vec Ideal S4096x1024 .bf16) (r : Fin 256) (k : Fin 1024) :
    row10 (k0_pay9 v w) r k = ∑ f : Fin 4096, (v (ix3 0 r f) * w (ix2 f k) : EReal) := by
  unfold row10
  pointwise [k0_pay9]
theorem pay10_at (v : Vec Ideal S1x256x1024 .f32) (r : Fin 256) (k : Fin 1024) : row10 (k0_pay10 v) r k = v (ix3 0 r k) := by unfold row10; pointwise [k0_pay10]
theorem pay11_at (v : Vec Ideal S1x256x512 .f32) (r : Fin 256) (j : Fin 512) : row5 (k0_pay11 v) r j = v (ix3 0 r j) := by unfold row5; pointwise [k0_pay11]
theorem pay12_at (v : Vec Ideal S1x256x512 .f32) (r : Fin 256) (j : Fin 512) : row5 (k0_pay12 v) r j = v (ix3 0 r j) := by unfold row5; pointwise [k0_pay12]
theorem pay13_at (v : Vec Ideal S1x256x512 .f32) (r : Fin 256) (j : Fin 512) : row5 (k0_pay13 v) r j = v (ix3 0 r j) := by unfold row5; pointwise [k0_pay13]
theorem pay14_at (v : Vec Ideal S1x512 .f32) (j : Fin 512) : one5 (k0_pay14 v) j = v (ix2 0 j) := by unfold one5; pointwise [k0_pay14]
theorem pay15_at (v : Vec Ideal S1x1024 .f32) (j : Fin 1024) : one10 (k0_pay15 v) j = v (ix2 0 j) := by unfold one10; pointwise [k0_pay15]

end Cert.Kernel7Ideal.Back

end
-- ==== Proof.BackRef.lean ====
module

public import proofs.«01_k».proof.Proof.Gen.Reference7Ideal.Run
public import proofs.«01_k».proof.Proof.GateRef
public import proofs.«01_k».proof.Proof.BackMath

/-! What the reference of the backward call with the output projection computes. -/

@[expose] public section

set_option maxRecDepth 16384

noncomputable section

namespace Cert.Reference7Ideal.Back

open Cert.Reference7Ideal Cert.Reference7Ideal.Gen Idealize.ShloMosaic Idealize.ShloMosaic.TcCoe Idealize.SL.Sem Cert.Gate Cert.Back
open Cert.Reference6Ideal.Gate (tok5 tok10 both midRow rMid rMid_row rMs rMs_at rNormed rSplit rNormed_at rSplit_at rRow four)

/-- A token's row of the widest arrays. -/
def tok40 (Z : FVec Ideal S2x2048x4096 .f32) (b : Fin 2) (s : Fin 2048) (f : Fin 4096) : EReal := Z (ix3 b s f)

section
variable (Z : FVec Ideal S2x2048x1024 .f32) (G : FVec Ideal S1024 .f32) (C : FVec Ideal S2x1024 .f32) (U : FVec Ideal S1024x4096 .f32)
  (D : FVec Ideal S2x2048x1024 .f32) (E : FVec Ideal S2x2048x4096 .f32)

def rLift : FVec Ideal S2x2048x1024 .f32 :=
  mulf (mulf (Host.dotGeneral dot_S2x2048x4096_S1024x4096_S2x2048x1024_2_1_01_0_n_n none E U)
      (broadcastInDim S2x2048x1024 ![0, 1, 2] bcast_S2x1x1024_S2x2048x1024_0_1_2
        (addf (broadcastInDim S2x1x1024 ![] bcast_S_S2x1x1024 (constant S_ .f32 0x3F800000#32)) (rRow C))))
    (broadcastInDim S2x2048x1024 ![0, 1, 2] bcast_S1x1x1024_S2x2048x1024_0_1_2 (broadcastInDim S1x1x1024 ![2] bcast_S1024_S1x1x1024_2 G))
def rPull (L : FVec Ideal S2x2048x1024 .f32) : FVec Ideal S2x2048x1 .f32 :=
  Host.divf (mulf (shapeCast S2x2048x1 (Host.reduceAdd (mulf Z L) (constant S_ .f32 0x00000000#32) reducesTo_S2x2048x1024_S2x2048_d2 h_S_) shapeCasts_S2x2048_S2x2048x1)
    (mulf (broadcastInDim S2x2048x1 ![] bcast_S_S2x2048x1 (constant S_ .f32 0xBF000000#32)) (Host.divf (Host.rsqrt (rMs Z)) (rMs Z))))
    (broadcastInDim S2x2048x1 ![] bcast_S_S2x2048x1 (constant S_ .f32 0x44800000#32))
def rPulls (P : FVec Ideal S2x2048x1 .f32) : FVec Ideal S2x2048x1024 .f32 :=
  broadcastInDim S2x2048x1024 ![0, 1] bcast_S2x2048_S2x2048x1024_0_1
    (Host.reduceAdd P (constant S_ .f32 0x00000000#32) reducesTo_S2x2048x1_S2x2048_d2 h_S_)
def rDZ (L P : FVec Ideal S2x2048x1024 .f32) : FVec Ideal S2x2048x1024 .f32 :=
  addf (addf (addf D (mulf L (broadcastInDim S2x2048x1024 ![0, 1, 2] bcast_S2x2048x1_S2x2048x1024_0_1_2 (Host.rsqrt (rMs Z))))) (mulf Z P)) (mulf P Z)

/-- A token's row of the gradient that comes in, and of the one that goes on. -/
def hidIn (b : Fin 2) (s : Fin 2048) : Fin 1024 → EReal := dHid (fun k f => U (ix2 k f)) (tok40 E b s)
def outRow (z : Fin 1024 → EReal) (b : Fin 2) (s : Fin 2048) : Fin 1024 → EReal :=
  dZ z (fun k => G (ix1 k)) (fun k => C (ix2 b k)) (hidIn U E b s) (tok10 D b s)

theorem rLift_at (b : Fin 2) (s : Fin 2048) (k : Fin 1024) :
    rLift G C U E (ix3 b s k) = lift (fun k => G (ix1 k)) (fun k => C (ix2 b k)) (hidIn U E b s) k := by
  pointwise [rLift, rRow]
  rfl
theorem rPull_at (b : Fin 2) (s : Fin 2048) : rPull Z (rLift G C U E) (ix3 b s 0)
    = pull (tok10 Z b s) (fun k => G (ix1 k)) (fun k => C (ix2 b k)) (hidIn U E b s) := by
  have hl := rLift_at G C U E b s
  generalize rLift G C U E = L at hl ⊢
  have hm := rMs_at Z b s
  unfold rPull
  generalize rMs Z = M at hm ⊢
  pointwise
  rw [hm]
  simp only [hl]; rfl
theorem rPulls_at (P : FVec Ideal S2x2048x1 .f32) (b : Fin 2) (s : Fin 2048) (k : Fin 1024) : rPulls P (ix3 b s k) = P (ix3 b s 0) := by
  pointwise [rPulls]
  exact Fin.sum_univ_one fun x => P (ix3 b s x)

def rOut : FVec Ideal S2x2048x1024 .f32 := rDZ Z D (rLift G C U E) (rPulls (rPull Z (rLift G C U E)))
theorem rOut_at (b : Fin 2) (s : Fin 2048) (k : Fin 1024) : rOut Z G C U D E (ix3 b s k) = outRow G C U D E (tok10 Z b s) b s k := by
  have hp : rPulls (rPull Z (rLift G C U E)) (ix3 b s k) = _ := (rPulls_at _ b s k).trans (rPull_at Z G C U E b s)
  have hl := rLift_at G C U E b s k
  unfold rOut
  generalize rPulls (rPull Z (rLift G C U E)) = P at hp ⊢
  generalize rLift G C U E = L at hl ⊢
  have hm := rMs_at Z b s
  unfold rDZ
  generalize rMs Z = M at hm ⊢
  pointwise
  rw [hm, hp, hl]
  rfl
end

section
variable (A : FVec Ideal S2x1024 .f32) (W : FVec Ideal S1024x1024 .f32) (V : FVec Ideal S2x2048x1024 .f32) (N Q : FVec Ideal S2x2048x512 .f32)
def rDMix : FVec Ideal S2x2048x1024 .f32 :=
  Host.dotGeneral dot_S2x2048x1024_S1024x1024_S2x2048x1024_2_1_01_0_n_n none
    (mulf (broadcastInDim S2x2048x1024 ![0, 1, 2] bcast_S2x1x1024_S2x2048x1024_0_1_2 (rRow A)) (shapeCast S2x2048x1024 V shapeCasts_S2x2048x1024_S2x2048x1024)) W
theorem rDMix_at (b : Fin 2) (s : Fin 2048) (j : Fin 1024) :
    rDMix A W V (ix3 b s j) = dMix (fun i k => W (ix2 i k)) (fun k => A (ix2 b k)) (tok10 V b s) j := by
  pointwise [rDMix, rRow]
  rfl
def rDY (M : FVec Ideal S2x2048x1024 .f32) : FVec Ideal S2x2048x512 .f32 :=
  extractStridedSlice S2x2048x512 ![0, 0, 512] M slices_S2x2048x1024_S2x2048x512_0_0_512
def rDN (M : FVec Ideal S2x2048x1024 .f32) : FVec Ideal S2x2048x512 .f32 :=
  extractStridedSlice S2x2048x512 ![0, 0, 0] M slices_S2x2048x1024_S2x2048x512_0_0_0
theorem rDY_at (M : FVec Ideal S2x2048x1024 .f32) (b : Fin 2) (s : Fin 2048) (j : Fin 512) : rDY M (ix3 b s j) = M (ix3 b s (hi j)) := by
  pointwise [rDY]
  rfl
theorem rDN_at (M : FVec Ideal S2x2048x1024 .f32) (b : Fin 2) (s : Fin 2048) (j : Fin 512) : rDN M (ix3 b s j) = M (ix3 b s (lo j)) := by
  pointwise [rDN]
  rfl
def rSig : FVec Ideal S2x2048x512 .f32 :=
  Host.divf (broadcastInDim S2x2048x512 ![] bcast_S_S2x2048x512 (constant S_ .f32 0x3F800000#32))
    (addf (broadcastInDim S2x2048x512 ![] bcast_S_S2x2048x512 (constant S_ .f32 0x3F800000#32)) (Host.exp (Host.negf Q)))
theorem rSig_at (b : Fin 2) (s : Fin 2048) (j : Fin 512) : rSig Q (ix3 b s j) = Ideal.logistic (Q (ix3 b s j)) := by
  pointwise [rSig]
  rfl
def rDGate (R : FVec Ideal S2x2048x512 .f32) : FVec Ideal S2x2048x512 .f32 :=
  addf (mulf (mulf N R) (rSig Q)) (mulf (mulf Q (mulf N R))
    (mulf (rSig Q) (subf (broadcastInDim S2x2048x512 ![] bcast_S_S2x2048x512 (constant S_ .f32 0x3F800000#32)) (rSig Q))))
theorem rDGate_at (R : FVec Ideal S2x2048x512 .f32) (b : Fin 2) (s : Fin 2048) (j : Fin 512) :
    rDGate N Q R (ix3 b s j) = dGate (N (ix3 b s j)) (R (ix3 b s j)) (Q (ix3 b s j)) := by
  have h := rSig_at Q b s j
  unfold rDGate
  generalize rSig Q = T at h ⊢
  pointwise
  rw [h]
  rfl
end

section
variable (X : FVec Ideal S2x2048x1024 .f32) (O P Q Y : FVec Ideal S2x2048x512 .f32) (g : FVec Ideal S512 .f32) (W : FVec Ideal S1024x1024 .f32)
  (A : FVec Ideal S2x1024 .f32) (G : FVec Ideal S1024 .f32) (C : FVec Ideal S2x1024 .f32) (U : FVec Ideal S1024x4096 .f32)
  (D : FVec Ideal S2x2048x1024 .f32) (E : FVec Ideal S2x2048x4096 .f32)

/-- A token's rows of the three results. -/
def dxRow (b : Fin 2) (s : Fin 2048) : Fin 1024 → EReal := outRow G C U D E (midRow X O P Q Y g W A b s) b s
def dmRow (b : Fin 2) (s : Fin 2048) : Fin 1024 → EReal :=
  dMix (fun i k => W (ix2 i k)) (fun k => A (ix2 b k)) (dxRow X O P Q Y g W A G C U D E b s)
def dyRow (b : Fin 2) (s : Fin 2048) (j : Fin 512) : EReal := dmRow X O P Q Y g W A G C U D E b s (hi j)
def dgRow (b : Fin 2) (s : Fin 2048) (j : Fin 512) : EReal :=
  dGate (normed (both O P b s) (fun j => g (ix1 j)) j) (dmRow X O P Q Y g W A G C U D E b s (lo j)) (tok5 Q b s j)

def rX : FVec Ideal S2x2048x1024 .f32 := rOut (rMid X O P Q Y g W A) G C U D E
def rM : FVec Ideal S2x2048x1024 .f32 := rDMix A W (rX X O P Q Y g W A G C U D E)

theorem rX_row (b : Fin 2) (s : Fin 2048) : tok10 (rX X O P Q Y g W A G C U D E) b s = dxRow X O P Q Y g W A G C U D E b s := by
  funext k
  refine (rOut_at _ G C U D E b s k).trans ?_
  rw [rMid_row]; rfl
theorem rM_at (b : Fin 2) (s : Fin 2048) (j : Fin 1024) : rM X O P Q Y g W A G C U D E (ix3 b s j) = dmRow X O P Q Y g W A G C U D E b s j := by
  refine (rDMix_at A W _ b s j).trans ?_
  rw [rX_row]; rfl

/-- The reference's three results, a row a token. -/
theorem ref_x : rX X O P Q Y g W A G C U D E = fun x : S2x2048x1024.Idx => dxRow X O P Q Y g W A G C U D E (x 0) (x 1) (x 2) := by
  funext x
  idx_vars x
  exact congrFun (rX_row X O P Q Y g W A G C U D E x0 x1) x2
theorem ref_y : rDY (rM X O P Q Y g W A G C U D E) = fun x : S2x2048x512.Idx => dyRow X O P Q Y g W A G C U D E (x 0) (x 1) (x 2) := by
  funext x
  idx_vars x
  exact (rDY_at _ x0 x1 x2).trans (rM_at X O P Q Y g W A G C U D E x0 x1 (hi x2))
theorem ref_g : rDGate (rNormed (rSplit O P) g) Q (rDN (rM X O P Q Y g W A G C U D E))
    = fun x : S2x2048x512.Idx => dgRow X O P Q Y g W A G C U D E (x 0) (x 1) (x 2) := by
  funext x
  idx_vars x
  refine (rDGate_at _ Q _ x0 x1 x2).trans ?_
  rw [rDN_at, rM_at, rNormed_at]
  have hz : ∀ h, four (rSplit O P) x0 x1 h = head (both O P x0 x1) h := fun h => funext fun e => rSplit_at O P x0 x1 h e
  rw [hz]; rfl
end

section
variable (m : (ℓ : Loc nD τ sig) → Buf (Elt Ideal) ℓ) (c : Dev nD)
abbrev a0 : FVec Ideal S2x2048x1024 .f32 := m ((c.tc : Thread nD τ).loc main_arg0)
abbrev a1 : FVec Ideal S2x2048x512 .f32 := m ((c.tc : Thread nD τ).loc main_arg1)
abbrev a2 : FVec Ideal S2x2048x512 .f32 := m ((c.tc : Thread nD τ).loc main_arg2)
abbrev a3 : FVec Ideal S2x2048x512 .f32 := m ((c.tc : Thread nD τ).loc main_arg3)
abbrev a4 : FVec Ideal S2x2048x512 .f32 := m ((c.tc : Thread nD τ).loc main_arg4)
abbrev a5 : FVec Ideal S512 .f32 := m ((c.tc : Thread nD τ).loc main_arg5)
abbrev a6 : FVec Ideal S1024x1024 .f32 := m ((c.tc : Thread nD τ).loc main_arg6)
abbrev a7 : FVec Ideal S2x1024 .f32 := m ((c.tc : Thread nD τ).loc main_arg7)
abbrev a8 : FVec Ideal S1024 .f32 := m ((c.tc : Thread nD τ).loc main_arg8)
abbrev a10 : FVec Ideal S2x1024 .f32 := m ((c.tc : Thread nD τ).loc main_arg10)
abbrev a11 : FVec Ideal S1024x4096 .f32 := m ((c.tc : Thread nD τ).loc main_arg11)
abbrev a12 : FVec Ideal S2x2048x1024 .f32 := m ((c.tc : Thread nD τ).loc main_arg12)
abbrev a13 : FVec Ideal S2x2048x4096 .f32 := m ((c.tc : Thread nD τ).loc main_arg13)

/-- The first result, and the gradient of the mixed rows, of the arguments. -/
abbrev fX : FVec Ideal S2x2048x1024 .f32 := rX (a0 m c) (a1 m c) (a2 m c) (a3 m c) (a4 m c) (a5 m c) (a6 m c) (a7 m c) (a8 m c) (a10 m c) (a11 m c) (a12 m c) (a13 m c)
abbrev fM : FVec Ideal S2x2048x1024 .f32 := rM (a0 m c) (a1 m c) (a2 m c) (a3 m c) (a4 m c) (a5 m c) (a6 m c) (a7 m c) (a8 m c) (a10 m c) (a11 m c) (a12 m c) (a13 m c)

/-- The reference runs to the three results. -/
theorem run_ref (ρ : Dev nD → PrngReg) :
    θ_run defs (onTc (τ := τ) (main (F := Ideal))) ⟨m, fun _ => 0, ρ⟩ fun r => ∀ c : Dev nD,
      r.2.mem ((c.tc : Thread nD τ).loc main_v77) = fX m c
      ∧ r.2.mem ((c.tc : Thread nD τ).loc main_v85) = rDGate (rNormed (rSplit (a1 m c) (a2 m c)) (a5 m c)) (a3 m c) (rDN (fM m c))
      ∧ r.2.mem ((c.tc : Thread nD τ).loc main_v83) = rDY (fM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run _ _ _).mono (fun _ h c => ⟨(h c).1.trans ?_, (h c).2.1.trans ?_, (h c).2.2.1.trans ?_, (h c).2.2.2⟩) (Value.run m ρ)
  · rfl
  · rfl
  · rfl
end

end Cert.Reference7Ideal.Back

end
-- ==== Proof.BackBlk.lean ====
module

public import proofs.«01_k».proof.Proof.Gen.Kernel7Ideal.Frame.Runs
public import proofs.«01_k».proof.Proof.BackPay
public import proofs.«01_k».proof.Proof.BackRef
public import Idealize.ShloMosaic.Lib.StableHlo.RunRead
public import Idealize.ShloMosaic.Lib.Pipeline.ReadBack
public import Idealize.ShloMosaic.Lib.Claim

/-! The backward call: the arrays that it reads, and its tiles as rows of the reference. -/

@[expose] public section

set_option maxRecDepth 16384

noncomputable section

namespace Cert.Kernel7Ideal.Back

open Cert.Kernel7Ideal Cert.Kernel7Ideal.Gen Idealize.ShloMosaic Idealize.ShloMosaic.TcCoe Idealize.SL.Sem Cert.Gate Cert.Back
open Cert.Reference6Ideal.Gate (tok5 tok10 both midRow)
open Cert.Reference7Ideal.Back (tok40 hidIn outRow dxRow dmRow dyRow dgRow)

variable (m : (ℓ : Loc nD τ sig) → Buf (Elt Ideal) ℓ) (c : Dev nD)

/-- The arguments, at their shapes. -/
abbrev a0 : FVec Ideal S2x2048x1024 .f32 := m ((c.tc : Thread nD τ).loc main_arg0)
abbrev a1 : FVec Ideal S2x2048x512 .f32 := m ((c.tc : Thread nD τ).loc main_arg1)
abbrev a2 : FVec Ideal S2x2048x512 .f32 := m ((c.tc : Thread nD τ).loc main_arg2)
abbrev a3 : FVec Ideal S2x2048x512 .f32 := m ((c.tc : Thread nD τ).loc main_arg3)
abbrev a4 : FVec Ideal S2x2048x512 .f32 := m ((c.tc : Thread nD τ).loc main_arg4)
abbrev a5 : FVec Ideal S512 .f32 := m ((c.tc : Thread nD τ).loc main_arg5)
abbrev a6 : FVec Ideal S1024x1024 .f32 := m ((c.tc : Thread nD τ).loc main_arg6)
abbrev a7 : FVec Ideal S2x1024 .f32 := m ((c.tc : Thread nD τ).loc main_arg7)
abbrev a8 : FVec Ideal S1024 .f32 := m ((c.tc : Thread nD τ).loc main_arg8)
abbrev a9 : FVec Ideal S2x1024 .f32 := m ((c.tc : Thread nD τ).loc main_arg9)
abbrev a10 : FVec Ideal S2x1024 .f32 := m ((c.tc : Thread nD τ).loc main_arg10)
abbrev a11 : FVec Ideal S1024x4096 .f32 := m ((c.tc : Thread nD τ).loc main_arg11)
abbrev a12 : FVec Ideal S2x2048x1024 .f32 := m ((c.tc : Thread nD τ).loc main_arg12)
abbrev a13 : FVec Ideal S2x2048x4096 .f32 := m ((c.tc : Thread nD τ).loc main_arg13)

/-- The gains as rows, the three rows of the modulation in their places among the eight, and the weight turned. -/
def kR (g : FVec Ideal S512 .f32) : FVec Ideal S1x512 .f32 := shapeCast S1x512 g shapeCasts_S512_S1x512
def kG (g : FVec Ideal S1024 .f32) : FVec Ideal S1x1024 .f32 := shapeCast S1x1024 g shapeCasts_S1024_S1x1024
def kU (U : FVec Ideal S1024x4096 .f32) : FVec Ideal S4096x1024 .f32 := transpose S4096x1024 [1, 0] U transposes_S1024x4096_S4096x1024_1_0
def kM (A B C : FVec Ideal S2x1024 .f32) : FVec Ideal S2x8x1024 .f32 :=
  concatenate S2x8x1024 1 [⟨S2x2x1024, broadcastInDim S2x2x1024 ![] bcast_S_S2x2x1024 (constant S_ .f32 0x00000000#32 : FVec Ideal S_ .f32)⟩,
    ⟨S2x1x1024, broadcastInDim S2x1x1024 ![0, 2] bcast_S2x1024_S2x1x1024_0_2 A⟩,
    ⟨S2x1x1024, broadcastInDim S2x1x1024 ![0, 2] bcast_S2x1024_S2x1x1024_0_2 B⟩,
    ⟨S2x1x1024, broadcastInDim S2x1x1024 ![0, 2] bcast_S2x1024_S2x1x1024_0_2 C⟩,
    ⟨S2x3x1024, broadcastInDim S2x3x1024 ![] bcast_S_S2x3x1024 (constant S_ .f32 0x00000000#32 : FVec Ideal S_ .f32)⟩]
    concatenates_S2x2x1024_S2x1x1024_S2x1x1024_S2x1x1024_S2x3x1024_S2x8x1024_d1

theorem kR_at (g : FVec Ideal S512 .f32) (j : Fin 512) : kR g (ix2 0 j) = g (ix1 j) := by pointwise [kR]
theorem kG_at (g : FVec Ideal S1024 .f32) (k : Fin 1024) : kG g (ix2 0 k) = g (ix1 k) := by pointwise [kG]
theorem kU_at (U : FVec Ideal S1024x4096 .f32) (f : Fin 4096) (k : Fin 1024) : kU U (ix2 f k) = U (ix2 k f) := by pointwise [kU]
theorem kM2 (A B C : FVec Ideal S2x1024 .f32) (b : Fin 2) (k : Fin 1024) : kM A B C (ix3 b 2 k) = A (ix2 b k) := by pointwise [kM]
theorem kM4 (A B C : FVec Ideal S2x1024 .f32) (b : Fin 2) (k : Fin 1024) : kM A B C (ix3 b 4 k) = C (ix2 b k) := by pointwise [kM]

theorem v_r : V m c main_v0 = kR (a5 m c) := by unfold V; after_reads_simp; rfl
theorem v_w : V m c main_v1 = a6 m c := by unfold V; after_reads_simp; rfl
theorem v_m : V m c main_v7 = kM (a7 m c) (a9 m c) (a10 m c) := by unfold V; after_reads_simp; rfl
theorem v_g : V m c main_v8 = kG (a8 m c) := by unfold V; after_reads_simp; rfl
theorem v_d : V m c main_v9 = a13 m c := by unfold V; after_reads_simp; rfl
theorem v_u : V m c main_v11 = kU (a11 m c) := by unfold V; after_reads_simp; rfl

theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![t.val / 8, t.val % 8, 0]
    ∧ win0_5.index t = ![0, 0] ∧ win0_6.index t = ![0, 0] ∧ win0_7.index t = ![t.val / 8, 0, 0] ∧ win0_8.index t = ![0, 0]
    ∧ win0_9.index t = ![t.val / 8, t.val % 8, 0] ∧ win0_10.index t = ![t.val / 8, t.val % 8, 0] ∧ win0_11.index t = ![t.val / 8, t.val % 8, 0]
    ∧ win0_13.index t = ![t.val / 8, t.val % 8, 0] ∧ win0_14.index t = ![t.val / 8, t.val % 8, 0] :=
  (by decide +kernel : ∀ t : Fin grid0.N, _)

/-- The sequence and the tokens of a point. -/
def bt (t : Fin cfg0.N) : Fin 2 := ⟨t.val / 8, by have : t.val < 16 := t.isLt; omega⟩
def st (t : Fin cfg0.N) (r : Fin 256) : Fin 2048 := ⟨t.val % 8 * 256 + r, by omega⟩

theorem read0 (X : FVec Ideal S2x2048x1024 .f32) (t : Fin cfg0.N) :
    ((cfg0.win 0).blk t).view.read (Elt Ideal) X = fun y : S1x256x1024.Idx => X (ix3 (bt t) (st t (y 1)) (y 2)) := by blk_ext! [idx t, bt, st]
theorem read1 (X : FVec Ideal S2x2048x512 .f32) (t : Fin cfg0.N) :
    ((cfg0.win 1).blk t).view.read (Elt Ideal) X = fun y : S1x256x512.Idx => X (ix3 (bt t) (st t (y 1)) (y 2)) := by blk_ext! [idx t, bt, st]
theorem read2 (X : FVec Ideal S2x2048x512 .f32) (t : Fin cfg0.N) :
    ((cfg0.win 2).blk t).view.read (Elt Ideal) X = fun y : S1x256x512.Idx => X (ix3 (bt t) (st t (y 1)) (y 2)) := by blk_ext! [idx t, bt, st]
theorem read3 (X : FVec Ideal S2x2048x512 .f32) (t : Fin cfg0.N) :
    ((cfg0.win 3).blk t).view.read (Elt Ideal) X = fun y : S1x256x512.Idx => X (ix3 (bt t) (st t (y 1)) (y 2)) := by blk_ext! [idx t, bt, st]
theorem read4 (X : FVec Ideal S2x2048x512 .f32) (t : Fin cfg0.N) :
    ((cfg0.win 4).blk t).view.read (Elt Ideal) X = fun y : S1x256x512.Idx => X (ix3 (bt t) (st t (y 1)) (y 2)) := by blk_ext! [idx t, bt, st]
theorem read5 (X : FVec Ideal S1x512 .f32) (t : Fin cfg0.N) :
    ((cfg0.win 5).blk t).view.read (Elt Ideal) X = fun y : S1x512.Idx => X (ix2 (y 0) (y 1)) := by blk_ext! [idx t, bt, st]
theorem read6 (X : FVec Ideal S1024x1024 .bf16) (t : Fin cfg0.N) :
    ((cfg0.win 6).blk t).view.read (Elt Ideal) X = fun y : S1024x1024.Idx => X (ix2 (y 0) (y 1)) := by blk_ext! [idx t, bt, st]
theorem read7 (X : FVec Ideal S2x8x1024 .f32) (t : Fin cfg0.N) :
    ((cfg0.win 7).blk t).view.read (Elt Ideal) X = fun y : S1x8x1024.Idx => X (ix3 (bt t) (y 1) (y 2)) := by blk_ext! [idx t, bt, st]
theorem read8 (X : FVec Ideal S1x1024 .f32) (t : Fin cfg0.N) :
    ((cfg0.win 8).blk t).view.read (Elt Ideal) X = fun y : S1x1024.Idx => X (ix2 (y 0) (y 1)) := by blk_ext! [idx t, bt, st]
theorem read9 (X : FVec Ideal S2x2048x1024 .f32) (t : Fin cfg0.N) :
    ((cfg0.win 9).blk t).view.read (Elt Ideal) X = fun y : S1x256x1024.Idx => X (ix3 (bt t) (st t (y 1)) (y 2)) := by blk_ext! [idx t, bt, st]
theorem read10 (X : FVec Ideal S2x2048x4096 .bf16) (t : Fin cfg0.N) :
    ((cfg0.win 10).blk t).view.read (Elt Ideal) X = fun y : S1x256x4096.Idx => X (ix3 (bt t) (st t (y 1)) (y 2)) := by blk_ext! [idx t, bt, st]
theorem read11 (X : FVec Ideal S2x2048x1024 .f32) (t : Fin cfg0.N) :
    ((cfg0.win 11).blk t).view.read (Elt Ideal) X = fun y : S1x256x1024.Idx => X (ix3 (bt t) (st t (y 1)) (y 2)) := by blk_ext! [idx t, bt, st]
theorem read13 (X : FVec Ideal S2x2048x512 .f32) (t : Fin cfg0.N) :
    ((cfg0.win 13).blk t).view.read (Elt Ideal) X = fun y : S1x256x512.Idx => X (ix3 (bt t) (st t (y 1)) (y 2)) := by blk_ext! [idx t, bt, st]
theorem read14 (X : FVec Ideal S2x2048x512 .f32) (t : Fin cfg0.N) :
    ((cfg0.win 14).blk t).view.read (Elt Ideal) X = fun y : S1x256x512.Idx => X (ix3 (bt t) (st t (y 1)) (y 2)) := by blk_ext! [idx t, bt, st]

theorem blk0 (t : Fin cfg0.N) : iblk m c 0 t = fun y : S1x256x1024.Idx => a0 m c (ix3 (bt t) (st t (y 1)) (y 2)) := by
  rw [← read0]; unfold iblk V; after_reads_simp
theorem blk1 (t : Fin cfg0.N) : iblk m c 1 t = fun y : S1x256x512.Idx => a1 m c (ix3 (bt t) (st t (y 1)) (y 2)) := by
  rw [← read1]; unfold iblk V; after_reads_simp
theorem blk2 (t : Fin cfg0.N) : iblk m c 2 t = fun y : S1x256x512.Idx => a2 m c (ix3 (bt t) (st t (y 1)) (y 2)) := by
  rw [← read2]; unfold iblk V; after_reads_simp
theorem blk3 (t : Fin cfg0.N) : iblk m c 3 t = fun y : S1x256x512.Idx => a3 m c (ix3 (bt t) (st t (y 1)) (y 2)) := by
  rw [← read3]; unfold iblk V; after_reads_simp
theorem blk4 (t : Fin cfg0.N) : iblk m c 4 t = fun y : S1x256x512.Idx => a4 m c (ix3 (bt t) (st t (y 1)) (y 2)) := by
  rw [← read4]; unfold iblk V; after_reads_simp
theorem blk5 (t : Fin cfg0.N) : iblk m c 5 t = fun y : S1x512.Idx => kR (a5 m c) (ix2 (y 0) (y 1)) :=
  (congrArg (fun X => ((cfg0.win 5).blk t).view.read (Elt Ideal) X) (v_r m c)).trans (read5 _ t)
theorem blk6 (t : Fin cfg0.N) : iblk m c 6 t = fun y : S1024x1024.Idx => a6 m c (ix2 (y 0) (y 1)) :=
  (congrArg (fun X => ((cfg0.win 6).blk t).view.read (Elt Ideal) X) (v_w m c)).trans (read6 _ t)
theorem blk7 (t : Fin cfg0.N) : iblk m c 7 t = fun y : S1x8x1024.Idx => kM (a7 m c) (a9 m c) (a10 m c) (ix3 (bt t) (y 1) (y 2)) :=
  (congrArg (fun X => ((cfg0.win 7).blk t).view.read (Elt Ideal) X) (v_m m c)).trans (read7 _ t)
theorem blk8 (t : Fin cfg0.N) : iblk m c 8 t = fun y : S1x1024.Idx => kG (a8 m c) (ix2 (y 0) (y 1)) :=
  (congrArg (fun X => ((cfg0.win 8).blk t).view.read (Elt Ideal) X) (v_g m c)).trans (read8 _ t)
theorem blk9 (t : Fin cfg0.N) : iblk m c 9 t = fun y : S1x256x1024.Idx => a12 m c (ix3 (bt t) (st t (y 1)) (y 2)) := by
  rw [← read9]; unfold iblk V; after_reads_simp
theorem blk10 (t : Fin cfg0.N) : iblk m c 10 t = fun y : S1x256x4096.Idx => a13 m c (ix3 (bt t) (st t (y 1)) (y 2)) :=
  (congrArg (fun X => ((cfg0.win 10).blk t).view.read (Elt Ideal) X) (v_d m c)).trans (read10 _ t)

/-- The rows of the modulation that the body loads. -/
def ld2 (X : Vec Ideal S1x8x1024 .f32) : Vec Ideal S1x1x1024 .f32 := View.ld X (Rect.unit ![0, 2, 0] ![1, 1, 1024] inb_S1x8x1024_S1x1x1024_0_2_0)
def ld4 (X : Vec Ideal S1x8x1024 .f32) : Vec Ideal S1x1x1024 .f32 := View.ld X (Rect.unit ![0, 4, 0] ![1, 1, 1024] inb_S1x8x1024_S1x1x1024_0_4_0)
theorem row2 (X : Vec Ideal S1x8x1024 .f32) (k : Fin 1024) : ld2 X (ix3 0 0 k) = X (ix3 0 2 k) := by unfold ld2; rw [View.ld_unit]; pointwise
theorem row4 (X : Vec Ideal S1x8x1024 .f32) (k : Fin 1024) : ld4 X (ix3 0 0 k) = X (ix3 0 4 k) := by unfold ld4; rw [View.ld_unit]; pointwise

/-- What a point computes with. -/
def tA (t : Fin cfg0.N) : FVec Ideal S1x1024 .f32 := k0_pay6 (ld2 (iblk m c 7 t))
def tC (t : Fin cfg0.N) : FVec Ideal S1x1024 .f32 := k0_pay7 (ld4 (iblk m c 7 t))
def tW (t : Fin cfg0.N) : FVec Ideal S1024x1024 .bf16 := k0_pay8 (iblk m c 6 t)
def tD (t : Fin cfg0.N) : FVec Ideal S256x1024 .f32 := k0_pay9 (iblk m c 10 t) (kU (a11 m c))
def tX (t : Fin cfg0.N) : FVec Ideal S256x1024 .f32 := k0_pay10 (iblk m c 0 t)
def tO (t : Fin cfg0.N) : FVec Ideal S256x512 .f32 := k0_pay11 (iblk m c 1 t)
def tQ (t : Fin cfg0.N) : FVec Ideal S256x512 .f32 := k0_pay12 (iblk m c 3 t)
def tY (t : Fin cfg0.N) : FVec Ideal S256x512 .f32 := k0_pay13 (iblk m c 4 t)
def tR (t : Fin cfg0.N) : FVec Ideal S1x512 .f32 := k0_pay14 (iblk m c 5 t)
def tG (t : Fin cfg0.N) : FVec Ideal S1x1024 .f32 := k0_pay15 (iblk m c 8 t)
def tP (t : Fin cfg0.N) : Vec Ideal S1x256x512 .f32 := iblk m c 2 t
def tE (t : Fin cfg0.N) : Vec Ideal S1x256x1024 .f32 := iblk m c 9 t

theorem tA_row (t : Fin cfg0.N) : one10 (tA m c t) = fun k => a7 m c (ix2 (bt t) k) := by
  funext k
  refine (pay6_at _ k).trans ((row2 _ k).trans ?_)
  rw [blk7]; exact kM2 _ _ _ _ _
theorem tC_row (t : Fin cfg0.N) : one10 (tC m c t) = fun k => a10 m c (ix2 (bt t) k) := by
  funext k
  refine (pay7_at _ k).trans ((row4 _ k).trans ?_)
  rw [blk7]; exact kM4 _ _ _ _ _
theorem tW_mat (t : Fin cfg0.N) : mat (tW m c t) = fun i k => a6 m c (ix2 i k) := by
  funext i k
  refine (pay8_at _ i k).trans ?_
  rw [blk6]; rfl
theorem tD_row (t : Fin cfg0.N) (r : Fin 256) : row10 (tD m c t) r = hidIn (a11 m c) (a13 m c) (bt t) (st t r) := by
  funext k
  refine (pay9_at _ _ r k).trans ?_
  rw [blk10]
  exact Finset.sum_congr rfl fun f _ => congrArg _ (kU_at _ f k)
theorem tX_row (t : Fin cfg0.N) (r : Fin 256) : row10 (tX m c t) r = tok10 (a0 m c) (bt t) (st t r) := by
  funext k
  refine (pay10_at _ r k).trans ?_
  rw [blk0]; rfl
theorem tQ_row (t : Fin cfg0.N) (r : Fin 256) : row5 (tQ m c t) r = tok5 (a3 m c) (bt t) (st t r) := by
  funext k
  refine (pay12_at _ r k).trans ?_
  rw [blk3]; rfl
theorem tY_row (t : Fin cfg0.N) (r : Fin 256) : row5 (tY m c t) r = tok5 (a4 m c) (bt t) (st t r) := by
  funext k
  refine (pay13_at _ r k).trans ?_
  rw [blk4]; rfl
theorem tR_row (t : Fin cfg0.N) : one5 (tR m c t) = fun j => a5 m c (ix1 j) := by
  funext k
  refine (pay14_at _ k).trans ?_
  rw [blk5]; exact kR_at _ _
theorem tG_row (t : Fin cfg0.N) : one10 (tG m c t) = fun k => a8 m c (ix1 k) := by
  funext k
  refine (pay15_at _ k).trans ?_
  rw [blk8]; exact kG_at _ _
theorem tOP_row (t : Fin cfg0.N) (r : Fin 256) : row5 (k0_pay16 (tO m c t) (tP m c t)) r = both (a1 m c) (a2 m c) (bt t) (st t r) := by
  funext j
  refine (pay16_at _ _ r j).trans ?_
  refine congrArg₂ _ ((pay11_at _ r j).trans ?_) ?_
  · rw [blk1]; rfl
  · unfold tP; rw [blk2]; rfl
theorem tE_row (t : Fin cfg0.N) (r : Fin 256) : inRow (tE m c t) r = tok10 (a12 m c) (bt t) (st t r) := by
  funext k
  unfold inRow tE
  rw [blk9]; rfl

/-- The point's normed heads, residual stream, its root and slope, and gradient. -/
def oN (t : Fin cfg0.N) : FVec Ideal S256x512 .f32 := pN (tR m c t) (tO m c t) (tP m c t)
def oZ (t : Fin cfg0.N) : FVec Ideal S256x1024 .f32 := pZ (tA m c t) (tW m c t) (tX m c t) (tQ m c t) (tY m c t) (tR m c t) (tO m c t) (tP m c t)
def oI (t : Fin cfg0.N) : FVec Ideal S256x1 .f32 := pInv (tA m c t) (tW m c t) (tX m c t) (tQ m c t) (tY m c t) (tR m c t) (tO m c t) (tP m c t)
def oS (t : Fin cfg0.N) : FVec Ideal S256x1 .f32 := pSlope (tA m c t) (tW m c t) (tX m c t) (tQ m c t) (tY m c t) (tR m c t) (tO m c t) (tP m c t)
def oX (t : Fin cfg0.N) : FVec Ideal S256x1024 .f32 :=
  k0_pay77 (tC m c t) (tD m c t) (tG m c t) (oZ m c t) (oI m c t) (oS m c t) (Scalar.ofBits .f32 0x3F800000#32) (tE m c t)
def oM (t : Fin cfg0.N) : FVec Ideal S256x1024 .f32 :=
  k0_pay81 (tA m c t) (tC m c t) (tW m c t) (tD m c t) (tG m c t) (oZ m c t) (oI m c t) (oS m c t) (Scalar.ofBits .f32 0x3F800000#32) (tE m c t)
def oY (t : Fin cfg0.N) : FVec Ideal S256x512 .f32 :=
  k0_pay84 (tA m c t) (tC m c t) (tW m c t) (tD m c t) (tG m c t) (oZ m c t) (oI m c t) (oS m c t) (Scalar.ofBits .f32 0x3F800000#32) (tE m c t)
def oQ (t : Fin cfg0.N) : FVec Ideal S256x512 .f32 :=
  k0_pay88 (k0_pay62 (tQ m c t)) (k0_pay63 (tQ m c t))
    (k0_pay85 (tA m c t) (tC m c t) (tW m c t) (tD m c t) (tG m c t) (oN m c t) (oZ m c t) (oI m c t) (oS m c t) (Scalar.ofBits .f32 0x3F800000#32) (tE m c t))
    (k0_pay87 (tA m c t) (tC m c t) (tW m c t) (tD m c t) (tQ m c t) (tG m c t) (oN m c t) (oZ m c t) (oI m c t) (oS m c t) (Scalar.ofBits .f32 0x3F800000#32) (tE m c t))

/-- The rows of the three results, of the kernel's arguments. -/
abbrev yX (b : Fin 2) (s : Fin 2048) : Fin 1024 → EReal :=
  dxRow (a0 m c) (a1 m c) (a2 m c) (a3 m c) (a4 m c) (a5 m c) (a6 m c) (a7 m c) (a8 m c) (a10 m c) (a11 m c) (a12 m c) (a13 m c) b s
abbrev yM (b : Fin 2) (s : Fin 2048) : Fin 1024 → EReal :=
  dmRow (a0 m c) (a1 m c) (a2 m c) (a3 m c) (a4 m c) (a5 m c) (a6 m c) (a7 m c) (a8 m c) (a10 m c) (a11 m c) (a12 m c) (a13 m c) b s
abbrev yY (b : Fin 2) (s : Fin 2048) : Fin 512 → EReal :=
  dyRow (a0 m c) (a1 m c) (a2 m c) (a3 m c) (a4 m c) (a5 m c) (a6 m c) (a7 m c) (a8 m c) (a10 m c) (a11 m c) (a12 m c) (a13 m c) b s
abbrev yQ (b : Fin 2) (s : Fin 2048) : Fin 512 → EReal :=
  dgRow (a0 m c) (a1 m c) (a2 m c) (a3 m c) (a4 m c) (a5 m c) (a6 m c) (a7 m c) (a8 m c) (a10 m c) (a11 m c) (a12 m c) (a13 m c) b s

theorem oN_at (t : Fin cfg0.N) (r : Fin 256) (j : Fin 512) :
    oN m c t (ix2 r j) = normed (both (a1 m c) (a2 m c) (bt t) (st t r)) (fun j => a5 m c (ix1 j)) j := by
  refine (pN_at _ _ _ r j).trans ?_
  rw [tOP_row, tR_row]
theorem oZ_row (t : Fin cfg0.N) (r : Fin 256) : row10 (oZ m c t) r
    = midRow (a0 m c) (a1 m c) (a2 m c) (a3 m c) (a4 m c) (a5 m c) (a6 m c) (a7 m c) (bt t) (st t r) := by
  funext k
  refine (pZ_at _ _ _ _ _ _ _ _ r k).trans ?_
  rw [tX_row, tA_row, tOP_row, tR_row, tQ_row, tY_row, tW_mat]; rfl
theorem oX_row (t : Fin cfg0.N) (r : Fin 256) : row10 (oX m c t) r = yX m c (bt t) (st t r) := by
  funext k
  refine (pay77_at _ _ _ _ _ _ _ r (pInv_at _ _ _ _ _ _ _ _ r) (pSlope_at _ _ _ _ _ _ _ _ r) k).trans ?_
  rw [tG_row, tC_row, tD_row, tE_row]
  exact congrArg (fun z => dZ z _ _ _ _ k) (oZ_row m c t r)
theorem oM_at (t : Fin cfg0.N) (r : Fin 256) (j : Fin 1024) : oM m c t (ix2 r j) = yM m c (bt t) (st t r) j := by
  refine (pay81_at _ _ _ _ _ _ _ _ _ r (oX m c t) rfl j).trans ?_
  rw [oX_row, tW_mat, tA_row]; rfl
theorem oY_at (t : Fin cfg0.N) (r : Fin 256) (j : Fin 512) : oY m c t (ix2 r j) = yY m c (bt t) (st t r) j :=
  (pay84_at _ _ _ _ _ _ _ _ _ r j).trans (oM_at m c t r (hi j))
theorem oQ_at (t : Fin cfg0.N) (r : Fin 256) (j : Fin 512) : oQ m c t (ix2 r j) = yQ m c (bt t) (st t r) j := by
  refine (pay88_at _ _ _ _ _ _ _ _ _ r _ _ j).trans ?_
  refine congr (congrArg₂ dGate (oN_at m c t r j) (oM_at m c t r (lo j))) ?_
  exact congrFun (tQ_row m c t r) j

end Cert.Kernel7Ideal.Back

end
-- ==== Proof.BackFin.lean ====
module

public import proofs.«01_k».proof.Proof.Gen.Kernel7Ideal.Frame
public import proofs.«01_k».proof.Proof.BackBlk

/-! The backward call: what each point leaves, and the three arrays that it leaves. -/

@[expose] public section

set_option maxRecDepth 16384

noncomputable section

namespace Cert.Kernel7Ideal.Back

open Cert.Kernel7Ideal Cert.Kernel7Ideal.Gen Idealize.ShloMosaic Idealize.ShloMosaic.TcCoe Idealize.SL.Sem Cert.Back

variable (m : (ℓ : Loc nD τ sig) → Buf (Elt Ideal) ℓ) (c : Dev nD)

theorem lt16 (t : Fin cfg0.N) : t.val < 16 := t.isLt

/-- The weight of the second layer lies in the scratch from the first point on. -/
theorem first_w (t : Fin cfg0.N) (h : t.val % 16 = 0) : (outsAt0 m c t.val t.isLt).2.2.2.2.2.2.2.2.1 = kU (a11 m c) := by
  have := lt16 t
  rw [outsAt0_A m c t (by omega) (by omega) (by omega) (by omega) (by omega) (by omega) (by omega) (by omega) (by omega) (by omega) (by omega) (by omega) (by omega) (by omega) (by omega)]
  funext j; frame_out
  refine (congrFun (View.canon_cons_unit_lit _ _ _ fun a => rfl) j).trans ?_
  exact congrFun (v_u m c) j

theorem next_w (t : Fin cfg0.N) (h : ¬t.val % 16 = 0) (l : t.val - 1 < cfg0.N) :
    (outsAt0 m c t.val t.isLt).2.2.2.2.2.2.2.2.1 = (outsAt0 m c (t.val - 1) l).2.2.2.2.2.2.2.2.1 := by
  have := lt16 t
  by_cases h8 : t.val % 8 = 0
  · rw [outsAt0_C m c t (by omega) (by omega) (by omega) (by omega) (by omega) (by omega) (by omega) (by omega) (by omega) (by omega) (by omega) (by omega) (by omega) (by omega) (by omega)]; rfl
  · by_cases h15 : t.val % 16 = 15
    · rw [outsAt0_D m c t (by omega) (by omega) (by omega) (by omega) (by omega) (by omega) (by omega) (by omega) (by omega) (by omega) (by omega) (by omega) (by omega) (by omega) (by omega)]; rfl
    · rw [outsAt0_B m c t (by omega) (by omega) (by omega) (by omega) (by omega) (by omega) (by omega) (by omega) (by omega) (by omega) (by omega) (by omega) (by omega) (by omega) (by omega)]; rfl

theorem kept_w : ∀ (n : ℕ) (l : n < cfg0.N), (outsAt0 m c n l).2.2.2.2.2.2.2.2.1 = kU (a11 m c)
  | 0, l => first_w m c ⟨0, l⟩ rfl
  | n + 1, l => by
    have h16 : n + 1 < 16 := l
    exact (next_w m c ⟨n + 1, l⟩ (by show ¬(n + 1) % 16 = 0; omega) (Nat.lt_of_succ_lt l)).trans (kept_w n (Nat.lt_of_succ_lt l))

theorem fill_u (X : Vec Ideal S4096x1024 .bf16) :
    (View.whole cc0_scratch0).readCov [⟨Rect.whole S4096x1024, ReadAs.same.apply (View.read (Elt Ideal) (View.whole main_v11) X)⟩]
      (Rect.unit ![0, 0] ![4096, 1024] inb_S4096x1024_S4096x1024_0_0).toLoadRect
      = View.ld X (Rect.unit ![0, 0] ![4096, 1024] inb_S4096x1024_S4096x1024_0_0) := View.readCov_fill _ _ _ _ _ fun a => rfl
theorem ld_u (X : Vec Ideal S4096x1024 .bf16) : View.ld X (Rect.unit ![0, 0] ![4096, 1024] inb_S4096x1024_S4096x1024_0_0) = X :=
  View.ld_unit_zero (show (![0, 0] : Fin 2 → Nat) = fun _ => 0 by decide) _ X

set_option maxHeartbeats 2000000 in
theorem key11 (t : Fin cfg0.N) : (outsAt0 m c t.val t.isLt).1 = k0_pay104 (oX m c t) := by
  have := lt16 t
  by_cases h : t.val % 16 = 0
  · rw [outsAt0_A m c t (by omega) (by omega) (by omega) (by omega) (by omega) (by omega) (by omega) (by omega) (by omega) (by omega) (by omega) (by omega) (by omega) (by omega) (by omega)]
    funext j; frame_out
    rw [fill_u, v_u, ld_u]
    rfl
  · have e := kept_w m c (t.val - 1) (lt_of_le_of_lt (Nat.sub_le _ _) t.isLt)
    by_cases h8 : t.val % 8 = 0
    · rw [outsAt0_C m c t (by omega) (by omega) (by omega) (by omega) (by omega) (by omega) (by omega) (by omega) (by omega) (by omega) (by omega) (by omega) (by omega) (by omega) (by omega)]
      funext j; frame_out
      simp only [read_unread_whole]
      rw [e]
      rfl
    · by_cases h15 : t.val % 16 = 15
      · rw [outsAt0_D m c t (by omega) (by omega) (by omega) (by omega) (by omega) (by omega) (by omega) (by omega) (by omega) (by omega) (by omega) (by omega) (by omega) (by omega) (by omega)]
        funext j; frame_out
        simp only [read_unread_whole]
        rw [e]
        rfl
      · rw [outsAt0_B m c t (by omega) (by omega) (by omega) (by omega) (by omega) (by omega) (by omega) (by omega) (by omega) (by omega) (by omega) (by omega) (by omega) (by omega) (by omega)]
        funext j; frame_out
        simp only [read_unread_whole]
        rw [e]
        rfl

set_option maxHeartbeats 2000000 in
theorem key13 (t : Fin cfg0.N) : (outsAt0 m c t.val t.isLt).2.2.1 = k0_pay106 (oQ m c t) := by
  have := lt16 t
  by_cases h : t.val % 16 = 0
  · rw [outsAt0_A m c t (by omega) (by omega) (by omega) (by omega) (by omega) (by omega) (by omega) (by omega) (by omega) (by omega) (by omega) (by omega) (by omega) (by omega) (by omega)]
    funext j; frame_out
    rw [fill_u, v_u, ld_u]
    rfl
  · have e := kept_w m c (t.val - 1) (lt_of_le_of_lt (Nat.sub_le _ _) t.isLt)
    by_cases h8 : t.val % 8 = 0
    · rw [outsAt0_C m c t (by omega) (by omega) (by omega) (by omega) (by omega) (by omega) (by omega) (by omega) (by omega) (by omega) (by omega) (by omega) (by omega) (by omega) (by omega)]
      funext j; frame_out
      simp only [read_unread_whole]
      rw [e]
      rfl
    · by_cases h15 : t.val % 16 = 15
      · rw [outsAt0_D m c t (by omega) (by omega) (by omega) (by omega) (by omega) (by omega) (by omega) (by omega) (by omega) (by omega) (by omega) (by omega) (by omega) (by omega) (by omega)]
        funext j; frame_out
        simp only [read_unread_whole]
        rw [e]
        rfl
      · rw [outsAt0_B m c t (by omega) (by omega) (by omega) (by omega) (by omega) (by omega) (by omega) (by omega) (by omega) (by omega) (by omega) (by omega) (by omega) (by omega) (by omega)]
        funext j; frame_out
        simp only [read_unread_whole]
        rw [e]
        rfl

set_option maxHeartbeats 2000000 in
theorem key14 (t : Fin cfg0.N) : (outsAt0 m c t.val t.isLt).2.2.2.1 = k0_pay107 (oY m c t) := by
  have := lt16 t
  by_cases h : t.val % 16 = 0
  · rw [outsAt0_A m c t (by omega) (by omega) (by omega) (by omega) (by omega) (by omega) (by omega) (by omega) (by omega) (by omega) (by omega) (by omega) (by omega) (by omega) (by omega)]
    funext j; frame_out
    rw [fill_u, v_u, ld_u]
    rfl
  · have e := kept_w m c (t.val - 1) (lt_of_le_of_lt (Nat.sub_le _ _) t.isLt)
    by_cases h8 : t.val % 8 = 0
    · rw [outsAt0_C m c t (by omega) (by omega) (by omega) (by omega) (by omega) (by omega) (by omega) (by omega) (by omega) (by omega) (by omega) (by omega) (by omega) (by omega) (by omega)]
      funext j; frame_out
      simp only [read_unread_whole]
      rw [e]
      rfl
    · by_cases h15 : t.val % 16 = 15
      · rw [outsAt0_D m c t (by omega) (by omega) (by omega) (by omega) (by omega) (by omega) (by omega) (by omega) (by omega) (by omega) (by omega) (by omega) (by omega) (by omega) (by omega)]
        funext j; frame_out
        simp only [read_unread_whole]
        rw [e]
        rfl
      · rw [outsAt0_B m c t (by omega) (by omega) (by omega) (by omega) (by omega) (by omega) (by omega) (by omega) (by omega) (by omega) (by omega) (by omega) (by omega) (by omega) (by omega)]
        funext j; frame_out
        simp only [read_unread_whole]
        rw [e]
        rfl

theorem final11 : (dats m 0 c).arrAt 11 (cfgs 0).N = fun x : S2x2048x1024.Idx => yX m c (x 0) (x 1) (x 2) := by
  refine (dats m 0 c).arrAt_eq_of_covers 11 _ (by decide +kernel) fun t hf y => ?_
  blk_simp
  rw [after0_11]
  refine Eq.trans ?_ (congrFun (read11 (fun x => yX m c (x 0) (x 1) (x 2)) t) y).symm
  rw [key11]
  have one : ∀ y : S1x256x1024.Idx, k0_pay104 (oX m c t) y = yX m c (bt t) (st t (y 1)) (y 2) := fun y => by
    idx_vars y
    rw [Fin.eq_zero y0]
    exact (pay104_at _ y1 y2).trans (congrFun (oX_row m c t y1) y2)
  exact one y

theorem final13 : (dats m 0 c).arrAt 13 (cfgs 0).N = fun x : S2x2048x512.Idx => yQ m c (x 0) (x 1) (x 2) := by
  refine (dats m 0 c).arrAt_eq_of_covers 13 _ (by decide +kernel) fun t hf y => ?_
  blk_simp
  rw [after0_13]
  refine Eq.trans ?_ (congrFun (read13 (fun x => yQ m c (x 0) (x 1) (x 2)) t) y).symm
  rw [key13]
  have one : ∀ y : S1x256x512.Idx, k0_pay106 (oQ m c t) y = yQ m c (bt t) (st t (y 1)) (y 2) := fun y => by
    idx_vars y
    rw [Fin.eq_zero y0]
    exact (pay106_at _ y1 y2).trans (oQ_at m c t y1 y2)
  exact one y

theorem final14 : (dats m 0 c).arrAt 14 (cfgs 0).N = fun x : S2x2048x512.Idx => yY m c (x 0) (x 1) (x 2) := by
  refine (dats m 0 c).arrAt_eq_of_covers 14 _ (by decide +kernel) fun t hf y => ?_
  blk_simp
  rw [after0_14]
  refine Eq.trans ?_ (congrFun (read14 (fun x => yY m c (x 0) (x 1) (x 2)) t) y).symm
  rw [key14]
  have one : ∀ y : S1x256x512.Idx, k0_pay107 (oY m c t) y = yY m c (bt t) (st t (y 1)) (y 2) := fun y => by
    idx_vars y
    rw [Fin.eq_zero y0]
    exact (pay107_at _ y1 y2).trans (oY_at m c t y1 y2)
  exact one y

end Cert.Kernel7Ideal.Back

end
-- ==== Proof.BackClaim.lean ====
module

public import proofs.«01_k».proof.Defs
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.BackFin
public import Idealize.ShloMosaic.Lib.Claim
public import Idealize.ShloMosaic.Lib.Quiescent
public import Idealize.ShloMosaic.Adequacy
public import Idealize.ShloMosaic.Init

/-! The claims about the backward call of the head norms, the output projection and the second norm. -/

@[expose] public section

set_option maxRecDepth 16384

noncomputable section

namespace Cert.Proof.Back

open Idealize.ShloMosaic Idealize.SL.Sem

/-- The kernel runs and leaves its arguments as they were. -/
theorem frame_kernel : Cert.quiescent_Kernel7 := fun m g _ => Cert.Kernel7.Gen.frame m g

/-- So does its ideal reading. -/
theorem frame_kernelIdeal : Cert.quiescent_Kernel7Ideal := fun m g _ => Cert.Kernel7Ideal.Gen.frame m g

/-- And the reference. -/
theorem frame_reference : Cert.quiescent_Reference7Ideal := by
  intro m g _
  exact (θ_run _ _ _).mono (fun r h => ⟨fun c => (h c).2.2.2, sem_eq_zero_of_no_sems (by decide) _⟩) (Cert.Reference7Ideal.Value.run m g)

set_option maxHeartbeats 1600000 in
/-- The kernel's three results are the reference's. -/
theorem algebraic : Cert.algebraic_Kernel7Ideal_Reference7Ideal := by
  pair_intro
  · run_from Cert.Kernel7Ideal.Gen.run_main m g
  · refine (θ_run _ _ _).mono (fun r h c => ?_) (Cert.Reference7Ideal.Back.run_ref m' g')
    obtain ⟨e0, e1, e2, e3, e4, e5, e6, e7, e8, e9, e10, e11, e12, e13⟩ := hagree c
    obtain ⟨h0, h1, h2, hf⟩ := h c
    simp only [Cert.Reference7Ideal.Back.fX, Cert.Reference7Ideal.Back.fM,
      Cert.Reference7Ideal.Back.a0, Cert.Reference7Ideal.Back.a1, Cert.Reference7Ideal.Back.a2, Cert.Reference7Ideal.Back.a3,
      Cert.Reference7Ideal.Back.a4, Cert.Reference7Ideal.Back.a5, Cert.Reference7Ideal.Back.a6, Cert.Reference7Ideal.Back.a7,
      Cert.Reference7Ideal.Back.a8, Cert.Reference7Ideal.Back.a10, Cert.Reference7Ideal.Back.a11, Cert.Reference7Ideal.Back.a12,
      Cert.Reference7Ideal.Back.a13] at h0 h1 h2
    rw [e0, e1, e2, e3, e4, e5, e6, e7, e8, e10, e11, e12, e13] at h0 h1 h2
    exact ⟨(h0.trans (Cert.Reference7Ideal.Back.ref_x _ _ _ _ _ _ _ _ _ _ _ _ _)).trans (Cert.Kernel7Ideal.Back.final11 m c).symm,
      (h1.trans (Cert.Reference7Ideal.Back.ref_g _ _ _ _ _ _ _ _ _ _ _ _ _)).trans (Cert.Kernel7Ideal.Back.final13 m c).symm,
      (h2.trans (Cert.Reference7Ideal.Back.ref_y _ _ _ _ _ _ _ _ _ _ _ _ _)).trans (Cert.Kernel7Ideal.Back.final14 m c).symm, hf⟩

end Cert.Proof.Back

end
-- ==== Proof.ModFwd.lean ====
module

public import proofs.«01_k».proof.Proof.Gen.Kernel8Ideal.Value
public import proofs.«01_k».proof.Proof.Gen.Reference8Ideal
public import Idealize.ShloMosaic.Lib.Pipeline.ValueKit
public import Idealize.ShloMosaic.Lib.Claim
public import Idealize.ShloMosaic.Lib.Pointwise

/-! The forward call of the modulation: the kernel's twenty-four rows and the reference's, at one place. -/

@[expose] public section

set_option maxRecDepth 16384

noncomputable section

namespace Cert.Kernel8Ideal.ModFwd

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The reference's modulation of the sequences. -/
def refMod (C : FVec Ideal S16x1024 .f32) (W : FVec Ideal S1024x768 .f32) (B : FVec Ideal Cert.Reference8Ideal.S768 .f32) : FVec Ideal Cert.Reference8Ideal.S16x768 .f32 :=
  addf (Host.dotGeneral Cert.Reference8Ideal.dot_S16x1024_S1024x768_S16x768_1_0_0_1_n_n none (mulf C (Host.divf (broadcastInDim Cert.Reference8Ideal.S16x1024 ![] Cert.Reference8Ideal.Gen.bcast_S_S16x1024 (constant Cert.Reference8Ideal.S_ .f32 0x3F800000#32)) (addf (broadcastInDim Cert.Reference8Ideal.S16x1024 ![] Cert.Reference8Ideal.Gen.bcast_S_S16x1024 (constant Cert.Reference8Ideal.S_ .f32 0x3F800000#32)) (Host.exp (Host.negf C))))) W) (broadcastInDim Cert.Reference8Ideal.S16x768 ![0, 1] Cert.Reference8Ideal.Gen.bcast_S1x768_S16x768_0_1 (broadcastInDim Cert.Reference8Ideal.S1x768 ![1] Cert.Reference8Ideal.Gen.bcast_S768_S1x768_1 B))

/-- The reference's modulation of the context, as one row. -/
def refCtx (cc : FVec Ideal Cert.Reference8Ideal.S1024 .f32) (W : FVec Ideal S1024x768 .f32) (B : FVec Ideal Cert.Reference8Ideal.S768 .f32) : FVec Ideal Cert.Reference8Ideal.S1x768 .f32 :=
  broadcastInDim Cert.Reference8Ideal.S1x768 ![1] Cert.Reference8Ideal.Gen.bcast_S768_S1x768_1 (addf (shapeCast _ (Host.dotGeneral Cert.Reference8Ideal.dot_S1x1024_S1024x768_S1x768_1_0_0_1_n_n none (broadcastInDim Cert.Reference8Ideal.S1x1024 ![1] Cert.Reference8Ideal.Gen.bcast_S1024_S1x1024_1 (mulf cc (Host.divf (broadcastInDim Cert.Reference8Ideal.S1024 ![] Cert.Reference8Ideal.Gen.bcast_S_S1024 (constant Cert.Reference8Ideal.S_ .f32 0x3F800000#32)) (addf (broadcastInDim Cert.Reference8Ideal.S1024 ![] Cert.Reference8Ideal.Gen.bcast_S_S1024 (constant Cert.Reference8Ideal.S_ .f32 0x3F800000#32)) (Host.exp (Host.negf cc)))))) W) Cert.Reference8Ideal.Gen.shapeCasts_S1x768_S768) B)

/-- The reference's result: the two, and seven rows of the bias. -/
def refRows (C : FVec Ideal S16x1024 .f32) (cc : FVec Ideal Cert.Reference8Ideal.S1024 .f32) (W : FVec Ideal S1024x768 .f32) (B : FVec Ideal Cert.Reference8Ideal.S768 .f32) : FVec Ideal S24x768 .f32 :=
  concatenate Cert.Reference8Ideal.S24x768 0 [⟨Cert.Reference8Ideal.S16x768, refMod C W B⟩, ⟨Cert.Reference8Ideal.S1x768, refCtx cc W B⟩, ⟨Cert.Reference8Ideal.S7x768, broadcastInDim Cert.Reference8Ideal.S7x768 ![1] Cert.Reference8Ideal.Gen.bcast_S768_S7x768_1 B⟩] Cert.Reference8Ideal.Gen.concatenates_S16x768_S1x768_S7x768_S24x768_d0

theorem refMod_at (C : FVec Ideal S16x1024 .f32) (W : FVec Ideal S1024x768 .f32) (B : FVec Ideal Cert.Reference8Ideal.S768 .f32) (r : Fin 16) (k : Fin 768) :
    refMod C W B (ix2 r k) = (∑ i : Fin 1024, C (ix2 r i) * Ideal.logistic (C (ix2 r i)) * W (ix2 i k)) + B (ix1 k) := by
  pointwise [refMod]
  rfl

theorem refCtx_at (cc : FVec Ideal Cert.Reference8Ideal.S1024 .f32) (W : FVec Ideal S1024x768 .f32) (B : FVec Ideal Cert.Reference8Ideal.S768 .f32) (r : Fin 1) (k : Fin 768) :
    refCtx cc W B (ix2 r k) = (∑ i : Fin 1024, cc (ix1 i) * Ideal.logistic (cc (ix1 i)) * W (ix2 i k)) + B (ix1 k) := by
  pointwise [refCtx]
  rfl

theorem refRows_at (C : FVec Ideal S16x1024 .f32) (cc : FVec Ideal Cert.Reference8Ideal.S1024 .f32) (W : FVec Ideal S1024x768 .f32) (B : FVec Ideal Cert.Reference8Ideal.S768 .f32) (r : Fin 24) (k : Fin 768) :
    refRows C cc W B (ix2 r k) = if h : (r : ℕ) < 16 then refMod C W B (ix2 ⟨r, h⟩ k) else if h : (r : ℕ) - 16 < 1 then refCtx cc W B (ix2 ⟨(r : ℕ) - 16, h⟩ k) else B (ix1 k) := by
  pointwise [refRows]

/-- The arguments, at their shapes. -/
abbrev aC (c : Dev nD) : FVec Ideal S16x1024 .f32 := m ((c.tc : Thread nD τ).loc main_arg0)
abbrev aCtx (c : Dev nD) : FVec Ideal S1024 .f32 := m ((c.tc : Thread nD τ).loc main_arg1)
abbrev aW (c : Dev nD) : FVec Ideal S1024x768 .f32 := m ((c.tc : Thread nD τ).loc main_arg2)
abbrev aB (c : Dev nD) : FVec Ideal S768 .f32 := m ((c.tc : Thread nD τ).loc main_arg3)

/-- Sixteen rows, one row, seven rows of zeros, stacked. -/
def rows (C : FVec Ideal S16x1024 .f32) (cc : FVec Ideal S1024 .f32) : FVec Ideal S24x1024 .f32 :=
  concatenate S24x1024 0 [⟨S16x1024, C⟩, ⟨S1x1024, broadcastInDim S1x1024 ![1] bcast_S1024_S1x1024_1 cc⟩,
    ⟨S7x1024, broadcastInDim S7x1024 ![] bcast_S_S7x1024 (constant S_ .f32 0x00000000#32)⟩] concatenates_S16x1024_S1x1024_S7x1024_S24x1024_d0

theorem rows_at (C : FVec Ideal S16x1024 .f32) (cc : FVec Ideal S1024 .f32) (r : Fin 24) (k : Fin 1024) : rows C cc (ix2 r k)
    = if h : (r : ℕ) < 16 then C (ix2 ⟨r, h⟩ k) else if (r : ℕ) - 16 < 1 then cc (ix1 k) else (0 : EReal) := by
  pointwise [rows]
  rfl

/-- The rows that the kernel reads: sixteen rows of `c`, the row `c_ctx`, zeros. -/
theorem crows (c : Dev nD) : V m c main_v2 = rows (aC m c) (aCtx m c) := rfl

/-- The bias as one row. -/
def brow (B : FVec Ideal S768 .f32) : FVec Ideal S1x768 .f32 := shapeCast S1x768 B shapeCasts_S768_S1x768

theorem brow_at (B : FVec Ideal S768 .f32) (r : Fin 1) (k : Fin 768) : brow B (ix2 r k) = B (ix1 k) := by
  pointwise [brow]

theorem bias (c : Dev nD) : V m c main_v3 = brow (aB m c) := rfl

theorem idx : ∀ t : Fin cfg0.N, win0_0.index t = ![0, 0] ∧ win0_1.index t = ![0, 0] ∧ win0_2.index t = ![0, 0] :=
  (by decide +kernel : ∀ t : Fin grid0.N, _)

theorem blk0 (c : Dev nD) : iblk m c 0 t0_0 = rows (aC m c) (aCtx m c) := by rw [← crows]; blk_ext! [iblk, idx t0_0]
theorem blk1 (c : Dev nD) : iblk m c 1 t0_0 = aW m c := by blk_ext! [iblk, V, idx t0_0]
theorem blk2 (c : Dev nD) : iblk m c 2 t0_0 = brow (aB m c) := by rw [← bias]; blk_ext! [iblk, idx t0_0]

/-- What the kernel stores, at one place. -/
theorem pay_at (R : FVec Ideal S24x1024 .f32) (W : FVec Ideal S1024x768 .f32) (b : FVec Ideal S1x768 .f32) (r : Fin 24) (k : Fin 768) :
    k0_pay1 R W b (ix2 r k) = (∑ i : Fin 1024, R (ix2 r i) * Ideal.logistic (R (ix2 r i)) * W (ix2 i k)) + b (ix2 0 k) := by
  pointwise [k0_pay1]

/-- Row by row the two are the same. -/
theorem same (C : FVec Ideal S16x1024 .f32) (cc : FVec Ideal S1024 .f32) (W : FVec Ideal S1024x768 .f32) (B : FVec Ideal S768 .f32) (r : Fin 24) (k : Fin 768) :
    k0_pay1 (rows C cc) W (brow B) (ix2 r k) = refRows C cc W B (ix2 r k) := by
  rw [pay_at, refRows_at, brow_at]
  split
  case isTrue h =>
    rw [refMod_at]
    refine congrArg (· + _) (Finset.sum_congr rfl fun i _ => ?_)
    rw [rows_at, dif_pos h]
  case isFalse h =>
    split
    case isTrue h' =>
      rw [refCtx_at]
      refine congrArg (· + _) (Finset.sum_congr rfl fun i _ => ?_)
      rw [rows_at, dif_neg h, if_pos h']
    case isFalse h' =>
      rw [Finset.sum_eq_zero fun i _ => ?_, zero_add]
      rw [rows_at, dif_neg h, if_neg h', zero_mul, zero_mul]

/-- The kernel's rows are the reference's. -/
theorem final3 (c : Dev nD) : (dats m 0 c).arrAt 3 (cfgs 0).N = refRows (aC m c) (aCtx m c) (aW m c) (aB m c) := by
  refine (dats m 0 c).arrAt_eq_of_after_last 3 t0_0 (by decide +kernel) _ fun j => ?_
  blk_simp
  rw [after0_3, blk0, blk1, blk2]; frame_out
  have h := same (aC m c) (aCtx m c) (aW m c) (aB m c) (j 0) (j 1)
  have e : j = ix2 (j 0) (j 1) := by ext d; fin_cases d <;> rfl
  rw [e]
  exact h

end Cert.Kernel8Ideal.ModFwd

end
-- ==== Proof.ModFwdClaim.lean ====
module

public import proofs.«01_k».proof.Defs
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.ModFwd
public import Idealize.ShloMosaic.Lib.Claim
public import Idealize.ShloMosaic.Lib.Quiescent
public import Idealize.ShloMosaic.Adequacy
public import Idealize.ShloMosaic.Init

/-! The claims about the forward call of the modulation. -/

@[expose] public section

set_option maxRecDepth 16384

noncomputable section

namespace Cert.Proof.ModFwd

open Idealize.ShloMosaic Idealize.SL.Sem

/-- The kernel runs and leaves its arguments as they were. -/
theorem frame_kernel : Cert.quiescent_Kernel8 := fun m g _ => Cert.Kernel8.Gen.frame m g

/-- So does its ideal reading. -/
theorem frame_kernelIdeal : Cert.quiescent_Kernel8Ideal := fun m g _ => Cert.Kernel8Ideal.Gen.frame m g

/-- And the reference. -/
theorem frame_reference : Cert.quiescent_Reference8Ideal := by
  intro m g _
  exact (θ_run _ _ _).mono (fun r h => ⟨fun c => (h c).2, sem_eq_zero_of_no_sems (by decide) _⟩) (Cert.Reference8Ideal.Value.run m g)

set_option maxHeartbeats 1600000 in
/-- The kernel's rows are the reference's. -/
theorem algebraic : Cert.algebraic_Kernel8Ideal_Reference8Ideal := by
  pair_intro
  · run_from Cert.Kernel8Ideal.Gen.run_main m g
  · refine (θ_run _ _ _).mono (fun r h c => ?_) (Cert.Reference8Ideal.Value.run m' g')
    obtain ⟨e0, e1, e2, e3⟩ := hagree c
    obtain ⟨h0, hk⟩ := h c
    rw [e0, e1, e2, e3] at h0
    exact ⟨h0.trans (Cert.Kernel8Ideal.ModFwd.final3 m c).symm, hk⟩

end Cert.Proof.ModFwd

end
-- ==== Proof.Reals.lean ====
module

public import Idealize.ShloMosaic.Lib.Pointwise
public import Idealize.ShloMosaic.Lib.IdealHost

/-! Extended reals that are real numbers: how the ideal operations act on them. -/

@[expose] public section

noncomputable section

namespace Cert.Reals

open Idealize.ShloMosaic

/-- A finite sum of real numbers is a real number. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two real numbers, the divisor not zero. -/
theorem div_coe_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The logistic function on a real number. -/
theorem logistic_coe (x : ℝ) : Ideal.logistic (x : EReal) = ((1 / (1 + Real.exp (-x)) : ℝ) : EReal) := by
  have h : (1 + Real.exp (-x)) ≠ 0 := by positivity
  unfold Ideal.logistic
  rw [← EReal.coe_neg, Ideal.exp_coe, ← EReal.coe_one, ← EReal.coe_add, div_coe_coe _ _ h]

/-- A number whose absolute value lies below the infinity of the format is real. -/
theorem real_of_abs_lt (a : EReal) (h : Ideal.cmp .olt (max a (-a)) (Ideal.ofBits .f32 0x7F800000#32) = 1#1) :
    ∃ r : ℝ, a = (r : EReal) := by
  have ht : Ideal.ofBits .f32 0x7F800000#32 = ⊤ := by simp [Ideal.ofBits, Ideal.ieee]
  rw [ht] at h
  have h' : max a (-a) < ⊤ := by
    by_contra hc
    simp [Ideal.cmp, hc] at h
  induction a with
  | bot => simp at h'
  | top => simp at h'
  | coe r => exact ⟨r, rfl⟩

/-- An array whose absolute values all lie below the infinity of the format holds real numbers. -/
theorem real_of_finite {s : Shape} (X : FVec Ideal s .f32) (b : FVec Ideal s .f32) (hb : ∀ i, b i = Ideal.ofBits .f32 0x7F800000#32)
    (h : cmpf .olt (Host.absf X) b = fun _ => 1#1) : ∃ x : s.Idx → ℝ, X = fun i => (x i : EReal) := by
  have : ∀ i, ∃ r : ℝ, X i = (r : EReal) := fun i => real_of_abs_lt (X i) (by
    have := congrFun h i
    rw [← hb i]; exact this)
  choose x hx using this
  exact ⟨x, funext hx⟩

end Cert.Reals

end
-- ==== Proof.AttMath.lean ====
module

public import proofs.«01_k».proof.Proof.Reals

/-! The gradients of softmax attention of one head, over the real numbers. -/

@[expose] public section

noncomputable section

namespace Cert.Att

variable (a : ℝ) (q : Fin 2048 → Fin 192 → ℝ) (k : Fin 2304 → Fin 192 → ℝ) (v : Fin 2304 → Fin 128 → ℝ) (g : Fin 2048 → Fin 128 → ℝ)

/-- The score of a query and a key. -/
def sc (i : Fin 2048) (j : Fin 2304) : ℝ := (∑ d, q i d * k j d) * a

/-- The weight that the query gives the key. -/
def pr (i : Fin 2048) (j : Fin 2304) : ℝ := Real.exp (sc a q k i j) / ∑ j', Real.exp (sc a q k i j')

/-- The gradient of a weight. -/
def dp (i : Fin 2048) (j : Fin 2304) : ℝ := ∑ e, g i e * v j e

/-- The output of a query. -/
def out (i : Fin 2048) (e : Fin 128) : ℝ := ∑ j, v j e * pr a q k i j

/-- The gradient of a product of query and key. -/
def ds (i : Fin 2048) (j : Fin 2304) : ℝ := pr a q k i j * (dp v g i j - ∑ j', pr a q k i j' * dp v g i j') * a

/-- The gradients of the queries, the keys and the values. -/
def dq (i : Fin 2048) (d : Fin 192) : ℝ := ∑ j, ds a q k v g i j * k j d
def dk (j : Fin 2304) (d : Fin 192) : ℝ := ∑ i, ds a q k v g i j * q i d
def dv (j : Fin 2304) (e : Fin 128) : ℝ := ∑ i, g i e * pr a q k i j

/-- The sum of the exponentials of a row is positive, whatever is subtracted first. -/
theorem sum_exp_pos (f : Fin 2304 → ℝ) : 0 < ∑ j, Real.exp (f j) :=
  Finset.sum_pos (fun _ _ => Real.exp_pos _) ⟨0, Finset.mem_univ _⟩

/-- A weight does not change when a number is subtracted from every score. -/
theorem pr_shift (M : ℝ) (i : Fin 2048) (j : Fin 2304) :
    Real.exp (sc a q k i j - M) / ∑ j', Real.exp (sc a q k i j' - M) = pr a q k i j := by
  unfold pr
  simp only [Real.exp_sub, ← Finset.sum_div]
  have h1 := (sum_exp_pos (fun j => sc a q k i j)).ne'
  have h2 := (Real.exp_pos M).ne'
  field_simp

/-- A weight by the logarithm of the sum. -/
theorem pr_log (M : ℝ) (i : Fin 2048) (j : Fin 2304) :
    Real.exp (sc a q k i j - (Real.log (∑ j', Real.exp (sc a q k i j' - M)) + M)) = pr a q k i j := by
  rw [← pr_shift a q k M, ← sub_sub, sub_right_comm, Real.exp_sub, Real.exp_log (sum_exp_pos _)]

/-- The sum of cotangent and output is the sum of weights and their gradients. -/
theorem delta (i : Fin 2048) : ∑ e, g i e * out a q k v i e = ∑ j, pr a q k i j * dp v g i j := by
  unfold out dp
  simp only [Finset.mul_sum]
  rw [Finset.sum_comm]
  exact Finset.sum_congr rfl fun j _ => Finset.sum_congr rfl fun e _ => by ring

/-- The gradient of a score by the quotient rule. -/
theorem ds_quot (M : ℝ) (i : Fin 2048) (j : Fin 2304) :
    (dp v g i j / (∑ j', Real.exp (sc a q k i j' - M))
        + -∑ j', dp v g i j' * (1 / ((∑ j'', Real.exp (sc a q k i j'' - M)) * ∑ j'', Real.exp (sc a q k i j'' - M))) * Real.exp (sc a q k i j' - M))
      * Real.exp (sc a q k i j - M) * a = ds a q k v g i j := by
  unfold ds
  simp only [← pr_shift a q k M]
  have h := (sum_exp_pos (fun j => sc a q k i j - M)).ne'
  generalize hZ : ∑ j', Real.exp (sc a q k i j' - M) = Z at h
  have : ∑ j', dp v g i j' * (1 / (Z * Z)) * Real.exp (sc a q k i j' - M)
      = (∑ j', Real.exp (sc a q k i j' - M) / Z * dp v g i j') / Z := by
    rw [Finset.sum_div]
    exact Finset.sum_congr rfl fun j _ => by field_simp
  rw [this]
  generalize ∑ j', Real.exp (sc a q k i j' - M) / Z * dp v g i j' = D
  field_simp
  ring

/-- A head's columns: the 128 and the first half of the rotary ones, 32 zeros, the second half, 32 zeros. -/
def pad (f : Fin 192 → ℝ) (d : Fin 256) : ℝ :=
  if h : (d : ℕ) < 160 then f ⟨d, by omega⟩ else if (d : ℕ) < 192 then 0 else if h : (d : ℕ) < 224 then f ⟨d - 32, by omega⟩ else 0

/-- The zero columns add nothing to a product. -/
theorem sum_pad (f g : Fin 192 → ℝ) : ∑ d, pad f d * pad g d = ∑ d, f d * g d := by
  have h1 : ∑ d : Fin (160 + 96), pad f d * pad g d = _ := Fin.sum_univ_add _
  have h2 : ∑ d : Fin (32 + 64), pad f (Fin.natAdd 160 d) * pad g (Fin.natAdd 160 d) = _ := Fin.sum_univ_add _
  have h3 : ∑ d : Fin (32 + 32), pad f (Fin.natAdd 160 (Fin.natAdd 32 d)) * pad g (Fin.natAdd 160 (Fin.natAdd 32 d)) = _ := Fin.sum_univ_add _
  have h4 : ∑ d : Fin (160 + 32), f d * g d = _ := Fin.sum_univ_add _
  refine h1.trans (Eq.trans ?_ h4.symm)
  rw [h2, h3]
  have z1 : ∀ (u : Fin 192 → ℝ) (x : Fin 32), pad u (Fin.natAdd 160 (Fin.castAdd 64 x)) = 0 := fun u x => by
    unfold pad; rw [dif_neg (by simp), if_pos (by simp; omega)]
  have z2 : ∀ (u : Fin 192 → ℝ) (x : Fin 32), pad u (Fin.natAdd 160 (Fin.natAdd 32 (Fin.natAdd 32 x))) = 0 := fun u x => by
    unfold pad; rw [dif_neg (by simp), if_neg (by simp; omega), dif_neg (by simp; omega)]
  have p1 : ∀ (u : Fin 192 → ℝ) (x : Fin 160), pad u (Fin.castAdd 96 x) = u (Fin.castAdd 32 x) := fun u x => by
    unfold pad; rw [dif_pos (by simp)]; rfl
  have p2 : ∀ (u : Fin 192 → ℝ) (x : Fin 32), pad u (Fin.natAdd 160 (Fin.natAdd 32 (Fin.castAdd 32 x))) = u (Fin.natAdd 160 x) := fun u x => by
    unfold pad; rw [dif_neg (by simp), if_neg (by simp; omega), dif_pos (by simp; omega)]
    refine congrArg u (Fin.ext ?_); simp; omega
  simp only [z1, z2, p1, p2, mul_zero, Finset.sum_const_zero, add_zero, zero_add]

/-- A sum of arrays in columns is the array of the sums in columns. -/
theorem pad_sum {n : ℕ} (w : Fin n → ℝ) (f : Fin n → Fin 192 → ℝ) (d : Fin 256) :
    ∑ j, w j * pad (f j) d = pad (fun e => ∑ j, w j * f j e) d := by
  unfold pad
  split_ifs <;> simp

/-- The key that stands at a place when the latent's keys come first. -/
def key (j : Fin 2304) : Fin 2304 := if h : (j : ℕ) < 2048 then ⟨j + 256, by omega⟩ else ⟨j - 2048, by omega⟩

/-- Every key stands at one place. -/
theorem key_bij : Function.Bijective key := by
  refine (Fintype.bijective_iff_injective_and_card _).mpr ⟨fun x y h => ?_, rfl⟩
  have := congrArg Fin.val h
  unfold key at this
  refine Fin.ext ?_
  split_ifs at this <;> simp at this <;> omega

/-- A sum over all keys, in either order. -/
theorem sum_key (f : Fin 2304 → ℝ) : ∑ j, f (key j) = ∑ j, f j := key_bij.sum_comp f

end Cert.Att

end
-- ==== Proof.AttRef.lean ====
module

public import proofs.«01_k».proof.Proof.Gen.Reference2Ideal.Run
public import Idealize.ShloMosaic.Lib.Pipeline.ValueKit
public import Idealize.ShloMosaic.Lib.Claim
public import Idealize.ShloMosaic.Lib.Pointwise
public import proofs.«01_k».proof.Proof.AttMath

/-! What the reference of the attention's backward call computes, stage by stage, over the real numbers. -/

@[expose] public section

set_option maxRecDepth 16384

noncomputable section

namespace Cert.Reference2Ideal.Att

open Cert.Reference2Ideal Cert.Reference2Ideal.Gen Idealize.ShloMosaic Idealize.ShloMosaic.TcCoe Idealize.SL.Sem
open Cert.Att

/-- One over the root of the width of a query. -/
def rA : FVec Ideal S_ .f32 := Host.divf (constant S_ .f32 0x3F800000#32) (Host.sqrt (constant S_ .f32 0x43400000#32))

/-- The scores. -/
def rS (q : FVec Ideal S2x2048x4x192 .f32) (k : FVec Ideal S2x2304x4x192 .f32) : FVec Ideal S2x4x2048x2304 .f32 :=
  mulf (Host.dotGeneral dot_S2x2048x4x192_S2x2304x4x192_S2x4x2048x2304_3_3_1_1_02_02 none q k)
    (broadcastInDim S2x4x2048x2304 ![] bcast_S_S2x4x2048x2304 rA)

/-- The largest score of a query. -/
def rM (q : FVec Ideal S2x2048x4x192 .f32) (k : FVec Ideal S2x2304x4x192 .f32) : FVec Ideal S2x4x2048 .f32 :=
  maximumf (broadcastInDim S2x4x2048 ![] bcast_S_S2x4x2048 (constant S_ .f32 0xFF800000#32))
    (Host.reduce FloatOps.maximumf (rS q k) (constant S_ .f32 0xFF800000#32) reducesTo_S2x4x2048x2304_S2x4x2048_d3 h_S_)

/-- A row of numbers, one for every key. -/
def rows (x : FVec Ideal S2x4x2048 .f32) : FVec Ideal S2x4x2048x2304 .f32 :=
  broadcastInDim S2x4x2048x2304 ![0, 1, 2, 3] bcast_S2x4x2048x1_S2x4x2048x2304_0_1_2_3
    (broadcastInDim S2x4x2048x1 ![0, 1, 2] bcast_S2x4x2048_S2x4x2048x1_0_1_2 x)

/-- The exponentials of the scores, the largest subtracted. -/
def rE (q : FVec Ideal S2x2048x4x192 .f32) (k : FVec Ideal S2x2304x4x192 .f32) : FVec Ideal S2x4x2048x2304 .f32 :=
  Host.exp (subf (rS q k) (rows (rM q k)))

/-- Their sum. -/
def rZ (q : FVec Ideal S2x2048x4x192 .f32) (k : FVec Ideal S2x2304x4x192 .f32) : FVec Ideal S2x4x2048 .f32 :=
  Host.reduceAdd (rE q k) (constant S_ .f32 0x00000000#32) reducesTo_S2x4x2048x2304_S2x4x2048_d3 h_S_

/-- The weights. -/
def rP (q : FVec Ideal S2x2048x4x192 .f32) (k : FVec Ideal S2x2304x4x192 .f32) : FVec Ideal S2x4x2048x2304 .f32 :=
  Host.divf (rE q k) (rows (rZ q k))

/-- The cotangent, by heads. -/
def rG (g : FVec Ideal S2x2048x512 .f32) : FVec Ideal S2x4x128x2048 .f32 :=
  transpose S2x4x128x2048 [0, 2, 3, 1] (shapeCast S2x2048x4x128 g shapeCasts_S2x2048x512_S2x2048x4x128) transposes_S2x2048x4x128_S2x4x128x2048_0_2_3_1

/-- The gradients of the weights. -/
def rD (v : FVec Ideal S2x2304x4x128 .f32) (g : FVec Ideal S2x2048x512 .f32) : FVec Ideal S2x4x2048x2304 .f32 :=
  Host.dotGeneral dot_S2x4x128x2048_S2x2304x4x128_S2x4x2048x2304_2_3_3_1_01_02 none (rG g) v

/-- The sum of the quotient rule of a query. -/
def rQ (q : FVec Ideal S2x2048x4x192 .f32) (k : FVec Ideal S2x2304x4x192 .f32) (v : FVec Ideal S2x2304x4x128 .f32)
    (g : FVec Ideal S2x2048x512 .f32) : FVec Ideal S2x4x2048 .f32 :=
  Host.reduceAdd (Host.negf (shapeCast S2x4x2048x1 (Host.reduceAdd (mulf (mulf (rD v g)
    (broadcastInDim S2x4x2048x2304 ![0, 1, 2, 3] bcast_S2x4x2048x1_S2x4x2048x2304_0_1_2_3
      (Host.divf (broadcastInDim S2x4x2048x1 ![] bcast_S_S2x4x2048x1 (constant S_ .f32 0x3F800000#32))
        (mulf (broadcastInDim S2x4x2048x1 ![0, 1, 2] bcast_S2x4x2048_S2x4x2048x1_0_1_2 (rZ q k))
          (broadcastInDim S2x4x2048x1 ![0, 1, 2] bcast_S2x4x2048_S2x4x2048x1_0_1_2 (rZ q k)))))) (rE q k))
    (constant S_ .f32 0x00000000#32) reducesTo_S2x4x2048x2304_S2x4x2048_d3 h_S_) shapeCasts_S2x4x2048_S2x4x2048x1))
    (constant S_ .f32 0x00000000#32) reducesTo_S2x4x2048x1_S2x4x2048_d3 h_S_

/-- The gradients of the products of query and key. -/
def rDS (q : FVec Ideal S2x2048x4x192 .f32) (k : FVec Ideal S2x2304x4x192 .f32) (v : FVec Ideal S2x2304x4x128 .f32)
    (g : FVec Ideal S2x2048x512 .f32) : FVec Ideal S2x4x2048x2304 .f32 :=
  mulf (mulf (addf (Host.divf (rD v g) (rows (rZ q k)))
    (broadcastInDim S2x4x2048x2304 ![0, 1, 2] bcast_S2x4x2048_S2x4x2048x2304_0_1_2 (rQ q k v g))) (rE q k))
    (broadcastInDim S2x4x2048x2304 ![] bcast_S_S2x4x2048x2304 rA)

/-- The gradients of the queries, the keys and the values. -/
def rdQ (q : FVec Ideal S2x2048x4x192 .f32) (k : FVec Ideal S2x2304x4x192 .f32) (v : FVec Ideal S2x2304x4x128 .f32)
    (g : FVec Ideal S2x2048x512 .f32) : FVec Ideal S2x2048x4x192 .f32 :=
  transpose S2x2048x4x192 [0, 2, 1, 3] (Host.dotGeneral dot_S2x4x2048x2304_S2x2304x4x192_S2x4x2048x192_3_1_2_3_01_02 none (rDS q k v g) k)
    transposes_S2x4x2048x192_S2x2048x4x192_0_2_1_3

def rdK (q : FVec Ideal S2x2048x4x192 .f32) (k : FVec Ideal S2x2304x4x192 .f32) (v : FVec Ideal S2x2304x4x128 .f32)
    (g : FVec Ideal S2x2048x512 .f32) : FVec Ideal S2x2304x4x192 .f32 :=
  transpose S2x2304x4x192 [0, 2, 1, 3] (Host.dotGeneral dot_S2x4x2048x2304_S2x2048x4x192_S2x4x2304x192_2_1_3_3_01_02 none (rDS q k v g) q)
    transposes_S2x4x2304x192_S2x2304x4x192_0_2_1_3

def rdV (q : FVec Ideal S2x2048x4x192 .f32) (k : FVec Ideal S2x2304x4x192 .f32) (g : FVec Ideal S2x2048x512 .f32) : FVec Ideal S2x2304x4x128 .f32 :=
  transpose S2x2304x4x128 [0, 3, 1, 2] (Host.dotGeneral dot_S2x4x128x2048_S2x4x2048x2304_S2x4x128x2304_3_2_2_3_01_01 none (rG g) (rP q k))
    transposes_S2x4x128x2304_S2x2304x4x128_0_3_1_2

/-- The gradient of the queries as the step keeps it. -/
def colQ (x : FVec Ideal S2x2048x4x192 .f32) : FVec Ideal S2x2048x1024 .f32 :=
  shapeCast S2x2048x1024 (concatenate S2x2048x4x256 3 [
    ⟨S2x2048x4x160, extractStridedSlice S2x2048x4x160 ![0, 0, 0, 0] x slices_S2x2048x4x192_S2x2048x4x160_0_0_0_0⟩,
    ⟨S2x2048x4x32, broadcastInDim S2x2048x4x32 ![] bcast_S_S2x2048x4x32 (constant S_ .f32 0x00000000#32)⟩,
    ⟨S2x2048x4x32, extractStridedSlice S2x2048x4x32 ![0, 0, 0, 160] x slices_S2x2048x4x192_S2x2048x4x32_0_0_0_160⟩,
    ⟨S2x2048x4x32, broadcastInDim S2x2048x4x32 ![] bcast_S_S2x2048x4x32 (constant S_ .f32 0x00000000#32)⟩]
    concatenates_S2x2048x4x160_S2x2048x4x32_S2x2048x4x32_S2x2048x4x32_S2x2048x4x256_d3) shapeCasts_S2x2048x4x256_S2x2048x1024

/-- The latent's keys first. -/
def latK (x : FVec Ideal S2x2304x4x192 .f32) : FVec Ideal S2x2304x4x192 .f32 :=
  concatenate S2x2304x4x192 1 [
    ⟨S2x2048x4x192, extractStridedSlice S2x2048x4x192 ![0, 256, 0, 0] x slices_S2x2304x4x192_S2x2048x4x192_0_256_0_0⟩,
    ⟨S2x256x4x192, extractStridedSlice S2x256x4x192 ![0, 0, 0, 0] x slices_S2x2304x4x192_S2x256x4x192_0_0_0_0⟩]
    concatenates_S2x2048x4x192_S2x256x4x192_S2x2304x4x192_d1

/-- The gradient of the keys as the step keeps it. -/
def colK (x : FVec Ideal S2x2304x4x192 .f32) : FVec Ideal S2x2304x1024 .f32 :=
  shapeCast S2x2304x1024 (concatenate S2x2304x4x256 3 [
    ⟨S2x2304x4x160, extractStridedSlice S2x2304x4x160 ![0, 0, 0, 0] (latK x) slices_S2x2304x4x192_S2x2304x4x160_0_0_0_0⟩,
    ⟨S2x2304x4x32, broadcastInDim S2x2304x4x32 ![] bcast_S_S2x2304x4x32 (constant S_ .f32 0x00000000#32)⟩,
    ⟨S2x2304x4x32, extractStridedSlice S2x2304x4x32 ![0, 0, 0, 160] (latK x) slices_S2x2304x4x192_S2x2304x4x32_0_0_0_160⟩,
    ⟨S2x2304x4x32, broadcastInDim S2x2304x4x32 ![] bcast_S_S2x2304x4x32 (constant S_ .f32 0x00000000#32)⟩]
    concatenates_S2x2304x4x160_S2x2304x4x32_S2x2304x4x32_S2x2304x4x32_S2x2304x4x256_d3) shapeCasts_S2x2304x4x256_S2x2304x1024

/-- The gradient of the values as the step keeps it. -/
def colV (x : FVec Ideal S2x2304x4x128 .f32) : FVec Ideal S2x2304x512 .f32 :=
  shapeCast S2x2304x512 (concatenate S2x2304x4x128 1 [
    ⟨S2x2048x4x128, extractStridedSlice S2x2048x4x128 ![0, 256, 0, 0] x slices_S2x2304x4x128_S2x2048x4x128_0_256_0_0⟩,
    ⟨S2x256x4x128, extractStridedSlice S2x256x4x128 ![0, 0, 0, 0] x slices_S2x2304x4x128_S2x256x4x128_0_0_0_0⟩]
    concatenates_S2x2048x4x128_S2x256x4x128_S2x2304x4x128_d1) shapeCasts_S2x2304x4x128_S2x2304x512

/-- One head of the arguments. -/
def hQ (Q : S2x2048x4x192.Idx → ℝ) (b : Fin 2) (h : Fin 4) (i : Fin 2048) (d : Fin 192) : ℝ := Q (ix4 b i h d)
def hK (K : S2x2304x4x192.Idx → ℝ) (b : Fin 2) (h : Fin 4) (j : Fin 2304) (d : Fin 192) : ℝ := K (ix4 b j h d)
def hV (V : S2x2304x4x128.Idx → ℝ) (b : Fin 2) (h : Fin 4) (j : Fin 2304) (e : Fin 128) : ℝ := V (ix4 b j h e)
def hG (G : S2x2048x512.Idx → ℝ) (b : Fin 2) (h : Fin 4) (i : Fin 2048) (e : Fin 128) : ℝ := G (ix3 b i ⟨h * 128 + e, by omega⟩)

/-- The scale as a real number. -/
def scale : ℝ := (Real.sqrt 192)⁻¹

theorem rA_at : rA ix0 = (scale : EReal) := by
  have h : Ideal.ofBits .f32 0x43400000#32 = ((192 : ℝ) : EReal) := by
    simp [Ideal.ofBits, Ideal.ieee]; norm_cast; norm_num
  pointwise [rA]
  rw [h, ← EReal.coe_one, Ideal.sqrt_coe, if_neg (by norm_num), Cert.Reals.div_coe_coe _ _ (by positivity), one_div]
  rfl

/-- The largest of several real numbers, and of minus infinity, is a real number. -/
theorem fold_max_real {ι : Type} (s : Finset ι) (hs : s.Nonempty) (f : ι → ℝ) :
    ∃ M : ℝ, s.fold max ⊥ (fun i => (f i : EReal)) = (M : EReal) := by
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-- So is the largest entry along an axis. -/
theorem reduce_max_real {s t u : Shape} {a : Fin s.rank} (x : s.Idx → ℝ) (init : FVec Ideal u .f32) (hi : ∀ i, init i = ⊥)
    (h' : s.ReducesTo [a] t) (h : s.Reduces [a] t) (hu : 0 < u.numel) (hp : 0 < s.size a) (j : t.Idx) :
    ∃ M : ℝ, Host.reduce (FloatOps.maximumf (F := Ideal) (φ := .f32)) (fun i => (x i : EReal)) init h' hu j = (M : EReal) := by
  rw [Host.reduce_eq_fold_single _ _ _ _ h, hi]
  exact fold_max_real Finset.univ ⟨⟨0, hp⟩, Finset.mem_univ _⟩ fun k => x (h.lift j k)

variable (Q : S2x2048x4x192.Idx → ℝ) (K : S2x2304x4x192.Idx → ℝ) (V : S2x2304x4x128.Idx → ℝ) (G : S2x2048x512.Idx → ℝ)

theorem rS_at (b : Fin 2) (h : Fin 4) (i : Fin 2048) (j : Fin 2304) :
    rS (fun x => (Q x : EReal)) (fun x => (K x : EReal)) (ix4 b h i j) = (sc scale (hQ Q b h) (hK K b h) i j : EReal) := by
  pointwise [rS]
  simp only [rA_at, ← EReal.coe_mul, Cert.Reals.sum_coe]
  rfl

theorem rS_real : rS (fun x => (Q x : EReal)) (fun x => (K x : EReal))
    = fun x => ((sc scale (hQ Q (x 0) (x 1)) (hK K (x 0) (x 1)) (x 2) (x 3) : ℝ) : EReal) := by
  funext x
  idx_vars x
  exact rS_at Q K _ _ _ _

theorem minus_inf : Ideal.ofBits .f32 0xFF800000#32 = ⊥ := by simp [Ideal.ofBits, Ideal.ieee]

/-- The larger of minus infinity and a number is the number. -/
theorem larger_at (y : FVec Ideal S2x4x2048 .f32) (x : S2x4x2048.Idx) :
    maximumf (broadcastInDim S2x4x2048 ![] bcast_S_S2x4x2048 (constant S_ .f32 0xFF800000#32)) y x = y x := by
  idx_vars x
  pointwise
  rw [minus_inf]
  exact bot_sup_eq _

theorem rM_at (b : Fin 2) (h : Fin 4) (i : Fin 2048) :
    ∃ M : ℝ, rM (fun x => (Q x : EReal)) (fun x => (K x : EReal)) (ix3 b h i) = (M : EReal) := by
  obtain ⟨M, hM⟩ := reduce_max_real (fun x : S2x4x2048x2304.Idx => sc scale (hQ Q (x 0) (x 1)) (hK K (x 0) (x 1)) (x 2) (x 3))
    (constant S_ .f32 0xFF800000#32) (fun _ => minus_inf) reducesTo_S2x4x2048x2304_S2x4x2048_d3 (by decide) h_S_ (by decide) (ix3 b h i)
  refine ⟨M, ?_⟩
  unfold rM
  rw [larger_at, rS_real]
  exact hM

theorem rE_at (M : ℝ) (b : Fin 2) (h : Fin 4) (i : Fin 2048) (j : Fin 2304)
    (hM : rM (fun x => (Q x : EReal)) (fun x => (K x : EReal)) (ix3 b h i) = (M : EReal)) :
    rE (fun x => (Q x : EReal)) (fun x => (K x : EReal)) (ix4 b h i j) = (Real.exp (sc scale (hQ Q b h) (hK K b h) i j - M) : EReal) := by
  pointwise [rE, rows]
  rw [hM, rS_at, ← EReal.coe_sub, Ideal.exp_coe]

theorem rZ_at (M : ℝ) (b : Fin 2) (h : Fin 4) (i : Fin 2048)
    (hM : rM (fun x => (Q x : EReal)) (fun x => (K x : EReal)) (ix3 b h i) = (M : EReal)) :
    rZ (fun x => (Q x : EReal)) (fun x => (K x : EReal)) (ix3 b h i) = ((∑ j, Real.exp (sc scale (hQ Q b h) (hK K b h) i j - M) : ℝ) : EReal) := by
  pointwise [rZ]
  rw [Finset.sum_congr rfl fun j _ => rE_at Q K M b h i j hM, Cert.Reals.sum_coe]

theorem rP_at (b : Fin 2) (h : Fin 4) (i : Fin 2048) (j : Fin 2304) :
    rP (fun x => (Q x : EReal)) (fun x => (K x : EReal)) (ix4 b h i j) = (pr scale (hQ Q b h) (hK K b h) i j : EReal) := by
  obtain ⟨M, hM⟩ := rM_at Q K b h i
  pointwise [rP, rows]
  rw [rE_at Q K M b h i j hM, rZ_at Q K M b h i hM, Cert.Reals.div_coe_coe _ _ (sum_exp_pos _).ne', pr_shift]

theorem rD_at (b : Fin 2) (h : Fin 4) (i : Fin 2048) (j : Fin 2304) :
    rD (fun x => (V x : EReal)) (fun x => (G x : EReal)) (ix4 b h i j) = (dp (hV V b h) (hG G b h) i j : EReal) := by
  pointwise [rD, rG]
  simp only [← EReal.coe_mul, Cert.Reals.sum_coe]
  rfl

theorem rQ_at (M : ℝ) (b : Fin 2) (h : Fin 4) (i : Fin 2048)
    (hM : rM (fun x => (Q x : EReal)) (fun x => (K x : EReal)) (ix3 b h i) = (M : EReal)) :
    rQ (fun x => (Q x : EReal)) (fun x => (K x : EReal)) (fun x => (V x : EReal)) (fun x => (G x : EReal)) (ix3 b h i)
      = ((-∑ j', dp (hV V b h) (hG G b h) i j' * (1 / ((∑ j'', Real.exp (sc scale (hQ Q b h) (hK K b h) i j'' - M)) * ∑ j'', Real.exp (sc scale (hQ Q b h) (hK K b h) i j'' - M)))
          * Real.exp (sc scale (hQ Q b h) (hK K b h) i j' - M) : ℝ) : EReal) := by
  pointwise [rQ]
  have hz := (sum_exp_pos (fun j => sc scale (hQ Q b h) (hK K b h) i j - M)).ne'
  rw [Fin.sum_univ_one, rZ_at Q K M b h i hM, ← EReal.coe_mul, ← EReal.coe_one, Cert.Reals.div_coe_coe _ _ (mul_ne_zero hz hz)]
  simp only [rD_at, rE_at Q K M b h i _ hM, ← EReal.coe_mul, Cert.Reals.sum_coe, ← EReal.coe_neg]

theorem rDS_at (b : Fin 2) (h : Fin 4) (i : Fin 2048) (j : Fin 2304) :
    rDS (fun x => (Q x : EReal)) (fun x => (K x : EReal)) (fun x => (V x : EReal)) (fun x => (G x : EReal)) (ix4 b h i j)
      = (ds scale (hQ Q b h) (hK K b h) (hV V b h) (hG G b h) i j : EReal) := by
  obtain ⟨M, hM⟩ := rM_at Q K b h i
  pointwise [rDS, rows]
  have hz := (sum_exp_pos (fun j => sc scale (hQ Q b h) (hK K b h) i j - M)).ne'
  rw [rD_at, rZ_at Q K M b h i hM, rQ_at Q K V G M b h i hM, rE_at Q K M b h i j hM, rA_at, Cert.Reals.div_coe_coe _ _ hz,
    ← EReal.coe_add, ← EReal.coe_mul, ← EReal.coe_mul, ds_quot]

theorem rdQ_at (b : Fin 2) (i : Fin 2048) (h : Fin 4) (d : Fin 192) :
    rdQ (fun x => (Q x : EReal)) (fun x => (K x : EReal)) (fun x => (V x : EReal)) (fun x => (G x : EReal)) (ix4 b i h d)
      = (dq scale (hQ Q b h) (hK K b h) (hV V b h) (hG G b h) i d : EReal) := by
  pointwise [rdQ]
  simp only [rDS_at, ← EReal.coe_mul, Cert.Reals.sum_coe]
  rfl

theorem rdK_at (b : Fin 2) (j : Fin 2304) (h : Fin 4) (d : Fin 192) :
    rdK (fun x => (Q x : EReal)) (fun x => (K x : EReal)) (fun x => (V x : EReal)) (fun x => (G x : EReal)) (ix4 b j h d)
      = (dk scale (hQ Q b h) (hK K b h) (hV V b h) (hG G b h) j d : EReal) := by
  pointwise [rdK]
  simp only [rDS_at, ← EReal.coe_mul, Cert.Reals.sum_coe]
  rfl

theorem rdV_at (b : Fin 2) (j : Fin 2304) (h : Fin 4) (e : Fin 128) :
    rdV (fun x => (Q x : EReal)) (fun x => (K x : EReal)) (fun x => (G x : EReal)) (ix4 b j h e)
      = (dv scale (hQ Q b h) (hK K b h) (hG G b h) j e : EReal) := by
  pointwise [rdV, rG]
  simp only [rP_at, ← EReal.coe_mul, Cert.Reals.sum_coe]
  rfl

/-- The columns of a head, as the slices put them together. -/
theorem pad_dite (f : Fin 192 → ℝ) (d : Fin 256) :
    (if h : (d : ℕ) < 160 then (f ⟨d, by omega⟩ : EReal) else if h : (d : ℕ) - 160 < 32 then 0
      else if h : (d : ℕ) - 160 - 32 < 32 then (f ⟨160 + (d - 160 - 32), by omega⟩ : EReal) else 0) = (pad f d : EReal) := by
  unfold Cert.Att.pad
  by_cases h1 : (d : ℕ) < 160
  · rw [dif_pos h1, dif_pos h1]
  rw [dif_neg h1, dif_neg h1]
  by_cases h2 : (d : ℕ) < 192
  · rw [dif_pos (by omega), if_pos h2]; rfl
  rw [dif_neg (by omega), if_neg h2]
  by_cases h3 : (d : ℕ) < 224
  · rw [dif_pos (by omega), dif_pos h3]
    exact congrArg (fun x => (f x : EReal)) (Fin.ext (by simp; omega))
  · rw [dif_neg (by omega), dif_neg h3]; rfl

theorem colQ_at (f : Fin 2 → Fin 2048 → Fin 4 → Fin 192 → ℝ) (x : FVec Ideal S2x2048x4x192 .f32) (hx : ∀ b i h d, x (ix4 b i h d) = (f b i h d : EReal))
    (b : Fin 2) (i : Fin 2048) (l : Fin 1024) :
    colQ x (ix3 b i l) = (pad (f b i ⟨l / 256, by omega⟩) ⟨l % 256, by omega⟩ : EReal) := by
  pointwise [colQ]
  simp only [hx]
  exact pad_dite (f b i ⟨l / 256, by omega⟩) ⟨l % 256, by omega⟩

/-- The keys, the latent's first, as the slices put them together. -/
theorem key_dite {β : Type} (f : Fin 2304 → β) (j : Fin 2304) :
    (if h : (j : ℕ) < 2048 then f ⟨256 + j, by omega⟩ else f ⟨j - 2048, by omega⟩) = f (key j) := by
  unfold key
  split_ifs
  · exact congrArg f (Fin.ext (by simp; omega))
  · rfl

theorem latK_at (f : Fin 2 → Fin 2304 → Fin 4 → Fin 192 → ℝ) (x : FVec Ideal S2x2304x4x192 .f32) (hx : ∀ b i h d, x (ix4 b i h d) = (f b i h d : EReal))
    (b : Fin 2) (j : Fin 2304) (h : Fin 4) (d : Fin 192) : latK x (ix4 b j h d) = (f b (key j) h d : EReal) := by
  pointwise [latK]
  simp only [hx]
  exact key_dite (fun j => (f b j h d : EReal)) j

theorem colK_at (f : Fin 2 → Fin 2304 → Fin 4 → Fin 192 → ℝ) (x : FVec Ideal S2x2304x4x192 .f32) (hx : ∀ b i h d, x (ix4 b i h d) = (f b i h d : EReal))
    (b : Fin 2) (i : Fin 2304) (l : Fin 1024) :
    colK x (ix3 b i l) = (pad (f b (key i) ⟨l / 256, by omega⟩) ⟨l % 256, by omega⟩ : EReal) := by
  pointwise [colK]
  simp only [latK_at f x hx]
  exact pad_dite (f b (key i) ⟨l / 256, by omega⟩) ⟨l % 256, by omega⟩

theorem colV_at (f : Fin 2 → Fin 2304 → Fin 4 → Fin 128 → ℝ) (x : FVec Ideal S2x2304x4x128 .f32) (hx : ∀ b i h d, x (ix4 b i h d) = (f b i h d : EReal))
    (b : Fin 2) (i : Fin 2304) (l : Fin 512) :
    colV x (ix3 b i l) = (f b (key i) ⟨l / 128, by omega⟩ ⟨l % 128, by omega⟩ : EReal) := by
  pointwise [colV]
  simp only [hx]
  exact key_dite (fun j => (f b j ⟨l / 128, by omega⟩ ⟨l % 128, by omega⟩ : EReal)) i

theorem res0 (m : (ℓ : Loc nD τ sig) → Buf (Elt Ideal) ℓ) (c : Dev nD) :
    Cert.Reference2Ideal.Value.res_out0 m c = colQ (rdQ (m ((c.tc : Thread nD τ).loc main_arg0)) (m ((c.tc : Thread nD τ).loc main_arg1))
      (m ((c.tc : Thread nD τ).loc main_arg2)) (m ((c.tc : Thread nD τ).loc main_arg3))) := rfl

theorem res1 (m : (ℓ : Loc nD τ sig) → Buf (Elt Ideal) ℓ) (c : Dev nD) :
    Cert.Reference2Ideal.Value.res_out1 m c = colK (rdK (m ((c.tc : Thread nD τ).loc main_arg0)) (m ((c.tc : Thread nD τ).loc main_arg1))
      (m ((c.tc : Thread nD τ).loc main_arg2)) (m ((c.tc : Thread nD τ).loc main_arg3))) := rfl

theorem res2 (m : (ℓ : Loc nD τ sig) → Buf (Elt Ideal) ℓ) (c : Dev nD) :
    Cert.Reference2Ideal.Value.res_out2 m c = colV (rdV (m ((c.tc : Thread nD τ).loc main_arg0)) (m ((c.tc : Thread nD τ).loc main_arg1))
      (m ((c.tc : Thread nD τ).loc main_arg3))) := rfl

end Cert.Reference2Ideal.Att

end
-- ==== Proof.AttOps.lean ====
module

public import proofs.«01_k».proof.Proof.Gen.Kernel2Ideal.Skeleton
public import proofs.«01_k».proof.Proof.AttRef

/-! The arrays that the attention's backward call reads, over the real numbers. -/

@[expose] public section

set_option maxRecDepth 16384

noncomputable section

namespace Cert.Kernel2Ideal.Att

open Cert.Kernel2Ideal Cert.Kernel2Ideal.Gen Idealize.ShloMosaic Idealize.ShloMosaic.TcCoe Idealize.SL.Sem
open Cert.Att Cert.Reference2Ideal.Att

/-- The largest score of a query. -/
def kM (q : FVec Ideal S2x2048x4x192 .f32) (k : FVec Ideal S2x2304x4x192 .f32) : FVec Ideal S2x4x2048 .f32 :=
  Host.reduce FloatOps.maximumf (rS q k) (constant S_ .f32 0xFF800000#32) reducesTo_S2x4x2048x2304_S2x4x2048_d3 h_S_

/-- The sum of the exponentials, that score subtracted. -/
def kZ (q : FVec Ideal S2x2048x4x192 .f32) (k : FVec Ideal S2x2304x4x192 .f32) : FVec Ideal S2x4x2048 .f32 :=
  Host.reduceAdd (Host.exp (subf (rS q k) (Cert.Reference2Ideal.Att.rows (kM q k)))) (constant S_ .f32 0x00000000#32) reducesTo_S2x4x2048x2304_S2x4x2048_d3 h_S_

/-- The logarithms of the rows' sums, in all lanes of a head. -/
def lse (q : FVec Ideal S2x2048x4x192 .f32) (k : FVec Ideal S2x2304x4x192 .f32) : FVec Ideal S2x2048x512 .f32 :=
  shapeCast S2x2048x512 (broadcastInDim S2x2048x4x128 ![0, 1, 2, 3] bcast_S2x2048x4x1_S2x2048x4x128_0_1_2_3
    (broadcastInDim S2x2048x4x1 ![0, 1, 2] bcast_S2x2048x4_S2x2048x4x1_0_1_2
      (transpose S2x2048x4 [0, 2, 1] (addf (Host.log (kZ q k)) (kM q k)) transposes_S2x4x2048_S2x2048x4_0_2_1)))
    shapeCasts_S2x2048x4x128_S2x2048x512

/-- The output. -/
def outp (q : FVec Ideal S2x2048x4x192 .f32) (k : FVec Ideal S2x2304x4x192 .f32) (v : FVec Ideal S2x2304x4x128 .f32) : FVec Ideal S2x2048x512 .f32 :=
  shapeCast S2x2048x512 (transpose S2x2048x4x128 [0, 3, 1, 2]
    (Host.dotGeneral dot_S2x2304x4x128_S2x4x2048x2304_S2x4x128x2048_1_3_3_2_02_01 none v (rP q k)) transposes_S2x4x128x2048_S2x2048x4x128_0_3_1_2)
    shapeCasts_S2x2048x4x128_S2x2048x512

/-- The values, the latent's first. -/
def kv (v : FVec Ideal S2x2304x4x128 .f32) : FVec Ideal S2x2304x512 .bf16 :=
  truncf .bf16 (shapeCast S2x2304x512 (concatenate S2x2304x4x128 1 [
    ⟨S2x2048x4x128, extractStridedSlice S2x2048x4x128 ![0, 256, 0, 0] v slices_S2x2304x4x128_S2x2048x4x128_0_256_0_0⟩,
    ⟨S2x256x4x128, extractStridedSlice S2x256x4x128 ![0, 0, 0, 0] v slices_S2x2304x4x128_S2x256x4x128_0_0_0_0⟩]
    concatenates_S2x2048x4x128_S2x256x4x128_S2x2304x4x128_d1) shapeCasts_S2x2304x4x128_S2x2304x512) bitsLt_bf16_f32

/-- The queries by columns. -/
def kq32 (q : FVec Ideal S2x2048x4x192 .f32) : FVec Ideal S2x2048x1024 .f32 :=
  shapeCast S2x2048x1024 (concatenate S2x2048x4x256 3 [
    ⟨S2x2048x4x128, extractStridedSlice S2x2048x4x128 ![0, 0, 0, 0] q slices_S2x2048x4x192_S2x2048x4x128_0_0_0_0⟩,
    ⟨S2x2048x4x32, extractStridedSlice S2x2048x4x32 ![0, 0, 0, 128] q slices_S2x2048x4x192_S2x2048x4x32_0_0_0_128⟩,
    ⟨S2x2048x4x32, broadcastInDim S2x2048x4x32 ![] bcast_S_S2x2048x4x32 (constant S_ .f32 0x00000000#32)⟩,
    ⟨S2x2048x4x32, extractStridedSlice S2x2048x4x32 ![0, 0, 0, 160] q slices_S2x2048x4x192_S2x2048x4x32_0_0_0_160⟩,
    ⟨S2x2048x4x32, broadcastInDim S2x2048x4x32 ![] bcast_S_S2x2048x4x32 (constant S_ .f32 0x00000000#32)⟩]
    concatenates_S2x2048x4x128_S2x2048x4x32_S2x2048x4x32_S2x2048x4x32_S2x2048x4x32_S2x2048x4x256_d3) shapeCasts_S2x2048x4x256_S2x2048x1024

def kq (q : FVec Ideal S2x2048x4x192 .f32) : FVec Ideal S2x2048x1024 .bf16 :=
  truncf .bf16 (kq32 q) bitsLt_bf16_f32

/-- The keys by columns. -/
def kk32 (k : FVec Ideal S2x2304x4x192 .f32) : FVec Ideal S2x2304x1024 .f32 :=
  shapeCast S2x2304x1024 (concatenate S2x2304x4x256 3 [
    ⟨S2x2304x4x128, extractStridedSlice S2x2304x4x128 ![0, 0, 0, 0] (latK k) slices_S2x2304x4x192_S2x2304x4x128_0_0_0_0⟩,
    ⟨S2x2304x4x32, extractStridedSlice S2x2304x4x32 ![0, 0, 0, 128] (latK k) slices_S2x2304x4x192_S2x2304x4x32_0_0_0_128⟩,
    ⟨S2x2304x4x32, broadcastInDim S2x2304x4x32 ![] bcast_S_S2x2304x4x32 (constant S_ .f32 0x00000000#32)⟩,
    ⟨S2x2304x4x32, extractStridedSlice S2x2304x4x32 ![0, 0, 0, 160] (latK k) slices_S2x2304x4x192_S2x2304x4x32_0_0_0_160⟩,
    ⟨S2x2304x4x32, broadcastInDim S2x2304x4x32 ![] bcast_S_S2x2304x4x32 (constant S_ .f32 0x00000000#32)⟩]
    concatenates_S2x2304x4x128_S2x2304x4x32_S2x2304x4x32_S2x2304x4x32_S2x2304x4x32_S2x2304x4x256_d3) shapeCasts_S2x2304x4x256_S2x2304x1024

def kk (k : FVec Ideal S2x2304x4x192 .f32) : FVec Ideal S2x2304x1024 .bf16 :=
  truncf .bf16 (kk32 k) bitsLt_bf16_f32

variable (Q : S2x2048x4x192.Idx → ℝ) (K : S2x2304x4x192.Idx → ℝ) (W : S2x2304x4x128.Idx → ℝ)

theorem kM_at (b : Fin 2) (h : Fin 4) (i : Fin 2048) :
    ∃ M : ℝ, kM (fun x => (Q x : EReal)) (fun x => (K x : EReal)) (ix3 b h i) = (M : EReal) := by
  obtain ⟨M, hM⟩ := rM_at Q K b h i
  refine ⟨M, ?_⟩
  unfold rM at hM
  rw [larger_at] at hM
  exact hM

theorem kZ_at (M : ℝ) (b : Fin 2) (h : Fin 4) (i : Fin 2048)
    (hM : kM (fun x => (Q x : EReal)) (fun x => (K x : EReal)) (ix3 b h i) = (M : EReal)) :
    kZ (fun x => (Q x : EReal)) (fun x => (K x : EReal)) (ix3 b h i) = ((∑ j, Real.exp (sc scale (hQ Q b h) (hK K b h) i j - M) : ℝ) : EReal) := by
  pointwise [kZ, Cert.Reference2Ideal.Att.rows]
  simp only [hM, rS_at, ← EReal.coe_sub, Ideal.exp_coe, Cert.Reals.sum_coe]

/-- A lane of a head holds a number that turns the scores into the weights. -/
theorem lse_at (b : Fin 2) (h : Fin 4) (i : Fin 2048) :
    ∃ L : ℝ, (∀ j, Real.exp (sc scale (hQ Q b h) (hK K b h) i j - L) = pr scale (hQ Q b h) (hK K b h) i j)
      ∧ ∀ l : Fin 512, (l : ℕ) / 128 = h → lse (fun x => (Q x : EReal)) (fun x => (K x : EReal)) (ix3 b i l) = (L : EReal) := by
  obtain ⟨M, hM⟩ := kM_at Q K b h i
  refine ⟨_, fun j => pr_log scale (hQ Q b h) (hK K b h) M i j, fun l hl => ?_⟩
  have hh : (⟨l / 128, by omega⟩ : Fin 4) = h := Fin.ext hl
  pointwise [lse]
  rw [hh, hM, kZ_at Q K M _ _ _ hM, Ideal.log_coe, if_neg (not_le.mpr (sum_exp_pos _)), ← EReal.coe_add]

theorem outp_at (b : Fin 2) (i : Fin 2048) (l : Fin 512) :
    outp (fun x => (Q x : EReal)) (fun x => (K x : EReal)) (fun x => (W x : EReal)) (ix3 b i l)
      = (out scale (hQ Q b ⟨l / 128, by omega⟩) (hK K b ⟨l / 128, by omega⟩) (hV W b ⟨l / 128, by omega⟩) i ⟨l % 128, by omega⟩ : EReal) := by
  pointwise [outp]
  simp only [rP_at, ← EReal.coe_mul, Cert.Reals.sum_coe]
  rfl

/-- The values are the gradient's own arrangement of them. -/
theorem kv_eq (v : FVec Ideal S2x2304x4x128 .f32) : kv v = colV v := rfl

theorem kv_at (b : Fin 2) (j : Fin 2304) (l : Fin 512) :
    kv (fun x => (W x : EReal)) (ix3 b j l) = (hV W b ⟨l / 128, by omega⟩ (key j) ⟨l % 128, by omega⟩ : EReal) := by
  rw [kv_eq]
  exact colV_at (fun b j h e => hV W b h j e) _ (fun _ _ _ _ => rfl) b j l

/-- The columns of a head, as the call's slices put them together. -/
theorem pad_dite5 (f : Fin 192 → ℝ) (d : Fin 256) :
    (if h : (d : ℕ) < 128 then (f ⟨d, by omega⟩ : EReal) else if h : (d : ℕ) - 128 < 32 then (f ⟨128 + (d - 128), by omega⟩ : EReal)
      else if h : (d : ℕ) - 128 - 32 < 32 then 0
      else if h : (d : ℕ) - 128 - 32 - 32 < 32 then (f ⟨160 + (d - 128 - 32 - 32), by omega⟩ : EReal) else 0) = (pad f d : EReal) := by
  unfold Cert.Att.pad
  by_cases h1 : (d : ℕ) < 160
  · rw [dif_pos h1]
    by_cases h0 : (d : ℕ) < 128
    · rw [dif_pos h0]
    · rw [dif_neg h0, dif_pos (by omega)]
      exact congrArg (fun x => (f x : EReal)) (Fin.ext (by simp; omega))
  rw [dif_neg h1, dif_neg (by omega), dif_neg (by omega)]
  by_cases h2 : (d : ℕ) < 192
  · rw [dif_pos (by omega), if_pos h2]; rfl
  rw [dif_neg (by omega), if_neg h2]
  by_cases h3 : (d : ℕ) < 224
  · rw [dif_pos (by omega), dif_pos h3]
    exact congrArg (fun x => (f x : EReal)) (Fin.ext (by simp; omega))
  · rw [dif_neg (by omega), dif_neg h3]; rfl

/-- Rounding to fewer bits leaves the real numbers. -/
theorem kq_eq (x : FVec Ideal S2x2048x4x192 .f32) : kq x = kq32 x := rfl
theorem kk_eq (x : FVec Ideal S2x2304x4x192 .f32) : kk x = kk32 x := rfl

theorem kq_at (x : FVec Ideal S2x2048x4x192 .f32) (f : Fin 2 → Fin 2048 → Fin 4 → Fin 192 → ℝ) (hx : ∀ b i h d, x (ix4 b i h d) = (f b i h d : EReal))
    (b : Fin 2) (i : Fin 2048) (l : Fin 1024) :
    kq x (ix3 b i l) = (pad (f b i ⟨l / 256, by omega⟩) ⟨l % 256, by omega⟩ : EReal) := by
  rw [kq_eq]
  pointwise [kq32]
  simp only [hx]
  exact pad_dite5 (f b i ⟨l / 256, by omega⟩) ⟨l % 256, by omega⟩

theorem kk_at (x : FVec Ideal S2x2304x4x192 .f32) (f : Fin 2 → Fin 2304 → Fin 4 → Fin 192 → ℝ) (hx : ∀ b i h d, x (ix4 b i h d) = (f b i h d : EReal))
    (b : Fin 2) (j : Fin 2304) (l : Fin 1024) :
    kk x (ix3 b j l) = (pad (f b (key j) ⟨l / 256, by omega⟩) ⟨l % 256, by omega⟩ : EReal) := by
  rw [kk_eq]
  pointwise [kk32]
  simp only [latK_at f x hx]
  exact pad_dite5 (f b (key j) ⟨l / 256, by omega⟩) ⟨l % 256, by omega⟩

end Cert.Kernel2Ideal.Att
end
-- ==== Proof.AttPay.lean ====
module

public import proofs.«01_k».proof.Proof.Gen.Kernel2Ideal.Skeleton
public import proofs.«01_k».proof.Proof.AttRef

/-! What the body of the attention's backward call makes of one block of real numbers. -/

@[expose] public section

set_option maxRecDepth 16384

noncomputable section

namespace Cert.Kernel2Ideal.Att

open Cert.Kernel2Ideal Cert.Kernel2Ideal.Gen Idealize.ShloMosaic Idealize.ShloMosaic.TcCoe Idealize.SL.Sem
open Cert.Att Cert.Reference2Ideal.Att

theorem named_sl : Named.named (F := Ideal) (φ := .f32) κ "sl" 0x3DD53B95#32 = ((scale * (Real.log 2)⁻¹ : ℝ) : EReal) := by
  simp [Named.named, κ, scale]
theorem named_l : Named.named (F := Ideal) (φ := .f32) κ "l" 0x3FB8AA3B#32 = (((Real.log 2)⁻¹ : ℝ) : EReal) := by
  simp [Named.named, κ]
theorem named_s : Named.named (F := Ideal) (φ := .f32) κ "s" 0x3D93CD3A#32 = (scale : EReal) := by
  simp [Named.named, κ, scale]

/-- A power of two with the logarithm's base divided out. -/
theorem two_pow (x L a : ℝ) : Real.rpow 2 (x * (a * (Real.log 2)⁻¹) - L * (Real.log 2)⁻¹) = Real.exp (x * a - L) := by
  have h2 : Real.log 2 ≠ 0 := (Real.log_pos (by norm_num)).ne'
  show (2 : ℝ) ^ (_ : ℝ) = _
  rw [Real.rpow_def_of_pos (by norm_num)]
  congr 1
  field_simp

/-- The largest of equal numbers is that number. -/
theorem fold_max_same {ι : Type} [Fintype ι] [Nonempty ι] (L : EReal) : Finset.univ.fold max ⊥ (fun _ : ι => L) = L := by
  have h : ∀ s : Finset ι, s.Nonempty → s.fold max ⊥ (fun _ : ι => L) = L := fun s hs => by
    induction hs using Finset.Nonempty.cons_induction with
    | singleton a => simp
    | cons a s ha hs ih => rw [Finset.fold_cons, ih, max_self]
  exact h _ Finset.univ_nonempty

variable (q : S1x1024x256.Idx → ℝ) (k : S1x2304x256.Idx → ℝ) (v : S1x2304x128.Idx → ℝ) (o g : S1x1024x128.Idx → ℝ) (L : Fin 1024 → ℝ)

theorem pay13_at (i : Fin 1024) (j : Fin 2304) :
    k0_pay13 (F := Ideal) (fun y => (k y : EReal)) (fun y => (q y : EReal)) (fun y => (L (y 1) : EReal)) (ix2 i j)
      = (Real.exp ((∑ d, q (ix3 0 i d) * k (ix3 0 j d)) * scale - L i) : EReal) := by
  pointwise [k0_pay13, k0_pay9, k0_pay10]
  rw [named_sl, named_l, minus_inf, fold_max_same]
  simp only [← EReal.coe_mul, Cert.Reals.sum_coe, ← EReal.coe_sub]
  refine (Ideal.exp2_coe _).trans ?_
  rw [two_pow]

theorem pay14_at (i : Fin 1024) (j : Fin 2304) :
    k0_pay14 (F := Ideal) (fun y => (k y : EReal)) (fun y => (v y : EReal)) (fun y => (q y : EReal)) (fun y => (g y : EReal)) (fun y => (L (y 1) : EReal))
      (fun y => (o y : EReal)) (ix2 i j)
      = ((Real.exp ((∑ d, q (ix3 0 i d) * k (ix3 0 j d)) * scale - L i)
          * ((∑ e, g (ix3 0 i e) * v (ix3 0 j e)) - ∑ e, g (ix3 0 i e) * o (ix3 0 i e)) : ℝ) : EReal) := by
  pointwise [k0_pay14, k0_pay12, k0_pay11]
  rw [pay13_at]
  simp only [← EReal.coe_mul, Cert.Reals.sum_coe, ← EReal.coe_sub]

/-- The rows of the gradient of the products, scaled, times the keys. -/
theorem pay5_at (s : Fin 1024 → Fin 2304 → ℝ) (x : FVec Ideal S1024x2304 .f32) (hx : ∀ i j, x (ix2 i j) = (s i j : EReal)) (i : Fin 1024) (d : Fin 256) :
    k0_pay5 (k0_pay9 (F := Ideal) (fun y => (k y : EReal))) x (Named.named κ "s" 0x3D93CD3A#32) (ix3 0 i d)
      = ((∑ j, s i j * scale * k (ix3 0 j d) : ℝ) : EReal) := by
  pointwise [k0_pay5, k0_pay1, k0_pay9]
  simp only [hx, named_s, ← EReal.coe_mul, Cert.Reals.sum_coe]

/-- Its columns, scaled, times the queries. -/
theorem pay7_at (s : Fin 1024 → Fin 2304 → ℝ) (x : FVec Ideal S1024x2304 .f32) (hx : ∀ i j, x (ix2 i j) = (s i j : EReal)) (j : Fin 2304) (d : Fin 256) :
    k0_pay7 (k0_pay10 (F := Ideal) (fun y => (q y : EReal))) x (Named.named κ "s" 0x3D93CD3A#32) (ix3 0 j d)
      = ((∑ i, s i j * scale * q (ix3 0 i d) : ℝ) : EReal) := by
  pointwise [k0_pay7, k0_pay6, k0_pay1, k0_pay10]
  simp only [hx, named_s, ← EReal.coe_mul, Cert.Reals.sum_coe]

theorem pay8_eq (a : FVec Ideal S1024x256 .bf16) (x : FVec Ideal S1024x2304 .f32) (c : Ideal .f32) (w : FVec Ideal S1x2304x256 .f32) (y : S1x2304x256.Idx) :
    (k0_pay8 a x c w : FVec Ideal S1x2304x256 .f32) y = w y + k0_pay7 a x c y := by
  idx_vars y
  pointwise [k0_pay8, k0_pay7]
  rw [Fin.eq_zero y0]

/-- The weights' columns times the cotangent. -/
theorem pay3_at (s : Fin 1024 → Fin 2304 → ℝ) (x : FVec Ideal S1024x2304 .f32) (hx : ∀ i j, x (ix2 i j) = (s i j : EReal)) (j : Fin 2304) (e : Fin 128) :
    k0_pay3 (k0_pay12 (F := Ideal) (fun y => (g y : EReal))) x (ix3 0 j e) = ((∑ i, s i j * g (ix3 0 i e) : ℝ) : EReal) := by
  pointwise [k0_pay3, k0_pay2, k0_pay12, k0_pay11]
  simp only [hx, ← EReal.coe_mul, Cert.Reals.sum_coe]

theorem pay4_eq (a : FVec Ideal S1024x128 .bf16) (x : FVec Ideal S1024x2304 .f32) (w : FVec Ideal S1x2304x128 .f32) (y : S1x2304x128.Idx) :
    (k0_pay4 a x w : FVec Ideal S1x2304x128 .f32) y = w y + k0_pay3 a x y := by
  idx_vars y
  pointwise [k0_pay4, k0_pay3]
  rw [Fin.eq_zero y0]

end Cert.Kernel2Ideal.Att
end
-- ==== Proof.AttVal.lean ====
module

public import proofs.«01_k».proof.Proof.Gen.Kernel2Ideal.Value
public import proofs.«01_k».proof.Proof.AttOps
public import proofs.«01_k».proof.Proof.AttPay
public import Idealize.ShloMosaic.Lib.StableHlo.RunRead

/-! The attention's backward call reads the arrays of `AttOps`. -/

@[expose] public section

set_option maxRecDepth 16384

noncomputable section

namespace Cert.Kernel2Ideal.Att

open Cert.Kernel2Ideal Cert.Kernel2Ideal.Gen Idealize.ShloMosaic Idealize.ShloMosaic.TcCoe Idealize.SL.Sem
open Cert.Att Cert.Reference2Ideal.Att

variable (m : (ℓ : Loc nD τ sig) → Buf (Elt Ideal) ℓ)

/-- The arguments, at their shapes. -/
abbrev aQ (c : Dev nD) : FVec Ideal S2x2048x4x192 .f32 := m ((c.tc : Thread nD τ).loc main_arg0)
abbrev aK (c : Dev nD) : FVec Ideal S2x2304x4x192 .f32 := m ((c.tc : Thread nD τ).loc main_arg1)
abbrev aV (c : Dev nD) : FVec Ideal S2x2304x4x128 .f32 := m ((c.tc : Thread nD τ).loc main_arg2)
abbrev aG (c : Dev nD) : FVec Ideal S2x2048x512 .f32 := m ((c.tc : Thread nD τ).loc main_arg3)

theorem v_lse (c : Dev nD) : V m c main_v16 = lse (aQ m c) (aK m c) := by
  unfold V
  after_reads_simp
  rfl

theorem v_out (c : Dev nD) : V m c main_v35 = outp (aQ m c) (aK m c) (aV m c) := by
  unfold V
  after_reads_simp
  rfl

theorem v_v (c : Dev nD) : V m c main_v40 = kv (aV m c) := by
  unfold V
  after_reads_simp
  rfl

theorem v_q (c : Dev nD) : V m c main_v47 = kq (aQ m c) := by
  unfold V
  after_reads_simp
  rfl

theorem v_k (c : Dev nD) : V m c main_v57 = kk (aK m c) := by
  unfold V
  after_reads_simp
  rfl

end Cert.Kernel2Ideal.Att
end
-- ==== Proof.AttKer.lean ====
module

public import proofs.«01_k».proof.Proof.AttVal
public import Idealize.ShloMosaic.Lib.Claim

/-! The attention's backward call: what it leaves in its three results, over real arguments. -/

@[expose] public section

set_option maxRecDepth 16384

noncomputable section

namespace Cert.Kernel2Ideal.Att

open Cert.Kernel2Ideal Cert.Kernel2Ideal.Gen Idealize.ShloMosaic Idealize.ShloMosaic.TcCoe Idealize.SL.Sem
open Cert.Att Cert.Reference2Ideal.Att

variable (m : (ℓ : Loc nD τ sig) → Buf (Elt Ideal) ℓ)

theorem idx : ∀ t : Fin cfg0.N, win0_0.index t = ![t.val / 8, t.val % 2, t.val / 2 % 4] ∧ win0_1.index t = ![t.val / 8, 0, t.val / 2 % 4]
    ∧ win0_2.index t = ![t.val / 8, 0, t.val / 2 % 4] ∧ win0_3.index t = ![t.val / 8, t.val % 2, t.val / 2 % 4]
    ∧ win0_4.index t = ![t.val / 8, t.val % 2, t.val / 2 % 4] ∧ win0_5.index t = ![t.val / 8, t.val % 2, t.val / 2 % 4]
    ∧ win0_6.index t = ![t.val / 8, t.val % 2, t.val / 2 % 4] ∧ win0_7.index t = ![t.val / 8, 0, t.val / 2 % 4]
    ∧ win0_8.index t = ![t.val / 8, 0, t.val / 2 % 4] :=
  (by decide +kernel : ∀ t : Fin grid0.N, _)

/-- The sequence, the head and the rows of a point. -/
def bt (t : Fin cfg0.N) : Fin 2 := ⟨t.val / 8, by have : t.val < 16 := t.isLt; omega⟩
def ht (t : Fin cfg0.N) : Fin 4 := ⟨t.val / 2 % 4, by omega⟩
def it (t : Fin cfg0.N) (r : Fin 1024) : Fin 2048 := ⟨t.val % 2 * 1024 + r, by omega⟩

/-- A column of a head, of 256 or of 128. -/
def col (h : Fin 4) (d : Fin 256) : Fin 1024 := ⟨h * 256 + d, by omega⟩
def lane (h : Fin 4) (d : Fin 128) : Fin 512 := ⟨h * 128 + d, by omega⟩

theorem read0 (X : FVec Ideal S2x2048x1024 .bf16) (t : Fin cfg0.N) :
    ((cfg0.win 0).blk t).view.read (Elt Ideal) X = fun y : S1x1024x256.Idx => X (ix3 (bt t) (it t (y 1)) (col (ht t) (y 2))) := by
  blk_ext! [idx t, bt, ht, it, col]
theorem read1 (X : FVec Ideal S2x2304x1024 .bf16) (t : Fin cfg0.N) :
    ((cfg0.win 1).blk t).view.read (Elt Ideal) X = fun y : S1x2304x256.Idx => X (ix3 (bt t) (y 1) (col (ht t) (y 2))) := by
  blk_ext! [idx t, bt, ht, it, col]
theorem read2 (X : FVec Ideal S2x2304x512 .bf16) (t : Fin cfg0.N) :
    ((cfg0.win 2).blk t).view.read (Elt Ideal) X = fun y : S1x2304x128.Idx => X (ix3 (bt t) (y 1) (lane (ht t) (y 2))) := by
  blk_ext! [idx t, bt, ht, it, lane]
theorem read3 (X : FVec Ideal S2x2048x512 .f32) (t : Fin cfg0.N) :
    ((cfg0.win 3).blk t).view.read (Elt Ideal) X = fun y : S1x1024x128.Idx => X (ix3 (bt t) (it t (y 1)) (lane (ht t) (y 2))) := by
  blk_ext! [idx t, bt, ht, it, lane]
theorem read4 (X : FVec Ideal S2x2048x512 .f32) (t : Fin cfg0.N) :
    ((cfg0.win 4).blk t).view.read (Elt Ideal) X = fun y : S1x1024x128.Idx => X (ix3 (bt t) (it t (y 1)) (lane (ht t) (y 2))) := by
  blk_ext! [idx t, bt, ht, it, lane]
theorem read5 (X : FVec Ideal S2x2048x512 .f32) (t : Fin cfg0.N) :
    ((cfg0.win 5).blk t).view.read (Elt Ideal) X = fun y : S1x1024x128.Idx => X (ix3 (bt t) (it t (y 1)) (lane (ht t) (y 2))) := by
  blk_ext! [idx t, bt, ht, it, lane]

theorem blk0 (c : Dev nD) (t : Fin cfg0.N) : iblk m c 0 t = fun y : S1x1024x256.Idx => kq (aQ m c) (ix3 (bt t) (it t (y 1)) (col (ht t) (y 2))) :=
  (congrArg (fun X => ((cfg0.win 0).blk t).view.read (Elt Ideal) X) (v_q m c)).trans (read0 _ t)
theorem blk1 (c : Dev nD) (t : Fin cfg0.N) : iblk m c 1 t = fun y : S1x2304x256.Idx => kk (aK m c) (ix3 (bt t) (y 1) (col (ht t) (y 2))) :=
  (congrArg (fun X => ((cfg0.win 1).blk t).view.read (Elt Ideal) X) (v_k m c)).trans (read1 _ t)
theorem blk2 (c : Dev nD) (t : Fin cfg0.N) : iblk m c 2 t = fun y : S1x2304x128.Idx => kv (aV m c) (ix3 (bt t) (y 1) (lane (ht t) (y 2))) :=
  (congrArg (fun X => ((cfg0.win 2).blk t).view.read (Elt Ideal) X) (v_v m c)).trans (read2 _ t)
theorem blk3 (c : Dev nD) (t : Fin cfg0.N) : iblk m c 3 t = fun y : S1x1024x128.Idx => outp (aQ m c) (aK m c) (aV m c) (ix3 (bt t) (it t (y 1)) (lane (ht t) (y 2))) :=
  (congrArg (fun X => ((cfg0.win 3).blk t).view.read (Elt Ideal) X) (v_out m c)).trans (read3 _ t)
theorem blk4 (c : Dev nD) (t : Fin cfg0.N) : iblk m c 4 t = fun y : S1x1024x128.Idx => lse (aQ m c) (aK m c) (ix3 (bt t) (it t (y 1)) (lane (ht t) (y 2))) :=
  (congrArg (fun X => ((cfg0.win 4).blk t).view.read (Elt Ideal) X) (v_lse m c)).trans (read4 _ t)
theorem blk5 (c : Dev nD) (t : Fin cfg0.N) : iblk m c 5 t = fun y : S1x1024x128.Idx => aG m c (ix3 (bt t) (it t (y 1)) (lane (ht t) (y 2))) := by
  rw [← read5]
  unfold iblk V
  after_reads_simp

end Cert.Kernel2Ideal.Att
end
-- ==== Proof.AttBwd.lean ====
module

public import proofs.«01_k».proof.Proof.AttKer

/-! The attention's backward call: its three results over real arguments. -/

@[expose] public section

set_option maxRecDepth 16384

noncomputable section

namespace Cert.Kernel2Ideal.Att

open Cert.Kernel2Ideal Cert.Kernel2Ideal.Gen Idealize.ShloMosaic Idealize.ShloMosaic.TcCoe Idealize.SL.Sem
open Cert.Att Cert.Reference2Ideal.Att

variable (m : (ℓ : Loc nD τ sig) → Buf (Elt Ideal) ℓ) (c : Dev nD)
variable (Q : S2x2048x4x192.Idx → ℝ) (K : S2x2304x4x192.Idx → ℝ) (W : S2x2304x4x128.Idx → ℝ) (G : S2x2048x512.Idx → ℝ)

theorem col_div (h : Fin 4) (d : Fin 256) : (⟨(col h d : ℕ) / 256, by omega⟩ : Fin 4) = h := Fin.ext (by simp [col]; omega)
theorem col_mod (h : Fin 4) (d : Fin 256) : (⟨(col h d : ℕ) % 256, by omega⟩ : Fin 256) = d := Fin.ext (by simp [col])
theorem lane_div (h : Fin 4) (d : Fin 128) : (⟨(lane h d : ℕ) / 128, by omega⟩ : Fin 4) = h := Fin.ext (by simp [lane]; omega)
theorem lane_mod (h : Fin 4) (d : Fin 128) : (⟨(lane h d : ℕ) % 128, by omega⟩ : Fin 128) = d := Fin.ext (by simp [lane])

theorem q_col (b : Fin 2) (i : Fin 2048) (h : Fin 4) (d : Fin 256) :
    kq (fun x => (Q x : EReal)) (ix3 b i (col h d)) = ((pad (hQ Q b h i) d : ℝ) : EReal) := by
  rw [kq_at _ (fun b i h d => hQ Q b h i d) (fun _ _ _ _ => rfl), col_div, col_mod]
theorem k_col (b : Fin 2) (i : Fin 2304) (h : Fin 4) (d : Fin 256) :
    kk (fun x => (K x : EReal)) (ix3 b i (col h d)) = ((pad (hK K b h (key i)) d : ℝ) : EReal) := by
  rw [kk_at _ (fun b i h d => hK K b h i d) (fun _ _ _ _ => rfl), col_div, col_mod]
theorem v_lane (b : Fin 2) (i : Fin 2304) (h : Fin 4) (d : Fin 128) :
    kv (fun x => (W x : EReal)) (ix3 b i (lane h d)) = ((hV W b h (key i) d : ℝ) : EReal) := by
  rw [kv_at, lane_div, lane_mod]
theorem o_lane (b : Fin 2) (i : Fin 2048) (h : Fin 4) (d : Fin 128) :
    outp (fun x => (Q x : EReal)) (fun x => (K x : EReal)) (fun x => (W x : EReal)) (ix3 b i (lane h d))
      = ((out scale (hQ Q b h) (hK K b h) (hV W b h) i d : ℝ) : EReal) := by
  rw [outp_at, lane_div, lane_mod]

theorem real0 (hq : aQ m c = fun x => (Q x : EReal)) (t : Fin cfg0.N) :
    iblk m c 0 t = fun y : S1x1024x256.Idx => ((pad (hQ Q (bt t) (ht t) (it t (y 1))) (y 2) : ℝ) : EReal) := by
  rw [blk0, hq]; funext y
  exact q_col Q _ _ _ _
theorem real1 (hk : aK m c = fun x => (K x : EReal)) (t : Fin cfg0.N) :
    iblk m c 1 t = fun y : S1x2304x256.Idx => ((pad (hK K (bt t) (ht t) (key (y 1))) (y 2) : ℝ) : EReal) := by
  rw [blk1, hk]; funext y
  exact k_col K _ _ _ _
theorem real2 (hv : aV m c = fun x => (W x : EReal)) (t : Fin cfg0.N) :
    iblk m c 2 t = fun y : S1x2304x128.Idx => ((hV W (bt t) (ht t) (key (y 1)) (y 2) : ℝ) : EReal) := by
  rw [blk2, hv]; funext y
  exact v_lane W _ _ _ _
theorem real3 (hq : aQ m c = fun x => (Q x : EReal)) (hk : aK m c = fun x => (K x : EReal)) (hv : aV m c = fun x => (W x : EReal)) (t : Fin cfg0.N) :
    iblk m c 3 t = fun y : S1x1024x128.Idx =>
      ((out scale (hQ Q (bt t) (ht t)) (hK K (bt t) (ht t)) (hV W (bt t) (ht t)) (it t (y 1)) (y 2) : ℝ) : EReal) := by
  rw [blk3, hq, hk, hv]; funext y
  exact o_lane Q K W _ _ _ _
theorem real4 (hq : aQ m c = fun x => (Q x : EReal)) (hk : aK m c = fun x => (K x : EReal)) (t : Fin cfg0.N) :
    ∃ L : Fin 1024 → ℝ, (∀ r j, Real.exp (sc scale (hQ Q (bt t) (ht t)) (hK K (bt t) (ht t)) (it t r) j - L r)
        = pr scale (hQ Q (bt t) (ht t)) (hK K (bt t) (ht t)) (it t r) j)
      ∧ iblk m c 4 t = fun y : S1x1024x128.Idx => (L (y 1) : EReal) := by
  choose L h1 h2 using fun r => lse_at Q K (bt t) (ht t) (it t r)
  refine ⟨L, h1, ?_⟩
  rw [blk4, hq, hk]; funext y
  exact h2 (y 1) _ (congrArg Fin.val (lane_div (ht t) (y 2)))
theorem real5 (hg : aG m c = fun x => (G x : EReal)) (t : Fin cfg0.N) :
    iblk m c 5 t = fun y : S1x1024x128.Idx => ((hG G (bt t) (ht t) (it t (y 1)) (y 2) : ℝ) : EReal) := by
  rw [blk5, hg]; rfl

/-- The weights of a point's queries. -/
theorem weights (hq : aQ m c = fun x => (Q x : EReal)) (hk : aK m c = fun x => (K x : EReal)) (t : Fin cfg0.N) (r : Fin 1024) (j : Fin 2304) :
    k0_pay13 (iblk m c 1 t) (iblk m c 0 t) (iblk m c 4 t) (ix2 r j)
      = (pr scale (hQ Q (bt t) (ht t)) (hK K (bt t) (ht t)) (it t r) (key j) : EReal) := by
  obtain ⟨L, h1, h2⟩ := real4 m c Q K hq hk t
  rw [real0 m c Q hq, real1 m c K hk, h2]
  refine (pay13_at (fun y => pad (hQ Q (bt t) (ht t) (it t (y 1))) (y 2)) (fun y => pad (hK K (bt t) (ht t) (key (y 1))) (y 2)) L r j).trans ?_
  rw [← h1]
  exact congrArg (fun x : ℝ => (Real.exp (x * scale - L r) : EReal)) (sum_pad _ _)

/-- The gradients of a point's scores. -/
def du (t : Fin cfg0.N) (r : Fin 1024) (j : Fin 2304) : ℝ :=
  pr scale (hQ Q (bt t) (ht t)) (hK K (bt t) (ht t)) (it t r) (key j)
    * (dp (hV W (bt t) (ht t)) (hG G (bt t) (ht t)) (it t r) (key j)
      - ∑ j', pr scale (hQ Q (bt t) (ht t)) (hK K (bt t) (ht t)) (it t r) j' * dp (hV W (bt t) (ht t)) (hG G (bt t) (ht t)) (it t r) j')

theorem du_scale (t : Fin cfg0.N) (r : Fin 1024) (j : Fin 2304) : du Q K W G t r j * scale
    = ds scale (hQ Q (bt t) (ht t)) (hK K (bt t) (ht t)) (hV W (bt t) (ht t)) (hG G (bt t) (ht t)) (it t r) (key j) := rfl

theorem grads (hq : aQ m c = fun x => (Q x : EReal)) (hk : aK m c = fun x => (K x : EReal)) (hv : aV m c = fun x => (W x : EReal))
    (hg : aG m c = fun x => (G x : EReal)) (t : Fin cfg0.N) (r : Fin 1024) (j : Fin 2304) :
    k0_pay14 (iblk m c 1 t) (iblk m c 2 t) (iblk m c 0 t) (iblk m c 5 t) (iblk m c 4 t) (iblk m c 3 t) (ix2 r j) = (du Q K W G t r j : EReal) := by
  obtain ⟨L, h1, h2⟩ := real4 m c Q K hq hk t
  rw [real0 m c Q hq, real1 m c K hk, real2 m c W hv, real3 m c Q K W hq hk hv, real5 m c G hg, h2]
  refine (pay14_at (fun y => pad (hQ Q (bt t) (ht t) (it t (y 1))) (y 2)) (fun y => pad (hK K (bt t) (ht t) (key (y 1))) (y 2))
    (fun y => hV W (bt t) (ht t) (key (y 1)) (y 2))
    (fun y => out scale (hQ Q (bt t) (ht t)) (hK K (bt t) (ht t)) (hV W (bt t) (ht t)) (it t (y 1)) (y 2))
    (fun y => hG G (bt t) (ht t) (it t (y 1)) (y 2)) L r j).trans ?_
  unfold du
  rw [← h1, ← delta]
  exact congrArg (fun x : ℝ => ((Real.exp (x * scale - L r) * (dp (hV W (bt t) (ht t)) (hG G (bt t) (ht t)) (it t r) (key j)
    - ∑ e, hG G (bt t) (ht t) (it t r) e * out scale (hQ Q (bt t) (ht t)) (hK K (bt t) (ht t)) (hV W (bt t) (ht t)) (it t r) e) : ℝ) : EReal)) (sum_pad _ _)

theorem point_dq (hq : aQ m c = fun x => (Q x : EReal)) (hk : aK m c = fun x => (K x : EReal)) (hv : aV m c = fun x => (W x : EReal))
    (hg : aG m c = fun x => (G x : EReal)) (t : Fin cfg0.N) (r : Fin 1024) (d : Fin 256) :
    k0_pay5 (k0_pay9 (iblk m c 1 t)) (k0_pay14 (iblk m c 1 t) (iblk m c 2 t) (iblk m c 0 t) (iblk m c 5 t) (iblk m c 4 t) (iblk m c 3 t))
        (Named.named κ "s" 0x3D93CD3A#32) (ix3 0 r d)
      = (pad (dq scale (hQ Q (bt t) (ht t)) (hK K (bt t) (ht t)) (hV W (bt t) (ht t)) (hG G (bt t) (ht t)) (it t r)) d : EReal) := by
  have h := grads m c Q K W G hq hk hv hg t
  generalize k0_pay14 (iblk m c 1 t) (iblk m c 2 t) (iblk m c 0 t) (iblk m c 5 t) (iblk m c 4 t) (iblk m c 3 t) = x at h ⊢
  rw [real1 m c K hk]
  refine (pay5_at _ _ x h r d).trans (congrArg (fun x : ℝ => (x : EReal)) ?_)
  simp only [du_scale]
  exact (pad_sum _ _ d).trans (congrArg (fun f => pad f d) (funext fun e => sum_key fun j => _ * hK K (bt t) (ht t) j e))

theorem point_dk (hq : aQ m c = fun x => (Q x : EReal)) (hk : aK m c = fun x => (K x : EReal)) (hv : aV m c = fun x => (W x : EReal))
    (hg : aG m c = fun x => (G x : EReal)) (t : Fin cfg0.N) (j : Fin 2304) (d : Fin 256) :
    k0_pay7 (k0_pay10 (iblk m c 0 t)) (k0_pay14 (iblk m c 1 t) (iblk m c 2 t) (iblk m c 0 t) (iblk m c 5 t) (iblk m c 4 t) (iblk m c 3 t))
        (Named.named κ "s" 0x3D93CD3A#32) (ix3 0 j d)
      = ((∑ r, ds scale (hQ Q (bt t) (ht t)) (hK K (bt t) (ht t)) (hV W (bt t) (ht t)) (hG G (bt t) (ht t)) (it t r) (key j)
          * pad (hQ Q (bt t) (ht t) (it t r)) d : ℝ) : EReal) := by
  have h := grads m c Q K W G hq hk hv hg t
  generalize k0_pay14 (iblk m c 1 t) (iblk m c 2 t) (iblk m c 0 t) (iblk m c 5 t) (iblk m c 4 t) (iblk m c 3 t) = x at h ⊢
  rw [real0 m c Q hq]
  exact pay7_at _ _ x h j d

theorem point_dv (hq : aQ m c = fun x => (Q x : EReal)) (hk : aK m c = fun x => (K x : EReal)) (hg : aG m c = fun x => (G x : EReal))
    (t : Fin cfg0.N) (j : Fin 2304) (e : Fin 128) :
    k0_pay3 (k0_pay12 (iblk m c 5 t)) (k0_pay13 (iblk m c 1 t) (iblk m c 0 t) (iblk m c 4 t)) (ix3 0 j e)
      = ((∑ r, pr scale (hQ Q (bt t) (ht t)) (hK K (bt t) (ht t)) (it t r) (key j) * hG G (bt t) (ht t) (it t r) e : ℝ) : EReal) := by
  have h := weights m c Q K hq hk t
  generalize k0_pay13 (iblk m c 1 t) (iblk m c 0 t) (iblk m c 4 t) = x at h ⊢
  rw [real5 m c G hg]
  exact pay3_at _ _ x h j e

end Cert.Kernel2Ideal.Att
end
-- ==== Proof.FwdPay.lean ====
module

public import proofs.«01_k».proof.Proof.Gen.Kernel5Ideal.Skeleton
public import proofs.«01_k».proof.Proof.AttPay

/-! What the body of the attention's forward call makes of 256 queries, over the real numbers. -/

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Att
open Cert.Reference2Ideal.Att (scale minus_inf fold_max_real)

theorem named_sl : Named.named (F := Ideal) (φ := .f32) κ "sl" 0x3DD53B95#32 = ((scale * (Real.log 2)⁻¹ : ℝ) : EReal) := by
  simp [Named.named, κ, scale]
theorem named_s : Named.named (F := Ideal) (φ := .f32) κ "s" 0x3D93CD3A#32 = (scale : EReal) := by
  simp [Named.named, κ, scale]

/-- A power of two with the logarithm's base divided out, the scale taken after the difference. -/
theorem two_pow (x M a : ℝ) : Real.rpow 2 ((x - M) * (a * (Real.log 2)⁻¹)) = Real.exp (x * a - M * a) := by
  rw [← Cert.Kernel2Ideal.Att.two_pow]
  congr 1
  ring

/-- The bodies of the stores, from the values before them. -/
theorem pay5_open (x : FVec Ideal S2304x256 .bf16) (y : FVec Ideal S2304x128 .bf16) (z : Vec Ideal S1x256x256 .bf16) (i : Fin 256) (e : Fin 128) :
    k0_pay5 x y z (ix3 0 i e) = (∑ j, (k0_pay3 x z (ix2 i j) : EReal) * y (ix2 j e)) * Ideal.div 1 (k0_pay4 x z (ix2 i 0)) := by
  unfold k0_pay5
  generalize k0_pay3 x z = p
  generalize k0_pay4 x z = s
  pointwise
theorem pay6_open (x : FVec Ideal S2304x256 .bf16) (z : Vec Ideal S1x256x256 .bf16) (i : Fin 256) (e : Fin 128) :
    k0_pay6 x z (ix3 0 i e) = k0_pay2 x z (ix2 i 0) * Named.named (F := Ideal) (φ := .f32) κ "s" 0x3D93CD3A#32 + Ideal.log (k0_pay4 x z (ix2 i 0)) := by
  unfold k0_pay6
  generalize k0_pay2 x z = p
  generalize k0_pay4 x z = s
  pointwise

variable (q : S1x256x256.Idx → ℝ) (k : S1x2304x256.Idx → ℝ) (v : S1x2304x128.Idx → ℝ)

/-- The product of a query and a key. -/
def dotqk (i : Fin 256) (j : Fin 2304) : ℝ := ∑ d, q (ix3 0 i d) * k (ix3 0 j d)

theorem pay8_at (j : Fin 2304) (e : Fin 128) : k0_pay8 (F := Ideal) (fun y => (v y : EReal)) (ix2 j e) = (v (ix3 0 j e) : EReal) := by
  pointwise [k0_pay8]

theorem pay1_at (i : Fin 256) (j : Fin 2304) :
    k0_pay1 (k0_pay7 (F := Ideal) (fun y => (k y : EReal))) (fun y => (q y : EReal)) (ix2 i j) = (dotqk q k i j : EReal) := by
  pointwise [k0_pay1, k0_pay7]
  simp only [← EReal.coe_mul, Cert.Reals.sum_coe]
  rfl

/-- The largest product of a query. -/
theorem pay2_at (i : Fin 256) :
    ∃ M : ℝ, k0_pay2 (k0_pay7 (F := Ideal) (fun y => (k y : EReal))) (fun y => (q y : EReal)) (ix2 i 0) = (M : EReal) := by
  obtain ⟨M, hM⟩ := fold_max_real (Finset.univ : Finset (Fin 2304)) Finset.univ_nonempty (dotqk q k i)
  refine ⟨M, ?_⟩
  pointwise [k0_pay2]
  rw [minus_inf]
  simp only [pay1_at]
  exact hM

section
variable (M : ℝ) (i : Fin 256)
  (hM : k0_pay2 (k0_pay7 (F := Ideal) (fun y => (k y : EReal))) (fun y => (q y : EReal)) (ix2 i 0) = (M : EReal))
include hM

theorem pay3_at (j : Fin 2304) : k0_pay3 (k0_pay7 (F := Ideal) (fun y => (k y : EReal))) (fun y => (q y : EReal)) (ix2 i j)
    = (Real.exp (dotqk q k i j * scale - M * scale) : EReal) := by
  pointwise [k0_pay3]
  rw [pay1_at, hM, named_sl, ← EReal.coe_sub, ← EReal.coe_mul]
  refine (Ideal.exp2_coe _).trans ?_
  rw [two_pow]

theorem pay4_at : k0_pay4 (k0_pay7 (F := Ideal) (fun y => (k y : EReal))) (fun y => (q y : EReal)) (ix2 i 0)
    = ((∑ j, Real.exp (dotqk q k i j * scale - M * scale) : ℝ) : EReal) := by
  pointwise [k0_pay4]
  simp only [pay3_at q k M i hM, Cert.Reals.sum_coe]

theorem pay5_at (e : Fin 128) :
    k0_pay5 (k0_pay7 (F := Ideal) (fun y => (k y : EReal))) (k0_pay8 (fun y => (v y : EReal))) (fun y => (q y : EReal)) (ix3 0 i e)
      = (((∑ j, Real.exp (dotqk q k i j * scale - M * scale) * v (ix3 0 j e))
          * (1 / ∑ j, Real.exp (dotqk q k i j * scale - M * scale)) : ℝ) : EReal) := by
  rw [pay5_open, pay4_at q k M i hM]
  simp only [pay3_at q k M i hM, pay8_at]
  generalize hZ : ∑ j, Real.exp (dotqk q k i j * scale - M * scale) = Z
  have h : Z ≠ 0 := hZ ▸ (sum_exp_pos _).ne'
  refine (congrArg₂ (· * ·) ((Finset.sum_congr rfl fun j _ => (EReal.coe_mul _ _).symm).trans (Cert.Reals.sum_coe _ _)) (Cert.Reals.div_coe_coe 1 Z h)).trans ?_
  exact (EReal.coe_mul _ _).symm

theorem pay6_at (e : Fin 128) :
    k0_pay6 (k0_pay7 (F := Ideal) (fun y => (k y : EReal))) (fun y => (q y : EReal)) (ix3 0 i e)
      = ((M * scale + Real.log (∑ j, Real.exp (dotqk q k i j * scale - M * scale)) : ℝ) : EReal) := by
  rw [pay6_open, pay4_at q k M i hM, hM, named_s, Ideal.log_coe, if_neg (not_le.mpr (sum_exp_pos _)), ← EReal.coe_mul, ← EReal.coe_add]

end

/-- The first half's text is the second's. -/
theorem pay13_eq (x0 : Vec Ideal S1x2304x256 .bf16) (x2 : Vec Ideal S1x2304x128 .bf16) (x4 : Vec Ideal S1x256x256 .bf16) :
    k0_pay13 x0 x2 x4 = k0_pay5 (k0_pay7 x0) (k0_pay8 x2) x4 := rfl
theorem pay14_eq (x0 : Vec Ideal S1x2304x256 .bf16) (x4 : Vec Ideal S1x256x256 .bf16) : k0_pay14 x0 x4 = k0_pay6 (k0_pay7 x0) x4 := rfl

variable (a : ℝ) (f : Fin 2048 → Fin 192 → ℝ) (g : Fin 2304 → Fin 192 → ℝ) (w : Fin 2304 → Fin 128 → ℝ)

/-- The logarithm of the sum of a query's exponentials. -/
def lsum (i : Fin 2048) : ℝ := Real.log (∑ j, Real.exp (sc a f g i j))

/-- It does not change when a number is subtracted first and added after. -/
theorem lsum_shift (M : ℝ) (i : Fin 2048) : M + Real.log (∑ j, Real.exp (sc a f g i j - M)) = lsum a f g i := by
  unfold lsum
  simp only [Real.exp_sub, ← Finset.sum_div]
  rw [Real.log_div (sum_exp_pos _).ne' (Real.exp_pos _).ne', Real.log_exp]
  ring

/-- The keys' order does not matter to it. -/
theorem lsum_key (M : ℝ) (i : Fin 2048) : M + Real.log (∑ j, Real.exp (sc a f g i (key j) - M)) = lsum a f g i := by
  rw [sum_key fun j => Real.exp (sc a f g i j - M)]
  exact lsum_shift a f g M i

/-- Nor to the output. -/
theorem out_key (M : ℝ) (i : Fin 2048) (e : Fin 128) :
    (∑ j, Real.exp (sc a f g i (key j) - M) * w (key j) e) * (1 / ∑ j, Real.exp (sc a f g i (key j) - M)) = out a f g w i e := by
  rw [sum_key fun j => Real.exp (sc a f g i j - M) * w j e, sum_key fun j => Real.exp (sc a f g i j - M), Finset.sum_mul]
  unfold out
  exact Finset.sum_congr rfl fun j _ => by rw [← pr_shift a f g M]; ring

end Cert.Kernel5Ideal.Fwd
end
-- ==== Proof.FwdVal.lean ====
module

public import proofs.«01_k».proof.Proof.Gen.Kernel5Ideal.Value
public import proofs.«01_k».proof.Proof.AttBwd
public import proofs.«01_k».proof.Proof.FwdPay
public import Idealize.ShloMosaic.Lib.StableHlo.RunRead
public import Idealize.ShloMosaic.Lib.Claim

/-! The attention's forward call: the arrays that it reads and the two that it leaves, over real arguments. -/

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Att
open Cert.Reference2Ideal.Att (scale hQ hK hV)
open Cert.Kernel2Ideal.Att (kq kk kv col lane col_div col_mod lane_div lane_mod q_col k_col v_lane)

variable (m : (ℓ : Loc nD τ sig) → Buf (Elt Ideal) ℓ) (c : Dev nD)

/-- The arguments, at their shapes. -/
abbrev aQ : FVec Ideal S2x2048x4x192 .f32 := m ((c.tc : Thread nD τ).loc main_arg0)
abbrev aK : FVec Ideal S2x2304x4x192 .f32 := m ((c.tc : Thread nD τ).loc main_arg1)
abbrev aV : FVec Ideal S2x2304x4x128 .f32 := m ((c.tc : Thread nD τ).loc main_arg2)

theorem v_v : V m c main_v4 = kv (aV m c) := by
  unfold V
  after_reads_simp
  rfl
theorem v_q : V m c main_v11 = kq (aQ m c) := by
  unfold V
  after_reads_simp
  rfl
theorem v_k : V m c main_v21 = kk (aK m c) := by
  unfold V
  after_reads_simp
  rfl

theorem idx : ∀ t : Fin cfg0.N, win0_0.index t = ![t.val / 16, t.val % 4, t.val / 4 % 4] ∧ win0_1.index t = ![t.val / 16, 0, t.val / 4 % 4]
    ∧ win0_2.index t = ![t.val / 16, 0, t.val / 4 % 4] ∧ win0_3.index t = ![t.val / 16, t.val % 4, t.val / 4 % 4]
    ∧ win0_4.index t = ![t.val / 16, t.val % 4, t.val / 4 % 4] :=
  (by decide +kernel : ∀ t : Fin grid0.N, _)

/-- The sequence, the head and the rows of a point. -/
def bt (t : Fin cfg0.N) : Fin 2 := ⟨t.val / 16, by have : t.val < 32 := t.isLt; omega⟩
def ht (t : Fin cfg0.N) : Fin 4 := ⟨t.val / 4 % 4, by omega⟩
def it (t : Fin cfg0.N) (r : Fin 512) : Fin 2048 := ⟨t.val % 4 * 512 + r, by omega⟩

theorem read0 (X : FVec Ideal S2x2048x1024 .bf16) (t : Fin cfg0.N) :
    ((cfg0.win 0).blk t).view.read (Elt Ideal) X = fun y : S1x512x256.Idx => X (ix3 (bt t) (it t (y 1)) (col (ht t) (y 2))) := by
  blk_ext! [idx t, bt, ht, it, col]
theorem read1 (X : FVec Ideal S2x2304x1024 .bf16) (t : Fin cfg0.N) :
    ((cfg0.win 1).blk t).view.read (Elt Ideal) X = fun y : S1x2304x256.Idx => X (ix3 (bt t) (y 1) (col (ht t) (y 2))) := by
  blk_ext! [idx t, bt, ht, it, col]
theorem read2 (X : FVec Ideal S2x2304x512 .bf16) (t : Fin cfg0.N) :
    ((cfg0.win 2).blk t).view.read (Elt Ideal) X = fun y : S1x2304x128.Idx => X (ix3 (bt t) (y 1) (lane (ht t) (y 2))) := by
  blk_ext! [idx t, bt, ht, it, lane]
theorem read3 (X : FVec Ideal S2x2048x512 .f32) (t : Fin cfg0.N) :
    ((cfg0.win 3).blk t).view.read (Elt Ideal) X = fun y : S1x512x128.Idx => X (ix3 (bt t) (it t (y 1)) (lane (ht t) (y 2))) := by
  blk_ext! [idx t, bt, ht, it, lane]
theorem read4 (X : FVec Ideal S2x2048x512 .f32) (t : Fin cfg0.N) :
    ((cfg0.win 4).blk t).view.read (Elt Ideal) X = fun y : S1x512x128.Idx => X (ix3 (bt t) (it t (y 1)) (lane (ht t) (y 2))) := by
  blk_ext! [idx t, bt, ht, it, lane]

variable (Q : S2x2048x4x192.Idx → ℝ) (K : S2x2304x4x192.Idx → ℝ) (W : S2x2304x4x128.Idx → ℝ)

theorem real0 (hq : aQ m c = fun x => (Q x : EReal)) (t : Fin cfg0.N) :
    iblk m c 0 t = fun y : S1x512x256.Idx => ((pad (hQ Q (bt t) (ht t) (it t (y 1))) (y 2) : ℝ) : EReal) := by
  refine ((congrArg (fun X => ((cfg0.win 0).blk t).view.read (Elt Ideal) X) (v_q m c)).trans (read0 _ t)).trans ?_
  rw [hq]; funext y
  exact q_col Q _ _ _ _
theorem real1 (hk : aK m c = fun x => (K x : EReal)) (t : Fin cfg0.N) :
    iblk m c 1 t = fun y : S1x2304x256.Idx => ((pad (hK K (bt t) (ht t) (key (y 1))) (y 2) : ℝ) : EReal) := by
  refine ((congrArg (fun X => ((cfg0.win 1).blk t).view.read (Elt Ideal) X) (v_k m c)).trans (read1 _ t)).trans ?_
  rw [hk]; funext y
  exact k_col K _ _ _ _
theorem real2 (hv : aV m c = fun x => (W x : EReal)) (t : Fin cfg0.N) :
    iblk m c 2 t = fun y : S1x2304x128.Idx => ((hV W (bt t) (ht t) (key (y 1)) (y 2) : ℝ) : EReal) := by
  refine ((congrArg (fun X => ((cfg0.win 2).blk t).view.read (Elt Ideal) X) (v_v m c)).trans (read2 _ t)).trans ?_
  rw [hv]; funext y
  exact v_lane W _ _ _ _

/-- The two results as the step keeps them. -/
def yO (b : Fin 2) (i : Fin 2048) (l : Fin 512) : ℝ :=
  out scale (hQ Q b ⟨l / 128, by omega⟩) (hK K b ⟨l / 128, by omega⟩) (hV W b ⟨l / 128, by omega⟩) i ⟨l % 128, by omega⟩
def yL (b : Fin 2) (i : Fin 2048) (l : Fin 512) : ℝ := lsum scale (hQ Q b ⟨l / 128, by omega⟩) (hK K b ⟨l / 128, by omega⟩) i

theorem yO_lane (b : Fin 2) (i : Fin 2048) (h : Fin 4) (e : Fin 128) : yO Q K W b i (lane h e) = out scale (hQ Q b h) (hK K b h) (hV W b h) i e := by
  unfold yO; rw [lane_div, lane_mod]
theorem yL_lane (b : Fin 2) (i : Fin 2048) (h : Fin 4) (e : Fin 128) : yL Q K b i (lane h e) = lsum scale (hQ Q b h) (hK K b h) i := by
  unfold yL; rw [lane_div]

section half
variable (b : Fin 2) (h : Fin 4) (ρ : Fin 256 → Fin 2048)

/-- A block of 256 queries of a head, its keys and its values. -/
def qB : S1x256x256.Idx → ℝ := fun y => pad (hQ Q b h (ρ (y 1))) (y 2)
def kB : S1x2304x256.Idx → ℝ := fun y => pad (hK K b h (key (y 1))) (y 2)
def vB : S1x2304x128.Idx → ℝ := fun y => hV W b h (key (y 1)) (y 2)

theorem score (r : Fin 256) (j : Fin 2304) : dotqk (qB Q b h ρ) (kB K b h) r j * scale = sc scale (hQ Q b h) (hK K b h) (ρ r) (key j) :=
  congrArg (· * scale) (sum_pad _ _)

theorem half_out (r : Fin 256) (e : Fin 128) :
    k0_pay5 (k0_pay7 (F := Ideal) (fun y => (kB K b h y : EReal))) (k0_pay8 (fun y => (vB W b h y : EReal))) (fun y => (qB Q b h ρ y : EReal)) (ix3 0 r e)
      = (out scale (hQ Q b h) (hK K b h) (hV W b h) (ρ r) e : EReal) := by
  obtain ⟨M, hM⟩ := pay2_at (qB Q b h ρ) (kB K b h) r
  refine (pay5_at (qB Q b h ρ) (kB K b h) (vB W b h) M r hM e).trans (congrArg _ ?_)
  simp only [score]
  exact out_key _ _ _ _ _ _ _

theorem half_lse (r : Fin 256) (e : Fin 128) :
    k0_pay6 (k0_pay7 (F := Ideal) (fun y => (kB K b h y : EReal))) (fun y => (qB Q b h ρ y : EReal)) (ix3 0 r e)
      = (lsum scale (hQ Q b h) (hK K b h) (ρ r) : EReal) := by
  obtain ⟨M, hM⟩ := pay2_at (qB Q b h ρ) (kB K b h) r
  refine (pay6_at (qB Q b h ρ) (kB K b h) M r hM e).trans (congrArg _ ?_)
  simp only [score]
  exact lsum_key _ _ _ _ _

end half

/-- A stored block of 512 rows, from its halves. -/
theorem halves (p0 p1 : FVec Ideal S1x256x128 .f32) (Y : Fin 512 → Fin 128 → EReal)
    (h0 : ∀ (r : Fin 256) e, p0 (ix3 0 r e) = Y ⟨r, by omega⟩ e) (h1 : ∀ (r : Fin 256) e, p1 (ix3 0 r e) = Y ⟨256 + r, by omega⟩ e)
    (r : Fin 512) (e : Fin 128) :
    (View.canon [⟨r0_5, p1⟩, ⟨r0_3, p0⟩] : Vec Ideal S1x512x128 .f32) (ix3 0 r e) = Y r e := by
  by_cases hr : r.val < 256
  · rw [View.canon_cons_of_not_mem _ _ (by
      rw [Rect.mem_set_unit]
      intro hm
      have := (hm 1).1
      exact absurd (show 256 ≤ r.val from this) (by omega))]
    have e' : (ix3 0 r e : S1x512x128.Idx) = r0_3.emb (ix3 0 (⟨r.val, hr⟩ : Fin 256) e) := by
      funext a
      match a with
      | ⟨0, _⟩ => rfl
      | ⟨1, _⟩ => exact Fin.ext (by show r.val = 0 + 1 * r.val; omega)
      | ⟨2, _⟩ => exact Fin.ext (by show e.val = 0 + 1 * e.val; omega)
    rw [e', View.canon_cons_emb]
    exact h0 _ _
  · have e' : (ix3 0 r e : S1x512x128.Idx) = r0_5.emb (ix3 0 (⟨r.val - 256, by omega⟩ : Fin 256) e) := by
      funext a
      match a with
      | ⟨0, _⟩ => rfl
      | ⟨1, _⟩ => exact Fin.ext (by show r.val = 256 + 1 * (r.val - 256); omega)
      | ⟨2, _⟩ => exact Fin.ext (by show e.val = 0 + 1 * e.val; omega)
    rw [e', View.canon_cons_emb]
    refine (h1 _ _).trans (congrArg (fun r => Y r e) (Fin.ext (by show 256 + (r.val - 256) = r.val; omega)))

/-- The halves of the point's queries. -/
theorem rows0 (X : Vec Ideal S1x512x256 .bf16) : View.ld X r0_2 = fun y : S1x256x256.Idx => X (ix3 0 ⟨(y 1 : ℕ), by have := (y 1).isLt; exact Nat.lt_trans this (by decide)⟩ (y 2)) := by
  funext y
  idx_vars y
  rw [Fin.eq_zero y0]
  refine congrArg X ?_
  funext a
  match a with
  | ⟨0, _⟩ => rfl
  | ⟨1, _⟩ => exact Fin.ext (by show 0 + 1 * y1.val = y1.val; omega)
  | ⟨2, _⟩ => exact Fin.ext (by show 0 + 1 * y2.val = y2.val; omega)
theorem rows1 (X : Vec Ideal S1x512x256 .bf16) : View.ld X r0_4 = fun y : S1x256x256.Idx => X (ix3 0 ⟨256 + (y 1 : ℕ), by have : (y 1 : ℕ) < 256 := (y 1).isLt; omega⟩ (y 2)) := by
  funext y
  idx_vars y
  rw [Fin.eq_zero y0]
  refine congrArg X ?_
  funext a
  match a with
  | ⟨0, _⟩ => rfl
  | ⟨1, _⟩ => exact Fin.ext (by show 256 + 1 * y1.val = 256 + y1.val; omega)
  | ⟨2, _⟩ => exact Fin.ext (by show 0 + 1 * y2.val = y2.val; omega)

theorem whole1 (X : Vec Ideal S1x2304x256 .bf16) : View.ld X r0_0 = X := View.ld_unit_lit _ X (by decide)
theorem whole2 (X : Vec Ideal S1x2304x128 .bf16) : View.ld X r0_1 = X := View.ld_unit_lit _ X (by decide)

section results
variable (hq : aQ m c = fun x => (Q x : EReal)) (hk : aK m c = fun x => (K x : EReal)) (hv : aV m c = fun x => (W x : EReal))
include hq hk

include hv in
theorem point3 (t : Fin cfg0.N) (r : Fin 512) (e : Fin 128) :
    out0_3 (iblk m c 0 t) (iblk m c 1 t) (iblk m c 2 t) (ix3 0 r e) = (yO Q K W (bt t) (it t r) (lane (ht t) e) : EReal) := by
  unfold out0_3 k0_pay15
  rw [whole1, whole2, rows0, rows1, pay13_eq, real0 m c Q hq, real1 m c K hk, real2 m c W hv]
  refine halves _ _ (fun r e => (yO Q K W (bt t) (it t r) (lane (ht t) e) : EReal)) (fun r e => ?_) (fun r e => ?_) r e
  · rw [yO_lane]
    exact half_out Q K W (bt t) (ht t) (fun r => it t ⟨r, by omega⟩) r e
  · rw [yO_lane]
    exact half_out Q K W (bt t) (ht t) (fun r => it t ⟨256 + r, by omega⟩) r e

theorem point4 (t : Fin cfg0.N) (r : Fin 512) (e : Fin 128) :
    out0_4 (iblk m c 0 t) (iblk m c 1 t) (iblk m c 2 t) (ix3 0 r e) = (yL Q K (bt t) (it t r) (lane (ht t) e) : EReal) := by
  unfold out0_4 k0_pay15
  rw [whole1, rows0, rows1, pay14_eq, real0 m c Q hq, real1 m c K hk]
  refine halves _ _ (fun r e => (yL Q K (bt t) (it t r) (lane (ht t) e) : EReal)) (fun r e => ?_) (fun r e => ?_) r e
  · rw [yL_lane]
    exact half_lse Q K (bt t) (ht t) (fun r => it t ⟨r, by omega⟩) r e
  · rw [yL_lane]
    exact half_lse Q K (bt t) (ht t) (fun r => it t ⟨256 + r, by omega⟩) r e

include hv in
theorem final3 : (dats m 0 c).arrAt 3 (cfgs 0).N = fun x : S2x2048x512.Idx => (yO Q K W (x 0) (x 1) (x 2) : EReal) := by
  refine (dats m 0 c).arrAt_eq_of_covers 3 _ (by decide +kernel) fun t hf y => ?_
  blk_simp
  rw [after0_3]
  refine Eq.trans ?_ (congrFun (read3 (fun x => (yO Q K W (x 0) (x 1) (x 2) : EReal)) t) y).symm
  have one : ∀ y : S1x512x128.Idx, out0_3 (iblk m c 0 t) (iblk m c 1 t) (iblk m c 2 t) y = (yO Q K W (bt t) (it t (y 1)) (lane (ht t) (y 2)) : EReal) := fun y => by
    idx_vars y
    rw [Fin.eq_zero y0]
    exact point3 m c Q K W hq hk hv t y1 y2
  exact one y

theorem final4 : (dats m 0 c).arrAt 4 (cfgs 0).N = fun x : S2x2048x512.Idx => (yL Q K (x 0) (x 1) (x 2) : EReal) := by
  refine (dats m 0 c).arrAt_eq_of_covers 4 _ (by decide +kernel) fun t hf y => ?_
  blk_simp
  rw [after0_4]
  refine Eq.trans ?_ (congrFun (read4 (fun x => (yL Q K (x 0) (x 1) (x 2) : EReal)) t) y).symm
  have one : ∀ y : S1x512x128.Idx, out0_4 (iblk m c 0 t) (iblk m c 1 t) (iblk m c 2 t) y = (yL Q K (bt t) (it t (y 1)) (lane (ht t) (y 2)) : EReal) := fun y => by
    idx_vars y
    rw [Fin.eq_zero y0]
    exact point4 m c Q K hq hk t y1 y2
  exact one y

end results

end Cert.Kernel5Ideal.Fwd
end
-- ==== Proof.FwdClaim.lean ====
module

public import proofs.«01_k».proof.Defs
public import proofs.«01_k».proof.Proof.Gen.Kernel5
public import proofs.«01_k».proof.Proof.Gen.Kernel5.Frame
public import proofs.«01_k».proof.Proof.Gen.Pre_finite5
public import proofs.«01_k».proof.Proof.Gen.Reference5Ideal.Run
public import proofs.«01_k».proof.Proof.FwdVal
public import Idealize.ShloMosaic.Lib.Quiescent
public import Idealize.ShloMosaic.Adequacy
public import Idealize.ShloMosaic.Init

/-! The claims about the forward call of the attention. -/

@[expose] public section

set_option maxRecDepth 16384

noncomputable section

namespace Cert.Proof.Fwd

open Idealize.ShloMosaic Idealize.SL.Sem Cert.Att
open Cert.Kernel2Ideal.Att (outp lse kM kZ kM_at kZ_at outp_at)
open Cert.Reference2Ideal.Att (scale hQ hK hV)

/-- The kernel runs and leaves its arguments as they were. -/
theorem frame_kernel : Cert.quiescent_Kernel5 := fun m g _ => Cert.Kernel5.Gen.frame m g

/-- So does its ideal reading. -/
theorem frame_kernelIdeal : Cert.quiescent_Kernel5Ideal := fun m g _ => Cert.Kernel5Ideal.Gen.frame m g

theorem frame_kernelIdeal_pre : Cert.quiescent_Kernel5Ideal_pre_finite5 := fun m g _ => Cert.Kernel5Ideal.Gen.frame m g

/-- And the reference. -/
theorem frame_reference : Cert.quiescent_Reference5Ideal := by
  intro m g _
  exact (θ_run _ _ _).mono (fun r h => ⟨fun c => (h c).2.2, sem_eq_zero_of_no_sems (by decide) _⟩) (Cert.Reference5Ideal.Value.run m g)

theorem frame_reference_pre : Cert.quiescent_Reference5Ideal_pre_finite5 := fun m g _ => frame_reference m g trivial

/-- The named constants are what their names say. -/
theorem preserves : Cert.preserves_Kernel5_Kernel5Ideal :=
  ⟨IdealRules.named_const.statement _ _ _ _ _ rfl, IdealRules.named_const.statement _ _ _ _ _ rfl⟩

open Cert.Kernel5Ideal in
/-- The finite arguments as arrays of real numbers. -/
theorem reals (m : (ℓ : Loc nD τ sig) → Buf (Elt Ideal) ℓ) (h : Cert.Pre_Kernel5Ideal_finite5 m) (c : Dev nD) :
    ∃ (Q : S2x2048x4x192.Idx → ℝ) (K : S2x2304x4x192.Idx → ℝ) (W : S2x2304x4x128.Idx → ℝ),
      Cert.Kernel5Ideal.Fwd.aQ m c = (fun i => (Q i : EReal)) ∧ Cert.Kernel5Ideal.Fwd.aK m c = (fun i => (K i : EReal))
        ∧ Cert.Kernel5Ideal.Fwd.aV m c = fun i => (W i : EReal) := by
  obtain ⟨h1, h2, h3⟩ := h c
  obtain ⟨Q, hQ⟩ := Cert.Reals.real_of_finite _ _ (fun _ => rfl) h1
  obtain ⟨K, hK⟩ := Cert.Reals.real_of_finite _ _ (fun _ => rfl) h2
  obtain ⟨W, hW⟩ := Cert.Reals.real_of_finite _ _ (fun _ => rfl) h3
  exact ⟨Q, K, W, hQ, hK, hW⟩

section
open Cert.Kernel2Ideal
variable (Q : S2x2048x4x192.Idx → ℝ) (K : S2x2304x4x192.Idx → ℝ) (W : S2x2304x4x128.Idx → ℝ)

/-- The reference's output. -/
theorem ref_out : outp (fun x => (Q x : EReal)) (fun x => (K x : EReal)) (fun x => (W x : EReal))
    = fun x : S2x2048x512.Idx => (Cert.Kernel5Ideal.Fwd.yO Q K W (x 0) (x 1) (x 2) : EReal) := by
  funext x
  idx_vars x
  exact outp_at Q K W x0 x1 x2

/-- The reference's logarithms of the rows' sums. -/
theorem lse_eq (b : Fin 2) (i : Fin 2048) (l : Fin 512) :
    lse (fun x => (Q x : EReal)) (fun x => (K x : EReal)) (ix3 b i l) = (Cert.Kernel5Ideal.Fwd.yL Q K b i l : EReal) := by
  obtain ⟨M, hM⟩ := kM_at Q K b (⟨l / 128, by omega⟩ : Fin 4) i
  pointwise [lse]
  rw [hM, kZ_at Q K M _ _ _ hM, Ideal.log_coe, if_neg (not_le.mpr (sum_exp_pos _)), ← EReal.coe_add, add_comm, Cert.Kernel5Ideal.Fwd.lsum_shift]
  rfl
theorem ref_lse : lse (fun x => (Q x : EReal)) (fun x => (K x : EReal))
    = fun x : S2x2048x512.Idx => (Cert.Kernel5Ideal.Fwd.yL Q K (x 0) (x 1) (x 2) : EReal) := by
  funext x
  idx_vars x
  exact lse_eq Q K x0 x1 x2
end

open Cert.Reference5Ideal in
/-- The reference runs to the output and the logarithms. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
          = outp (m ((c.tc : Thread nD τ).loc main_arg0)) (m ((c.tc : Thread nD τ).loc main_arg1)) (m ((c.tc : Thread nD τ).loc main_arg2))
      ∧ r.2.mem ((c.tc : Thread nD τ).loc main_v35)
          = lse (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans rfl, (h c).2.1.trans rfl, (h c).2.2⟩) (Cert.Reference5Ideal.Value.run m ρ)

set_option maxHeartbeats 1600000 in
/-- The kernel's two results are the reference's. -/
theorem algebraic : Cert.algebraic_Kernel5Ideal_Reference5Ideal_pre_finite5 := by
  pair_intro
  · run_from Cert.Kernel5Ideal.Gen.run_main m g
  · refine (θ_run _ _ _).mono (fun r h c => ?_) (run_ref m' g')
    obtain ⟨e0, e1, e2⟩ := hagree c
    obtain ⟨Q, K, W, hq, hk, hw⟩ := reals m hpre c
    obtain ⟨h0, h1, hf⟩ := h c
    rw [e0.trans hq, e1.trans hk, e2.trans hw] at h0
    rw [e0.trans hq, e1.trans hk] at h1
    exact ⟨(h0.trans (ref_out Q K W)).trans (Cert.Kernel5Ideal.Fwd.final3 m c Q K W hq hk hw).symm,
      (h1.trans (ref_lse Q K)).trans (Cert.Kernel5Ideal.Fwd.final4 m c Q K hq hk).symm, hf⟩

end Cert.Proof.Fwd

end
-- ==== Proof.ModBwd.lean ====
module

public import proofs.«01_k».proof.Proof.Gen.KernelIdeal.Value
public import proofs.«01_k».proof.Proof.Gen.ReferenceIdeal
public import Idealize.ShloMosaic.Lib.Pipeline.ValueKit
public import Idealize.ShloMosaic.Lib.Claim
public import Idealize.ShloMosaic.Lib.Pointwise
public import proofs.«01_k».proof.Proof.Reals

@[expose] public section

set_option maxRecDepth 16384

noncomputable section

namespace Cert.KernelIdeal.ModBwd

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The reference's gradient of `w_ada`. -/
def refW (C : FVec Ideal S16x1024 .f32) (cc : FVec Ideal Cert.ReferenceIdeal.S1024 .f32) (D : FVec Ideal S16x768 .f32) (E : FVec Ideal S8x768 .f32) : FVec Ideal S1024x768 .f32 :=
  addf (transpose Cert.ReferenceIdeal.S1024x768 [1, 0] (Host.dotGeneral Cert.ReferenceIdeal.dot_S1x768_S1x1024_S768x1024_0_0_1_1_n_n none (broadcastInDim Cert.ReferenceIdeal.S1x768 ![1] Cert.ReferenceIdeal.Gen.bcast_S768_S1x768_1 (Host.reduceAdd E (constant Cert.ReferenceIdeal.S_ .f32 0x00000000#32) Cert.ReferenceIdeal.Gen.reducesTo_S8x768_S768_d0 Cert.ReferenceIdeal.Gen.h_S_)) (broadcastInDim Cert.ReferenceIdeal.S1x1024 ![1] Cert.ReferenceIdeal.Gen.bcast_S1024_S1x1024_1 (mulf cc (Host.divf (broadcastInDim Cert.ReferenceIdeal.S1024 ![] Cert.ReferenceIdeal.Gen.bcast_S_S1024 (constant Cert.ReferenceIdeal.S_ .f32 0x3F800000#32)) (addf (broadcastInDim Cert.ReferenceIdeal.S1024 ![] Cert.ReferenceIdeal.Gen.bcast_S_S1024 (constant Cert.ReferenceIdeal.S_ .f32 0x3F800000#32)) (Host.exp (Host.negf cc))))))) Cert.ReferenceIdeal.Gen.transposes_S768x1024_S1024x768_1_0) (transpose Cert.ReferenceIdeal.S1024x768 [1, 0] (Host.dotGeneral Cert.ReferenceIdeal.dot_S16x768_S16x1024_S768x1024_0_0_1_1_n_n none (shapeCast _ D Cert.ReferenceIdeal.Gen.shapeCasts_S16x768_S16x768) (mulf C (Host.divf (broadcastInDim Cert.ReferenceIdeal.S16x1024 ![] Cert.ReferenceIdeal.Gen.bcast_S_S16x1024 (constant Cert.ReferenceIdeal.S_ .f32 0x3F800000#32)) (addf (broadcastInDim Cert.ReferenceIdeal.S16x1024 ![] Cert.ReferenceIdeal.Gen.bcast_S_S16x1024 (constant Cert.ReferenceIdeal.S_ .f32 0x3F800000#32)) (Host.exp (Host.negf C)))))) Cert.ReferenceIdeal.Gen.transposes_S768x1024_S1024x768_1_0)

/-- The reference's gradient of `c_ctx`, broadcast. -/
def refC (cc : FVec Ideal Cert.ReferenceIdeal.S1024 .f32) (W : FVec Ideal S1024x768 .f32) (E : FVec Ideal S8x768 .f32) : FVec Ideal S8x1024 .f32 :=
  broadcastInDim Cert.ReferenceIdeal.S8x1024 ![1] Cert.ReferenceIdeal.Gen.bcast_S1024_S8x1024_1 (addf (mulf (Host.reduceAdd (Host.dotGeneral Cert.ReferenceIdeal.dot_S1x768_S1024x768_S1x1024_1_1_0_0_n_n none (broadcastInDim Cert.ReferenceIdeal.S1x768 ![1] Cert.ReferenceIdeal.Gen.bcast_S768_S1x768_1 (Host.reduceAdd E (constant Cert.ReferenceIdeal.S_ .f32 0x00000000#32) Cert.ReferenceIdeal.Gen.reducesTo_S8x768_S768_d0 Cert.ReferenceIdeal.Gen.h_S_)) W) (constant Cert.ReferenceIdeal.S_ .f32 0x00000000#32) Cert.ReferenceIdeal.Gen.reducesTo_S1x1024_S1024_d0 Cert.ReferenceIdeal.Gen.h_S_) (Host.divf (broadcastInDim Cert.ReferenceIdeal.S1024 ![] Cert.ReferenceIdeal.Gen.bcast_S_S1024 (constant Cert.ReferenceIdeal.S_ .f32 0x3F800000#32)) (addf (broadcastInDim Cert.ReferenceIdeal.S1024 ![] Cert.ReferenceIdeal.Gen.bcast_S_S1024 (constant Cert.ReferenceIdeal.S_ .f32 0x3F800000#32)) (Host.exp (Host.negf cc))))) (mulf (mulf cc (Host.reduceAdd (Host.dotGeneral Cert.ReferenceIdeal.dot_S1x768_S1024x768_S1x1024_1_1_0_0_n_n none (broadcastInDim Cert.ReferenceIdeal.S1x768 ![1] Cert.ReferenceIdeal.Gen.bcast_S768_S1x768_1 (Host.reduceAdd E (constant Cert.ReferenceIdeal.S_ .f32 0x00000000#32) Cert.ReferenceIdeal.Gen.reducesTo_S8x768_S768_d0 Cert.ReferenceIdeal.Gen.h_S_)) W) (constant Cert.ReferenceIdeal.S_ .f32 0x00000000#32) Cert.ReferenceIdeal.Gen.reducesTo_S1x1024_S1024_d0 Cert.ReferenceIdeal.Gen.h_S_)) (mulf (Host.divf (broadcastInDim Cert.ReferenceIdeal.S1024 ![] Cert.ReferenceIdeal.Gen.bcast_S_S1024 (constant Cert.ReferenceIdeal.S_ .f32 0x3F800000#32)) (addf (broadcastInDim Cert.ReferenceIdeal.S1024 ![] Cert.ReferenceIdeal.Gen.bcast_S_S1024 (constant Cert.ReferenceIdeal.S_ .f32 0x3F800000#32)) (Host.exp (Host.negf cc)))) (subf (broadcastInDim Cert.ReferenceIdeal.S1024 ![] Cert.ReferenceIdeal.Gen.bcast_S_S1024 (constant Cert.ReferenceIdeal.S_ .f32 0x3F800000#32)) (Host.divf (broadcastInDim Cert.ReferenceIdeal.S1024 ![] Cert.ReferenceIdeal.Gen.bcast_S_S1024 (constant Cert.ReferenceIdeal.S_ .f32 0x3F800000#32)) (addf (broadcastInDim Cert.ReferenceIdeal.S1024 ![] Cert.ReferenceIdeal.Gen.bcast_S_S1024 (constant Cert.ReferenceIdeal.S_ .f32 0x3F800000#32)) (Host.exp (Host.negf cc))))))))

/-- The reference's gradient of `b_ada`, broadcast. -/
def refB (D : FVec Ideal S16x768 .f32) (E : FVec Ideal S8x768 .f32) : FVec Ideal S8x768 .f32 :=
  broadcastInDim Cert.ReferenceIdeal.S8x768 ![1] Cert.ReferenceIdeal.Gen.bcast_S768_S8x768_1 (addf (Host.reduceAdd E (constant Cert.ReferenceIdeal.S_ .f32 0x00000000#32) Cert.ReferenceIdeal.Gen.reducesTo_S8x768_S768_d0 Cert.ReferenceIdeal.Gen.h_S_) (Host.reduceAdd (shapeCast _ (Host.reduceAdd D (constant Cert.ReferenceIdeal.S_ .f32 0x00000000#32) Cert.ReferenceIdeal.Gen.reducesTo_S16x768_S768_d0 Cert.ReferenceIdeal.Gen.h_S_) Cert.ReferenceIdeal.Gen.shapeCasts_S768_S1x768) (constant Cert.ReferenceIdeal.S_ .f32 0x00000000#32) Cert.ReferenceIdeal.Gen.reducesTo_S1x768_S768_d0 Cert.ReferenceIdeal.Gen.h_S_))

/-- The arguments, at their shapes. -/
abbrev aC (c : Dev nD) : FVec Ideal S16x1024 .f32 := m ((c.tc : Thread nD τ).loc main_arg0)
abbrev aCtx (c : Dev nD) : FVec Ideal Cert.ReferenceIdeal.S1024 .f32 := m ((c.tc : Thread nD τ).loc main_arg1)
abbrev aW (c : Dev nD) : FVec Ideal S1024x768 .f32 := m ((c.tc : Thread nD τ).loc main_arg2)
abbrev aD (c : Dev nD) : FVec Ideal S16x768 .f32 := m ((c.tc : Thread nD τ).loc main_arg3)
abbrev aE (c : Dev nD) : FVec Ideal S8x768 .f32 := m ((c.tc : Thread nD τ).loc main_arg4)

/-- Sixteen rows, one row, seven rows of zeros, stacked. -/
def rows (C : FVec Ideal S16x1024 .f32) (cc : FVec Ideal S1024 .f32) : FVec Ideal S24x1024 .f32 :=
  concatenate S24x1024 0 [⟨S16x1024, C⟩, ⟨S1x1024, broadcastInDim S1x1024 ![1] bcast_S1024_S1x1024_1 cc⟩,
    ⟨S7x1024, broadcastInDim S7x1024 ![] bcast_S_S7x1024 (constant S_ .f32 0x00000000#32)⟩] concatenates_S16x1024_S1x1024_S7x1024_S24x1024_d0

theorem rows_at (C : FVec Ideal S16x1024 .f32) (cc : FVec Ideal S1024 .f32) (r : Fin 24) (k : Fin 1024) : rows C cc (ix2 r k)
    = if h : (r : ℕ) < 16 then C (ix2 ⟨r, h⟩ k) else if (r : ℕ) - 16 < 1 then cc (ix1 k) else (0 : EReal) := by
  pointwise [rows]
  rfl

/-- The rows that the kernel reads: sixteen rows of `c`, the row `c_ctx`, zeros. -/
theorem crows (c : Dev nD) : V m c main_v2 = rows (aC m c) (aCtx m c) := rfl

/-- Sixteen rows and eight rows of zeros, stacked. -/
def drows (D : FVec Ideal S16x768 .f32) : FVec Ideal S24x768 .f32 :=
  concatenate S24x768 0 [⟨S16x768, D⟩, ⟨S8x768, broadcastInDim S8x768 ![] bcast_S_S8x768 (constant S_ .f32 0x00000000#32)⟩] concatenates_S16x768_S8x768_S24x768_d0

theorem drows_at (D : FVec Ideal S16x768 .f32) (r : Fin 24) (k : Fin 768) : drows D (ix2 r k)
    = if h : (r : ℕ) < 16 then D (ix2 ⟨r, h⟩ k) else (0 : EReal) := by
  pointwise [drows]

/-- The rows of the cotangent that the kernel reads. -/
theorem dmod (c : Dev nD) : V m c main_v4 = drows (aD m c) := rfl

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem blk0 (c : Dev nD) : iblk m c 0 t0_0 = rows (aC m c) (aCtx m c) := by rw [← crows]; blk_ext! [iblk, idx t0_0]
theorem blk1 (c : Dev nD) : iblk m c 1 t0_0 = aW m c := by blk_ext! [iblk, V, idx t0_0]
theorem blk2 (c : Dev nD) : iblk m c 2 t0_0 = drows (aD m c) := by rw [← dmod]; blk_ext! [iblk, idx t0_0]
theorem blk3 (c : Dev nD) : iblk m c 3 t0_0 = aE m c := by blk_ext! [iblk, V, idx t0_0]

/-- A sum over the twenty-four rows: the sixteen, the seventeenth, the rest. -/
theorem sum_rows (f : Fin 24 → EReal) (h : ∀ x : Fin 7, f (Fin.natAdd 17 x) = 0) :
    ∑ x, f x = (∑ x : Fin 16, f ⟨x, by omega⟩) + f 16 := by
  have h1 : ∑ x : Fin (17 + 7), f x = ∑ x : Fin 17, f (Fin.castAdd 7 x) + ∑ x : Fin 7, f (Fin.natAdd 17 x) := Fin.sum_univ_add _
  have h2 : ∑ x : Fin (16 + 1), f (Fin.castAdd 7 x) = ∑ x : Fin 16, f (Fin.castAdd 7 x.castSucc) + f (Fin.castAdd 7 (Fin.last 16)) :=
    Fin.sum_univ_castSucc _
  rw [Finset.sum_congr rfl (fun x _ => h x), Finset.sum_const_zero, add_zero] at h1
  exact h1.trans h2

/-- The sum of eight numbers, spelt out. -/
theorem sum_eight (f : Fin 8 → EReal) : ∑ x, f x = f 0 + f 1 + f 2 + f 3 + f 4 + f 5 + f 6 + f 7 := by
  simp only [Fin.sum_univ_eight]

theorem sum_drows (D : FVec Ideal S16x768 .f32) (k : Fin 768) : ∑ x : Fin 24, drows D (ix2 x k) = ∑ x : Fin 16, D (ix2 x k) := by
  rw [sum_rows (fun x => drows D (ix2 x k)) fun x => by rw [drows_at, dif_neg (by simp; omega)]]
  rw [drows_at, dif_neg (by simp), add_zero]
  exact Finset.sum_congr rfl fun x _ => by rw [drows_at, dif_pos x.isLt]

/-- The kernel's gradient of `b_ada` is the reference's. -/
theorem final6 (c : Dev nD) : (dats m 0 c).arrAt 6 (cfgs 0).N = refB (aD m c) (aE m c) := by
  refine (dats m 0 c).arrAt_eq_of_after_last 6 t0_0 (by decide +kernel) _ fun j => ?_
  blk_simp
  rw [after0_6, blk0, blk1, blk2, blk3]; frame_out
  pointwise [k0_pay2, k0_pay4, k0_pay8, refB]
  rw [sum_eight, Fin.sum_univ_one, add_comm]
  exact congrArg _ (sum_drows _ _)

/-- The product over the stacked rows: the sixteen rows, and the row of `c_ctx`. -/
theorem sum_gw (C : FVec Ideal S16x1024 .f32) (cc : FVec Ideal S1024 .f32) (D : FVec Ideal S16x768 .f32) (e : EReal)
    (i : Fin 1024) (k : Fin 768) :
    ∑ x : Fin 24, rows C cc (ix2 x i) * Ideal.logistic (rows C cc (ix2 x i)) *
        Scalar.select (IntOp.cmpi CmpIPredicate.eq (BitVec.ofNat 32 ↑x) 16#32) e (drows D (ix2 x k))
      = (e * (cc (ix1 i) * Ideal.logistic (cc (ix1 i)))) + ∑ x : Fin 16, D (ix2 x k) * (C (ix2 x i) * Ideal.logistic (C (ix2 x i))) := by
  rw [sum_rows (fun x => rows C cc (ix2 x i) * Ideal.logistic (rows C cc (ix2 x i)) *
        Scalar.select (IntOp.cmpi CmpIPredicate.eq (BitVec.ofNat 32 ↑x) 16#32) e (drows D (ix2 x k))) fun x => by
      rw [rows_at, dif_neg (by simp; omega), if_neg (by simp; omega), zero_mul, zero_mul]]
  rw [add_comm]
  refine congrArg₂ (· + ·) ?_ (Finset.sum_congr rfl fun x _ => ?_)
  · rw [rows_at, dif_neg (by simp), if_pos (by simp), mul_comm]
    exact congrArg (· * _) (if_pos (by decide))
  · rw [rows_at, dif_pos x.isLt, drows_at, dif_pos x.isLt, mul_comm]
    refine congrArg (· * _) ?_
    have hx : (x : ℕ) ≠ 16 := by omega
    word_cmp
    rw [if_neg hx]

/-- The kernel's gradient of `w_ada` is the reference's. -/
theorem final4 (c : Dev nD) : (dats m 0 c).arrAt 4 (cfgs 0).N = refW (aC m c) (aCtx m c) (aD m c) (aE m c) := by
  refine (dats m 0 c).arrAt_eq_of_after_last 4 t0_0 (by decide +kernel) _ fun j => ?_
  blk_simp
  rw [after0_4, blk0, blk1, blk2, blk3]; frame_out
  pointwise [k0_pay5, k0_pay4, k0_pay3, refW]
  rw [Fin.sum_univ_one, sum_eight]
  exact sum_gw _ _ _ _ _ _

/-- The derivative of `x · logistic x`, in the two ways that the programs write it, times a real number. -/
theorem silu_deriv (p x : ℝ) :
    (p : EReal) * (Ideal.logistic x * (1 + x * (1 - Ideal.logistic x)))
      = p * Ideal.logistic x + (x * p) * (Ideal.logistic x * (1 - Ideal.logistic x)) := by
  rw [Cert.Reals.logistic_coe]
  generalize 1 / (1 + Real.exp (-x)) = s
  have : p * (s * (1 + x * (1 - s))) = p * s + (x * p) * (s * (1 - s)) := by ring
  exact_mod_cast congrArg (fun r : ℝ => (r : EReal)) this

/-- The gradient of `c_ctx` at one place, over real numbers. -/
theorem gc_alg (E : S8x768.Idx → ℝ) (W : S1024x768.Idx → ℝ) (x : ℝ) (i : Fin 1024) (v : EReal) (hv : v = x) :
    (∑ k : Fin 768, ((E (ix2 0 k) : EReal) + (E (ix2 1 k) : EReal) + (E (ix2 2 k) : EReal) + (E (ix2 3 k) : EReal)
        + (E (ix2 4 k) : EReal) + (E (ix2 5 k) : EReal) + (E (ix2 6 k) : EReal) + (E (ix2 7 k) : EReal)) * (W (ix2 i k) : EReal))
        * (Ideal.logistic v * (1 + v * (1 - Ideal.logistic v)))
      = (∑ k : Fin 768, (∑ e : Fin 8, (E (ix2 e k) : EReal)) * (W (ix2 i k) : EReal)) * Ideal.logistic x
        + (x * ∑ k : Fin 768, (∑ e : Fin 8, (E (ix2 e k) : EReal)) * (W (ix2 i k) : EReal))
          * (Ideal.logistic x * (1 - Ideal.logistic x)) := by
  subst hv
  have h : ∀ k : Fin 768, _ = _ := fun k => sum_eight (fun e => (E (ix2 e k) : EReal))
  simp only [← h, Cert.Reals.sum_coe, ← EReal.coe_mul]
  exact silu_deriv _ _

/-- The kernel's gradient of `c_ctx` is the reference's, where `c_ctx`, `w_ada` and the cotangent are finite. -/
theorem final5 (c : Dev nD) (cc : Cert.ReferenceIdeal.S1024.Idx → ℝ) (W : S1024x768.Idx → ℝ) (E : S8x768.Idx → ℝ)
    (hc : aCtx m c = fun i => (cc i : EReal)) (hW : aW m c = fun i => (W i : EReal)) (hE : aE m c = fun i => (E i : EReal)) :
    (dats m 0 c).arrAt 5 (cfgs 0).N = refC (aCtx m c) (aW m c) (aE m c) := by
  refine (dats m 0 c).arrAt_eq_of_after_last 5 t0_0 (by decide +kernel) _ fun j => ?_
  blk_simp
  rw [after0_5, blk0, blk1, blk2, blk3]; frame_out
  pointwise [k0_pay1, k0_pay4, k0_pay8, k0_pay6, k0_pay7, k0_pay3, refC]
  rw [Fin.sum_univ_one, hc, hW, hE]
  exact gc_alg E W (cc (ix1 (j 1))) (j 1) _ ((rows_at _ _ 16 (j 1)).trans ((dif_neg (by decide)).trans (if_pos (by decide))))

end Cert.KernelIdeal.ModBwd

end
-- ==== Proof.ModClaim.lean ====
module

public import proofs.«01_k».proof.Defs
public import proofs.«01_k».proof.Proof.Gen.Kernel
public import proofs.«01_k».proof.Proof.Gen.Kernel.Frame
public import proofs.«01_k».proof.Proof.Gen.Pre_finite
public import proofs.«01_k».proof.Proof.Gen.ReferenceIdeal.Run
public import proofs.«01_k».proof.Proof.ModBwd
public import Idealize.ShloMosaic.Adequacy
public import Idealize.ShloMosaic.Init

/-! The claims about the backward call of the modulation. -/

@[expose] public section

set_option maxRecDepth 16384

noncomputable section

namespace Cert.Proof.Mod

open Idealize.ShloMosaic Idealize.SL.Sem

/-- The kernel runs and leaves its arguments as they were. -/
theorem frame_kernel : Cert.quiescent_Kernel := fun m g _ => Cert.Kernel.Gen.frame m g

/-- So does its ideal reading. -/
theorem frame_kernelIdeal : Cert.quiescent_KernelIdeal := fun m g _ => Cert.KernelIdeal.Gen.frame m g

theorem frame_kernelIdeal_pre : Cert.quiescent_KernelIdeal_pre_finite := fun m g _ => Cert.KernelIdeal.Gen.frame m g

/-- And the reference. -/
theorem frame_reference : Cert.quiescent_ReferenceIdeal := by
  intro m g _
  exact (θ_run _ _ _).mono (fun r h => ⟨fun c => (h c).2.2.2, sem_eq_zero_of_no_sems (by decide) _⟩) (Cert.ReferenceIdeal.Value.run m g)

theorem frame_reference_pre : Cert.quiescent_ReferenceIdeal_pre_finite := fun m g _ => frame_reference m g trivial

/-- The finite arguments as arrays of real numbers. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) :
    ∃ (cc : Cert.ReferenceIdeal.S1024.Idx → ℝ) (W : Cert.KernelIdeal.S1024x768.Idx → ℝ) (E : Cert.KernelIdeal.S8x768.Idx → ℝ),
      Cert.KernelIdeal.ModBwd.aCtx m c = (fun i => (cc i : EReal)) ∧ Cert.KernelIdeal.ModBwd.aW m c = (fun i => (W i : EReal))
        ∧ Cert.KernelIdeal.ModBwd.aE m c = fun i => (E i : EReal) := by
  obtain ⟨h1, h2, h3⟩ := h c
  obtain ⟨cc, hc⟩ := Cert.Reals.real_of_finite _ _ (fun _ => rfl) h1
  obtain ⟨W, hW⟩ := Cert.Reals.real_of_finite _ _ (fun _ => rfl) h2
  obtain ⟨E, hE⟩ := Cert.Reals.real_of_finite _ _ (fun _ => rfl) h3
  exact ⟨cc, W, E, hc, hW, hE⟩

set_option maxHeartbeats 1600000 in
/-- The kernel's three gradients are the reference's. -/
theorem algebraic : Cert.algebraic_KernelIdeal_ReferenceIdeal_pre_finite := by
  pair_intro
  · run_from Cert.KernelIdeal.Gen.run_main m g
  · refine (θ_run _ _ _).mono (fun r h c => ?_) (Cert.ReferenceIdeal.Value.run m' g')
    obtain ⟨e0, e1, e2, e3, e4⟩ := hagree c
    obtain ⟨cc, W, E, hc, hW, hE⟩ := reals m hpre c
    obtain ⟨h0, h1, h2, hk⟩ := h c
    rw [e0, e1, e3, e4] at h0
    rw [e1, e2, e4] at h1
    rw [e3, e4] at h2
    exact ⟨h0.trans (Cert.KernelIdeal.ModBwd.final4 m c).symm, h1.trans (Cert.KernelIdeal.ModBwd.final5 m c cc W E hc hW hE).symm,
      h2.trans (Cert.KernelIdeal.ModBwd.final6 m c).symm, hk⟩

end Cert.Proof.Mod

end
-- ==== Proof.AttFin.lean ====
module

public import proofs.«01_k».proof.Proof.AttBwd
public import Idealize.ShloMosaic.Lib.Claim

/-! The attention's backward call: the arrays that it leaves. -/

@[expose] public section

set_option maxRecDepth 16384

noncomputable section

namespace Cert.Kernel2Ideal.Att

open Cert.Kernel2Ideal Cert.Kernel2Ideal.Gen Idealize.ShloMosaic Idealize.ShloMosaic.TcCoe Idealize.SL.Sem
open Cert.Att Cert.Reference2Ideal.Att

variable (m : (ℓ : Loc nD τ sig) → Buf (Elt Ideal) ℓ) (c : Dev nD)
variable (Q : S2x2048x4x192.Idx → ℝ) (K : S2x2304x4x192.Idx → ℝ) (W : S2x2304x4x128.Idx → ℝ) (G : S2x2048x512.Idx → ℝ)

/-- The gradients as the step keeps them, by sequence, row and column. -/
def gQ (b : Fin 2) (i : Fin 2048) (l : Fin 1024) : ℝ :=
  pad (dq scale (hQ Q b ⟨l / 256, by omega⟩) (hK K b ⟨l / 256, by omega⟩) (hV W b ⟨l / 256, by omega⟩) (hG G b ⟨l / 256, by omega⟩) i) ⟨l % 256, by omega⟩
def gK (b : Fin 2) (j : Fin 2304) (l : Fin 1024) : ℝ :=
  pad (dk scale (hQ Q b ⟨l / 256, by omega⟩) (hK K b ⟨l / 256, by omega⟩) (hV W b ⟨l / 256, by omega⟩) (hG G b ⟨l / 256, by omega⟩) (key j)) ⟨l % 256, by omega⟩
def gV (b : Fin 2) (j : Fin 2304) (l : Fin 512) : ℝ :=
  dv scale (hQ Q b ⟨l / 128, by omega⟩) (hK K b ⟨l / 128, by omega⟩) (hG G b ⟨l / 128, by omega⟩) (key j) ⟨l % 128, by omega⟩

theorem gQ_col (b : Fin 2) (i : Fin 2048) (h : Fin 4) (d : Fin 256) : gQ Q K W G b i (col h d)
    = pad (dq scale (hQ Q b h) (hK K b h) (hV W b h) (hG G b h) i) d := by
  unfold gQ; rw [col_div, col_mod]
theorem gK_col (b : Fin 2) (j : Fin 2304) (h : Fin 4) (d : Fin 256) : gK Q K W G b j (col h d)
    = pad (dk scale (hQ Q b h) (hK K b h) (hV W b h) (hG G b h) (key j)) d := by
  unfold gK; rw [col_div, col_mod]
theorem gV_lane (b : Fin 2) (j : Fin 2304) (h : Fin 4) (e : Fin 128) : gV Q K G b j (lane h e)
    = dv scale (hQ Q b h) (hK K b h) (hG G b h) (key j) e := by
  unfold gV; rw [lane_div, lane_mod]

/-- A result's block within the result. -/
theorem read6 (X : FVec Ideal S2x2048x1024 .f32) (t : Fin cfg0.N) :
    ((cfg0.win 6).blk t).view.read (Elt Ideal) X = fun y : S1x1024x256.Idx => X (ix3 (bt t) (it t (y 1)) (col (ht t) (y 2))) := by
  blk_ext! [idx t, bt, ht, it, col]
theorem read7 (X : FVec Ideal S2x2304x1024 .f32) (t : Fin cfg0.N) :
    ((cfg0.win 7).blk t).view.read (Elt Ideal) X = fun y : S1x2304x256.Idx => X (ix3 (bt t) (y 1) (col (ht t) (y 2))) := by
  blk_ext! [idx t, bt, ht, it, col]
theorem read8 (X : FVec Ideal S2x2304x512 .f32) (t : Fin cfg0.N) :
    ((cfg0.win 8).blk t).view.read (Elt Ideal) X = fun y : S1x2304x128.Idx => X (ix3 (bt t) (y 1) (lane (ht t) (y 2))) := by
  blk_ext! [idx t, bt, ht, it, lane]

section results

variable (hq : aQ m c = fun x => (Q x : EReal)) (hk : aK m c = fun x => (K x : EReal)) (hv : aV m c = fun x => (W x : EReal))
  (hg : aG m c = fun x => (G x : EReal))

include hq hk hv hg

theorem block6 (t : Fin cfg0.N) (y : S1x1024x256.Idx) :
    k0_pay5 (k0_pay9 (iblk m c 1 t)) (k0_pay14 (iblk m c 1 t) (iblk m c 2 t) (iblk m c 0 t) (iblk m c 5 t) (iblk m c 4 t) (iblk m c 3 t))
        (Named.named κ "s" 0x3D93CD3A#32) y = (gQ Q K W G (bt t) (it t (y 1)) (col (ht t) (y 2)) : EReal) := by
  idx_vars y
  rw [Fin.eq_zero y0]
  exact (point_dq m c Q K W G hq hk hv hg t y1 y2).trans (congrArg _ (gQ_col Q K W G _ _ _ _).symm)

theorem final6 : (dats m 0 c).arrAt 6 (cfgs 0).N = fun x : S2x2048x1024.Idx => (gQ Q K W G (x 0) (x 1) (x 2) : EReal) := by
  refine (dats m 0 c).arrAt_eq_of_covers 6 _ (by decide +kernel) fun t hf y => ?_
  blk_simp
  rw [after0_6]
  refine Eq.trans ?_ (congrFun (read6 (fun x => (gQ Q K W G (x 0) (x 1) (x 2) : EReal)) t) y).symm
  refine Eq.trans ?_ (block6 m c Q K W G hq hk hv hg t y)
  rcases Nat.mod_two_eq_zero_or_one t.val with h | h
  · rw [outsAt0_A m c t h (by omega) h (by omega)]; frame_out
  · rw [outsAt0_B m c t (by omega) h (by omega) h]; frame_out

/-- What a point adds to the gradient of the keys, and of the values. -/
def partK (t : Fin cfg0.N) (j : Fin 2304) (d : Fin 256) : ℝ :=
  ∑ r, ds scale (hQ Q (bt t) (ht t)) (hK K (bt t) (ht t)) (hV W (bt t) (ht t)) (hG G (bt t) (ht t)) (it t r) (key j) * pad (hQ Q (bt t) (ht t) (it t r)) d
def partV (t : Fin cfg0.N) (j : Fin 2304) (e : Fin 128) : ℝ :=
  ∑ r, pr scale (hQ Q (bt t) (ht t)) (hK K (bt t) (ht t)) (it t r) (key j) * hG G (bt t) (ht t) (it t r) e

theorem block7 (t : Fin cfg0.N) (y : S1x2304x256.Idx) :
    k0_pay7 (k0_pay10 (iblk m c 0 t)) (k0_pay14 (iblk m c 1 t) (iblk m c 2 t) (iblk m c 0 t) (iblk m c 5 t) (iblk m c 4 t) (iblk m c 3 t))
        (Named.named κ "s" 0x3D93CD3A#32) y = (partK Q K W G t (y 1) (y 2) : EReal) := by
  idx_vars y
  rw [Fin.eq_zero y0]
  exact point_dk m c Q K W G hq hk hv hg t y1 y2

omit hv in
theorem block8 (t : Fin cfg0.N) (y : S1x2304x128.Idx) :
    k0_pay3 (k0_pay12 (iblk m c 5 t)) (k0_pay13 (iblk m c 1 t) (iblk m c 0 t) (iblk m c 4 t)) y = (partV Q K G t (y 1) (y 2) : EReal) := by
  idx_vars y
  rw [Fin.eq_zero y0]
  exact point_dv m c Q K G hq hk hg t y1 y2

omit hq hk hv hg in
/-- The two points of a head are its two halves of the queries. -/
theorem run_bt (t : Fin cfg0.N) (s : Fin 2) (hs : 2 * (t.val / 2) + s.val < cfg0.N) : bt ⟨2 * (t.val / 2) + s.val, hs⟩ = bt t := Fin.ext (by simp [bt]; omega)
omit hq hk hv hg in
theorem run_ht (t : Fin cfg0.N) (s : Fin 2) (hs : 2 * (t.val / 2) + s.val < cfg0.N) : ht ⟨2 * (t.val / 2) + s.val, hs⟩ = ht t := Fin.ext (by simp [ht]; omega)
omit hq hk hv hg in
theorem run_it (t : Fin cfg0.N) (s : Fin 2) (hs : 2 * (t.val / 2) + s.val < cfg0.N) (r : Fin 1024) (hl : s.val * 1024 + r.val < 2048) :
    it ⟨2 * (t.val / 2) + s.val, hs⟩ r = ⟨s.val * 1024 + r.val, hl⟩ := Fin.ext (by simp [it]; omega)

omit hq hk hv hg in
theorem sum_partK (t : Fin cfg0.N) (j : Fin 2304) (d : Fin 256) (hs : ∀ s : Fin 2, 2 * (t.val / 2) + s.val < cfg0.N) :
    ∑ s : Fin 2, partK Q K W G ⟨2 * (t.val / 2) + s.val, hs s⟩ j d = gK Q K W G (bt t) j (col (ht t) d) := by
  rw [gK_col]
  refine Eq.trans ?_ (pad_sum _ _ d)
  unfold partK
  simp only [run_bt, run_ht]
  exact Fin.sum_mul_add_congr fun s r hl => by rw [run_it t s (hs s) r hl]

omit hq hk hv hg in
theorem sum_partV (t : Fin cfg0.N) (j : Fin 2304) (e : Fin 128) (hs : ∀ s : Fin 2, 2 * (t.val / 2) + s.val < cfg0.N) :
    ∑ s : Fin 2, partV Q K G ⟨2 * (t.val / 2) + s.val, hs s⟩ j e = gV Q K G (bt t) j (lane (ht t) e) := by
  rw [gV_lane]
  unfold partV dv
  simp only [run_bt, run_ht]
  exact Fin.sum_mul_add_congr fun s r hl => by rw [run_it t s (hs s) r hl, mul_comm]

theorem final7 : (dats m 0 c).arrAt 7 (cfgs 0).N = fun x : S2x2304x1024.Idx => (gK Q K W G (x 0) (x 1) (x 2) : EReal) := by
  refine (dats m 0 c).arrAt_eq_of_covers 7 _ (by decide +kernel) fun t hf y => ?_
  blk_simp
  rw [after0_7]
  refine Eq.trans ?_ (congrFun (read7 (fun x => (gK Q K W G (x 0) (x 1) (x 2) : EReal)) t) y).symm
  rw [Pipeline.eq_sum_fin_of_reset_step_apply_of_flush (fun n h => (outsAt0 m c n h).2.1) 2 (fun _ => (0 : EReal))
    (fun t (y : S1x2304x256.Idx) => (partK Q K W G t (y 1) (y 2) : EReal))
    (fun t h j => by
      rw [outsAt0_A m c t h (by omega) h (by omega)]; frame_out; rw [zero_add]; exact block7 m c Q K W G hq hk hv hg t j)
    (fun t h j => by
      rw [outsAt0_B m c t h (by omega) h (by omega)]; frame_out
      exact (pay8_eq _ _ _ _ j).trans (congrArg _ (block7 m c Q K W G hq hk hv hg t j)))
    t ((flush0_7 t).mp hf) _, zero_add]
  exact (Cert.Reals.sum_coe _ _).trans (congrArg (fun r : ℝ => (r : EReal)) (sum_partK Q K W G t (y 1) (y 2) _))

theorem final8 : (dats m 0 c).arrAt 8 (cfgs 0).N = fun x : S2x2304x512.Idx => (gV Q K G (x 0) (x 1) (x 2) : EReal) := by
  refine (dats m 0 c).arrAt_eq_of_covers 8 _ (by decide +kernel) fun t hf y => ?_
  blk_simp
  rw [after0_8]
  refine Eq.trans ?_ (congrFun (read8 (fun x => (gV Q K G (x 0) (x 1) (x 2) : EReal)) t) y).symm
  rw [Pipeline.eq_sum_fin_of_reset_step_apply_of_flush (fun n h => (outsAt0 m c n h).2.2) 2 (fun _ => (0 : EReal))
    (fun t (y : S1x2304x128.Idx) => (partV Q K G t (y 1) (y 2) : EReal))
    (fun t h j => by
      rw [outsAt0_A m c t h (by omega) h (by omega)]; frame_out; rw [zero_add]; exact block8 m c Q K G hq hk hg t j)
    (fun t h j => by
      rw [outsAt0_B m c t h (by omega) h (by omega)]; frame_out
      exact (pay4_eq _ _ _ j).trans (congrArg _ (block8 m c Q K G hq hk hg t j)))
    t ((flush0_8 t).mp hf) _, zero_add]
  exact (Cert.Reals.sum_coe _ _).trans (congrArg (fun r : ℝ => (r : EReal)) (sum_partV Q K G t (y 1) (y 2) _))

end results

end Cert.Kernel2Ideal.Att
end
-- ==== Proof.AttClaim.lean ====
module

public import proofs.«01_k».proof.Defs
public import proofs.«01_k».proof.Proof.Gen.Kernel2
public import proofs.«01_k».proof.Proof.Gen.Kernel2.Frame
public import proofs.«01_k».proof.Proof.Gen.Pre_finite2
public import proofs.«01_k».proof.Proof.Gen.Reference2Ideal.Run
public import proofs.«01_k».proof.Proof.AttRef
public import proofs.«01_k».proof.Proof.AttFin
public import Idealize.ShloMosaic.Lib.Quiescent
public import Idealize.ShloMosaic.Adequacy
public import Idealize.ShloMosaic.Init

/-! The claims about the backward call of the attention. -/

@[expose] public section

set_option maxRecDepth 16384

noncomputable section

namespace Cert.Proof.Att

open Idealize.ShloMosaic Idealize.SL.Sem Cert.Att

/-- The kernel runs and leaves its arguments as they were. -/
theorem frame_kernel : Cert.quiescent_Kernel2 := fun m g _ => Cert.Kernel2.Gen.frame m g

/-- So does its ideal reading. -/
theorem frame_kernelIdeal : Cert.quiescent_Kernel2Ideal := fun m g _ => Cert.Kernel2Ideal.Gen.frame m g

theorem frame_kernelIdeal_pre : Cert.quiescent_Kernel2Ideal_pre_finite2 := fun m g _ => Cert.Kernel2Ideal.Gen.frame m g

/-- And the reference. -/
theorem frame_reference : Cert.quiescent_Reference2Ideal := by
  intro m g _
  exact (θ_run _ _ _).mono (fun r h => ⟨fun c => (h c).2.2.2, sem_eq_zero_of_no_sems (by decide) _⟩) (Cert.Reference2Ideal.Value.run m g)

theorem frame_reference_pre : Cert.quiescent_Reference2Ideal_pre_finite2 := fun m g _ => frame_reference m g trivial

/-- The three named constants are what their names say. -/
theorem preserves : Cert.preserves_Kernel2_Kernel2Ideal :=
  ⟨IdealRules.named_const.statement _ _ _ _ _ rfl, IdealRules.named_const.statement _ _ _ _ _ rfl, IdealRules.named_const.statement _ _ _ _ _ rfl⟩

open Cert.Kernel2Ideal in
/-- The finite arguments as arrays of real numbers. -/
theorem reals (m : (ℓ : Loc nD τ sig) → Buf (Elt Ideal) ℓ) (h : Cert.Pre_Kernel2Ideal_finite2 m) (c : Dev nD) :
    ∃ (Q : S2x2048x4x192.Idx → ℝ) (K : S2x2304x4x192.Idx → ℝ) (W : S2x2304x4x128.Idx → ℝ) (G : S2x2048x512.Idx → ℝ),
      Cert.Kernel2Ideal.Att.aQ m c = (fun i => (Q i : EReal)) ∧ Cert.Kernel2Ideal.Att.aK m c = (fun i => (K i : EReal))
        ∧ Cert.Kernel2Ideal.Att.aV m c = (fun i => (W i : EReal)) ∧ Cert.Kernel2Ideal.Att.aG m c = fun i => (G i : EReal) := by
  obtain ⟨h1, h2, h3, h4⟩ := h c
  obtain ⟨Q, hQ⟩ := Cert.Reals.real_of_finite _ _ (fun _ => rfl) h1
  obtain ⟨K, hK⟩ := Cert.Reals.real_of_finite _ _ (fun _ => rfl) h2
  obtain ⟨W, hW⟩ := Cert.Reals.real_of_finite _ _ (fun _ => rfl) h3
  obtain ⟨G, hG⟩ := Cert.Reals.real_of_finite _ _ (fun _ => rfl) h4
  exact ⟨Q, K, W, G, hQ, hK, hW, hG⟩

open Cert.Reference2Ideal Cert.Reference2Ideal.Att in
/-- The reference's gradients, laid out by columns, are the arrays `gQ`, `gK` and `gV`. -/
theorem ref_q (Q : S2x2048x4x192.Idx → ℝ) (K : S2x2304x4x192.Idx → ℝ) (W : S2x2304x4x128.Idx → ℝ) (G : S2x2048x512.Idx → ℝ) :
    colQ (rdQ (fun x => (Q x : EReal)) (fun x => (K x : EReal)) (fun x => (W x : EReal)) (fun x => (G x : EReal)))
      = fun x : S2x2048x1024.Idx => (Cert.Kernel2Ideal.Att.gQ Q K W G (x 0) (x 1) (x 2) : EReal) := by
  funext x
  idx_vars x
  exact colQ_at _ _ (fun b i h d => rdQ_at Q K W G b i h d) x0 x1 x2

open Cert.Reference2Ideal Cert.Reference2Ideal.Att in
theorem ref_k (Q : S2x2048x4x192.Idx → ℝ) (K : S2x2304x4x192.Idx → ℝ) (W : S2x2304x4x128.Idx → ℝ) (G : S2x2048x512.Idx → ℝ) :
    colK (rdK (fun x => (Q x : EReal)) (fun x => (K x : EReal)) (fun x => (W x : EReal)) (fun x => (G x : EReal)))
      = fun x : S2x2304x1024.Idx => (Cert.Kernel2Ideal.Att.gK Q K W G (x 0) (x 1) (x 2) : EReal) := by
  funext x
  idx_vars x
  exact colK_at _ _ (fun b j h d => rdK_at Q K W G b j h d) x0 x1 x2

open Cert.Reference2Ideal Cert.Reference2Ideal.Att in
theorem ref_v (Q : S2x2048x4x192.Idx → ℝ) (K : S2x2304x4x192.Idx → ℝ) (G : S2x2048x512.Idx → ℝ) :
    colV (rdV (fun x => (Q x : EReal)) (fun x => (K x : EReal)) (fun x => (G x : EReal)))
      = fun x : S2x2304x512.Idx => (Cert.Kernel2Ideal.Att.gV Q K G (x 0) (x 1) (x 2) : EReal) := by
  funext x
  idx_vars x
  exact colV_at _ _ (fun b j h e => rdV_at Q K G b j h e) x0 x1 x2

set_option maxHeartbeats 1600000 in
/-- The kernel's three gradients are the reference's. -/
theorem algebraic : Cert.algebraic_Kernel2Ideal_Reference2Ideal_pre_finite2 := by
  pair_intro
  · run_from Cert.Kernel2Ideal.Gen.run_main m g
  · refine (θ_run _ _ _).mono (fun r h c => ?_) (Cert.Reference2Ideal.Value.run m' g')
    obtain ⟨e0, e1, e2, e3⟩ := hagree c
    obtain ⟨Q, K, W, G, hq, hk, hw, hg⟩ := reals m hpre c
    obtain ⟨h0, h1, h2, hf⟩ := h c
    replace h0 := h0.trans (Cert.Reference2Ideal.Att.res0 m' c)
    replace h1 := h1.trans (Cert.Reference2Ideal.Att.res1 m' c)
    replace h2 := h2.trans (Cert.Reference2Ideal.Att.res2 m' c)
    rw [e0.trans hq, e1.trans hk, e2.trans hw, e3.trans hg] at h0 h1
    rw [e0.trans hq, e1.trans hk, e3.trans hg] at h2
    replace h0 := h0.trans (ref_q Q K W G)
    replace h1 := h1.trans (ref_k Q K W G)
    replace h2 := h2.trans (ref_v Q K G)
    exact ⟨h0.trans (Cert.Kernel2Ideal.Att.final6 m c Q K W G hq hk hw hg).symm,
      h1.trans (Cert.Kernel2Ideal.Att.final7 m c Q K W G hq hk hw hg).symm,
      h2.trans (Cert.Kernel2Ideal.Att.final8 m c Q K W G hq hk hw hg).symm, hf⟩

end Cert.Proof.Att

end
-- ==== Proof.MlpKer.lean ====
module

public import proofs.«01_k».proof.Proof.Gen.Kernel3Ideal.Value
public import Idealize.ShloMosaic.Lib.Pipeline.ValueKit
public import Idealize.ShloMosaic.Lib.StableHlo.RunRead
public import Idealize.ShloMosaic.Lib.Claim
public import Idealize.ShloMosaic.Lib.Pointwise

/-! The MLP's backward call: what its points read and what they compute. -/

@[expose] public section

set_option maxRecDepth 16384

noncomputable section

namespace Cert.Kernel3Ideal.Mlp

open Cert.Kernel3Ideal Cert.Kernel3Ideal.Gen Idealize.ShloMosaic Idealize.ShloMosaic.TcCoe Idealize.SL.Sem

variable (m : (ℓ : Loc nD τ sig) → Buf (Elt Ideal) ℓ)

/-- The arguments, at their shapes. -/
abbrev aH (c : Dev nD) : FVec Ideal S2x2048x1024 .f32 := m ((c.tc : Thread nD τ).loc main_arg0)
abbrev aU (c : Dev nD) : FVec Ideal S1024x4096 .f32 := m ((c.tc : Thread nD τ).loc main_arg1)
abbrev aW (c : Dev nD) : FVec Ideal S4096x1024 .f32 := m ((c.tc : Thread nD τ).loc main_arg2)
abbrev aG (c : Dev nD) : FVec Ideal S2x2048x1024 .f32 := m ((c.tc : Thread nD τ).loc main_arg3)

/-- The saved relu, and the second weight in blocks of 512 rows. -/
def kAct (H : FVec Ideal S2x2048x1024 .f32) (U : FVec Ideal S1024x4096 .f32) : FVec Ideal S2x2048x4096 .f32 :=
  maximumf (Host.dotGeneral dot_S2x2048x1024_S1024x4096_S2x2048x4096_2_0_01_1_n_n none H U)
    (broadcastInDim S2x2048x4096 ![] bcast_S_S2x2048x4096 (constant S_ .f32 0x00000000#32))
def kW (W : FVec Ideal S4096x1024 .f32) : FVec Ideal S8x512x1024 .f32 := shapeCast S8x512x1024 W shapeCasts_S4096x1024_S8x512x1024

theorem v_h (c : Dev nD) : V m c main_v2 = aH m c := by
  unfold V
  after_reads_simp
  rfl
theorem v_g (c : Dev nD) : V m c main_v3 = aG m c := by
  unfold V
  after_reads_simp
  rfl
theorem v_r (c : Dev nD) : V m c main_v4 = kAct (aH m c) (aU m c) := by
  unfold V
  after_reads_simp
  rfl
theorem v_w (c : Dev nD) : V m c main_v6 = kW (aW m c) := by
  unfold V
  after_reads_simp
  rfl

theorem idx : ∀ t : Fin cfg0.N, win0_0.index t = ![t.val % 2, 0, 0] ∧ win0_1.index t = ![t.val % 2, 0, 0]
    ∧ win0_2.index t = ![t.val % 2, 0, t.val / 2] ∧ win0_3.index t = ![t.val / 2, 0, 0]
    ∧ win0_4.index t = ![t.val % 2, 0, t.val / 2] ∧ win0_5.index t = ![t.val / 2, 0, 0] ∧ win0_6.index t = ![t.val / 2, 0, 0] :=
  (by decide +kernel : ∀ t : Fin grid0.N, _)

/-- The sequence and the block of hidden columns of a point. -/
def bt (t : Fin cfg0.N) : Fin 2 := ⟨t.val % 2, by omega⟩
def jt (t : Fin cfg0.N) : Fin 8 := ⟨t.val / 2, by have : t.val < 16 := t.isLt; omega⟩
def hid (j : Fin 8) (f : Fin 512) : Fin 4096 := ⟨j * 512 + f, by omega⟩

theorem read0 (X : FVec Ideal S2x2048x1024 .bf16) (t : Fin cfg0.N) :
    ((cfg0.win 0).blk t).view.read (Elt Ideal) X = fun y : S1x2048x1024.Idx => X (ix3 (bt t) (y 1) (y 2)) := by
  blk_ext! [idx t, bt]
theorem read1 (X : FVec Ideal S2x2048x1024 .bf16) (t : Fin cfg0.N) :
    ((cfg0.win 1).blk t).view.read (Elt Ideal) X = fun y : S1x2048x1024.Idx => X (ix3 (bt t) (y 1) (y 2)) := by
  blk_ext! [idx t, bt]
theorem read2 (X : FVec Ideal S2x2048x4096 .bf16) (t : Fin cfg0.N) :
    ((cfg0.win 2).blk t).view.read (Elt Ideal) X = fun y : S1x2048x512.Idx => X (ix3 (bt t) (y 1) (hid (jt t) (y 2))) := by
  blk_ext! [idx t, bt, jt, hid]
theorem read3 (X : FVec Ideal S8x512x1024 .bf16) (t : Fin cfg0.N) :
    ((cfg0.win 3).blk t).view.read (Elt Ideal) X = fun y : S1x512x1024.Idx => X (ix3 (jt t) (y 1) (y 2)) := by
  blk_ext! [idx t, jt]
theorem read4 (X : FVec Ideal S2x2048x4096 .bf16) (t : Fin cfg0.N) :
    ((cfg0.win 4).blk t).view.read (Elt Ideal) X = fun y : S1x2048x512.Idx => X (ix3 (bt t) (y 1) (hid (jt t) (y 2))) := by
  blk_ext! [idx t, bt, jt, hid]
theorem read5 (X : FVec Ideal S8x1024x512 .bf16) (t : Fin cfg0.N) :
    ((cfg0.win 5).blk t).view.read (Elt Ideal) X = fun y : S1x1024x512.Idx => X (ix3 (jt t) (y 1) (y 2)) := by
  blk_ext! [idx t, jt]
theorem read6 (X : FVec Ideal S8x512x1024 .bf16) (t : Fin cfg0.N) :
    ((cfg0.win 6).blk t).view.read (Elt Ideal) X = fun y : S1x512x1024.Idx => X (ix3 (jt t) (y 1) (y 2)) := by
  blk_ext! [idx t, jt]

theorem blk0 (c : Dev nD) (t : Fin cfg0.N) : iblk m c 0 t = fun y : S1x2048x1024.Idx => aH m c (ix3 (bt t) (y 1) (y 2)) :=
  (congrArg (fun X => ((cfg0.win 0).blk t).view.read (Elt Ideal) X) (v_h m c)).trans (read0 _ t)
theorem blk1 (c : Dev nD) (t : Fin cfg0.N) : iblk m c 1 t = fun y : S1x2048x1024.Idx => aG m c (ix3 (bt t) (y 1) (y 2)) :=
  (congrArg (fun X => ((cfg0.win 1).blk t).view.read (Elt Ideal) X) (v_g m c)).trans (read1 _ t)
theorem blk2 (c : Dev nD) (t : Fin cfg0.N) : iblk m c 2 t = fun y : S1x2048x512.Idx => kAct (aH m c) (aU m c) (ix3 (bt t) (y 1) (hid (jt t) (y 2))) :=
  (congrArg (fun X => ((cfg0.win 2).blk t).view.read (Elt Ideal) X) (v_r m c)).trans (read2 _ t)
theorem blk3 (c : Dev nD) (t : Fin cfg0.N) : iblk m c 3 t = fun y : S1x512x1024.Idx => kW (aW m c) (ix3 (jt t) (y 1) (y 2)) :=
  (congrArg (fun X => ((cfg0.win 3).blk t).view.read (Elt Ideal) X) (v_w m c)).trans (read3 _ t)

theorem kW_at (W : FVec Ideal S4096x1024 .f32) (j : Fin 8) (f : Fin 512) (k : Fin 1024) : kW W (ix3 j f k) = W (ix2 (hid j f) k) := by
  pointwise [kW, hid]

/-- What a point computes. -/
theorem pay7_at (r : Vec Ideal S1x2048x512 .bf16) (g : Vec Ideal S1x2048x1024 .bf16) (w : Vec Ideal S1x512x1024 .bf16) (s : Fin 2048) (f : Fin 512) :
    k0_pay7 r g w (ix2 s f) = (∑ k, g (ix3 0 s k) * w (ix3 0 f k)) * (Ideal.ofBits .f32 0x40000000#32 * r (ix3 0 s f)) := by
  pointwise [k0_pay7, k0_pay6, k0_pay5]
theorem pay8_at (r : Vec Ideal S1x2048x512 .bf16) (g : Vec Ideal S1x2048x1024 .bf16) (w : Vec Ideal S1x512x1024 .bf16) (s : Fin 2048) (f : Fin 512) :
    k0_pay8 r g w (ix3 0 s f) = k0_pay7 r g w (ix2 s f) := by
  pointwise [k0_pay8]
theorem pay9_at (r : Vec Ideal S1x2048x512 .bf16) (g : Vec Ideal S1x2048x1024 .bf16) (f : Fin 512) (k : Fin 1024) :
    k0_pay9 r g (ix2 f k) = ∑ s, r (ix3 0 s f) * r (ix3 0 s f) * g (ix3 0 s k) := by
  pointwise [k0_pay9, k0_pay6, k0_pay5]
theorem pay12_at (r : Vec Ideal S1x2048x512 .bf16) (g : Vec Ideal S1x2048x1024 .bf16) (w : Vec Ideal S1x512x1024 .bf16) (h : Vec Ideal S1x2048x1024 .bf16)
    (k : Fin 1024) (f : Fin 512) :
    k0_pay12 r g w h (ix2 k f) = ∑ s, h (ix3 0 s k) * k0_pay7 r g w (ix2 s f) := by
  pointwise [k0_pay12]
theorem pay1_at (x : FVec Ideal S1024x512 .f32) : k0_pay1 x = x := by
  funext y; idx_vars y; pointwise [k0_pay1]
theorem pay10_at (r : Vec Ideal S1x2048x512 .bf16) (g : Vec Ideal S1x2048x1024 .bf16) : k0_pay10 r g = k0_pay9 r g := by
  funext y; idx_vars y; pointwise [k0_pay10]
theorem last5 (x : FVec Ideal S1024x512 .f32) (v : Vec Ideal S1024x512 .f32) (k : Fin 1024) (f : Fin 512) :
    k0_pay3 (k0_pay2 x v) (ix3 0 k f) = v (ix2 k f) + x (ix2 k f) := by
  pointwise [k0_pay3, k0_pay2]
theorem last6 (r : Vec Ideal S1x2048x512 .bf16) (g : Vec Ideal S1x2048x1024 .bf16) (v : Vec Ideal S512x1024 .f32) (f : Fin 512) (k : Fin 1024) :
    k0_pay4 (k0_pay11 r g v) (ix3 0 f k) = v (ix2 f k) + k0_pay9 r g (ix2 f k) := by
  pointwise [k0_pay4, k0_pay11]

end Cert.Kernel3Ideal.Mlp

end
-- ==== Proof.MlpRef.lean ====
module

public import proofs.«01_k».proof.Proof.Gen.Reference3Ideal.Run
public import Idealize.ShloMosaic.Lib.Pipeline.ValueKit
public import Idealize.ShloMosaic.Lib.Claim
public import Idealize.ShloMosaic.Lib.Pointwise

/-! What the reference of the MLP's backward call computes: the gradients of `y = relu (h w1) ^ 2 w2`. -/

@[expose] public section

set_option maxRecDepth 16384

noncomputable section

namespace Cert.Reference3Ideal.Mlp

open Cert.Reference3Ideal Cert.Reference3Ideal.Gen Idealize.ShloMosaic Idealize.ShloMosaic.TcCoe Idealize.SL.Sem

variable (H : FVec Ideal S2x2048x1024 .f32) (U : FVec Ideal S1024x4096 .f32) (W : FVec Ideal S4096x1024 .f32) (G : FVec Ideal S2x2048x1024 .f32)

/-- The hidden layer after its relu. -/
def act (b : Fin 2) (s : Fin 2048) (f : Fin 4096) : EReal := max (∑ k, H (ix3 b s k) * U (ix2 k f)) 0

/-- The gradient of the hidden layer before its relu. -/
def gA (b : Fin 2) (s : Fin 2048) (f : Fin 4096) : EReal := (∑ k, G (ix3 b s k) * W (ix2 f k)) * (Ideal.ofBits .f32 0x40000000#32 * act H U b s f)

/-- The gradient of the first weight. -/
def gU (k : Fin 1024) (f : Fin 4096) : EReal := ∑ b, ∑ s, H (ix3 b s k) * gA H U W G b s f

/-- The gradient of the second weight. -/
def gW (f : Fin 4096) (k : Fin 1024) : EReal := ∑ b, ∑ s, act H U b s f * act H U b s f * G (ix3 b s k)

def rHid : FVec Ideal S2x2048x4096 .f32 := Host.dotGeneral dot_S2x2048x1024_S1024x4096_S2x2048x4096_2_0_01_1_n_n none H U
def rZero : FVec Ideal S2x2048x4096 .f32 := broadcastInDim S2x2048x4096 ![] bcast_S_S2x2048x4096 (constant S_ .f32 0x00000000#32)
def rAct : FVec Ideal S2x2048x4096 .f32 := maximumf (rHid H U) rZero
def rA : FVec Ideal S2x2048x4096 .f32 :=
  select (cmpf .ogt (rHid H U) rZero)
    (mulf (Host.dotGeneral dot_S2x2048x1024_S4096x1024_S2x2048x4096_2_1_01_0_n_n none G W)
      (mulf (broadcastInDim S2x2048x4096 ![] bcast_S_S2x2048x4096 (constant S_ .f32 0x40000000#32)) (rAct H U)))
    rZero
def rU : FVec Ideal S8x1024x512 .f32 :=
  transpose S8x1024x512 [1, 0, 2] (shapeCast S1024x8x512 (transpose S1024x4096 [1, 0]
    (Host.dotGeneral dot_S2x2048x4096_S2x2048x1024_S4096x1024_01_01_2_2_n_n none (rA H U W G) H)
    transposes_S4096x1024_S1024x4096_1_0) shapeCasts_S1024x4096_S1024x8x512) transposes_S1024x8x512_S8x1024x512_1_0_2
def rW : FVec Ideal S8x512x1024 .f32 :=
  shapeCast S8x512x1024 (transpose S4096x1024 [1, 0]
    (Host.dotGeneral dot_S2x2048x1024_S2x2048x4096_S1024x4096_01_01_2_2_n_n none G (mulf (rAct H U) (rAct H U)))
    transposes_S1024x4096_S4096x1024_1_0) shapeCasts_S4096x1024_S8x512x1024

theorem rAct_at (b : Fin 2) (s : Fin 2048) (f : Fin 4096) : rAct H U (ix3 b s f) = act H U b s f := by
  pointwise [rAct, rHid, rZero]
  rfl

theorem rA_at (b : Fin 2) (s : Fin 2048) (f : Fin 4096) : rA H U W G (ix3 b s f) = gA H U W G b s f := by
  pointwise [rA, rHid, rZero]
  rw [rAct_at]
  unfold gA act
  split_ifs with h
  · rfl
  · rw [max_eq_right (not_lt.mp h), mul_zero, mul_zero]

theorem rU_at (j : Fin 8) (k : Fin 1024) (f : Fin 512) : rU H U W G (ix3 j k f) = gU H U W G k ⟨j * 512 + f, by omega⟩ := by
  pointwise [rU]
  simp only [rA_at, mul_comm _ (H _)]
  rfl

theorem rW_at (j : Fin 8) (f : Fin 512) (k : Fin 1024) : rW H U G (ix3 j f k) = gW H U G ⟨j * 512 + f, by omega⟩ k := by
  pointwise [rW]
  simp only [rAct_at, mul_comm (G _)]
  rfl

end Cert.Reference3Ideal.Mlp

end
-- ==== Proof.MlpFin.lean ====
module

public import proofs.«01_k».proof.Proof.MlpKer
public import proofs.«01_k».proof.Proof.MlpRef
public import Idealize.ShloMosaic.Lib.Claim
public import Idealize.ShloMosaic.Lib.Pipeline.ReadBack

/-! The MLP's backward call: the arrays that it leaves. -/

@[expose] public section

set_option maxRecDepth 16384

noncomputable section

namespace Cert.Kernel3Ideal.Mlp

open Cert.Kernel3Ideal Cert.Kernel3Ideal.Gen Idealize.ShloMosaic Idealize.ShloMosaic.TcCoe Idealize.SL.Sem
open Cert.Reference3Ideal.Mlp

variable (m : (ℓ : Loc nD τ sig) → Buf (Elt Ideal) ℓ) (c : Dev nD)

theorem kAct_at (H : FVec Ideal S2x2048x1024 .f32) (U : FVec Ideal S1024x4096 .f32) (b : Fin 2) (s : Fin 2048) (f : Fin 4096) :
    kAct H U (ix3 b s f) = act H U b s f := by
  pointwise [kAct]
  rfl

/-- A point's part of the three gradients. -/
theorem point_a (t : Fin cfg0.N) (s : Fin 2048) (f : Fin 512) :
    k0_pay7 (iblk m c 2 t) (iblk m c 1 t) (iblk m c 3 t) (ix2 s f) = gA (aH m c) (aU m c) (aW m c) (aG m c) (bt t) s (hid (jt t) f) := by
  rw [pay7_at, blk1, blk2, blk3]
  unfold gA
  refine congrArg₂ _ (Finset.sum_congr rfl fun k _ => congrArg _ (kW_at _ _ _ _)) (congrArg _ (kAct_at _ _ _ _ _))

theorem point_u (t : Fin cfg0.N) (k : Fin 1024) (f : Fin 512) :
    k0_pay12 (iblk m c 2 t) (iblk m c 1 t) (iblk m c 3 t) (iblk m c 0 t) (ix2 k f)
      = ∑ s, aH m c (ix3 (bt t) s k) * gA (aH m c) (aU m c) (aW m c) (aG m c) (bt t) s (hid (jt t) f) := by
  rw [pay12_at, blk0]
  exact Finset.sum_congr rfl fun s _ => congrArg _ (point_a m c t s f)

theorem point_w (t : Fin cfg0.N) (f : Fin 512) (k : Fin 1024) :
    k0_pay9 (iblk m c 2 t) (iblk m c 1 t) (ix2 f k)
      = ∑ s, act (aH m c) (aU m c) (bt t) s (hid (jt t) f) * act (aH m c) (aU m c) (bt t) s (hid (jt t) f) * aG m c (ix3 (bt t) s k) := by
  rw [pay9_at, blk1, blk2]
  exact Finset.sum_congr rfl fun s _ => congrArg₂ _ (congrArg₂ _ (kAct_at _ _ _ _ _) (kAct_at _ _ _ _ _)) rfl

theorem final4 : (dats m 0 c).arrAt 4 (cfgs 0).N
    = fun x : S2x2048x4096.Idx => gA (aH m c) (aU m c) (aW m c) (aG m c) (x 0) (x 1) (x 2) := by
  refine (dats m 0 c).arrAt_eq_of_covers 4 _ (by decide +kernel) fun t hf y => ?_
  blk_simp
  rw [after0_4]
  refine Eq.trans ?_ (congrFun (read4 (fun x => gA (aH m c) (aU m c) (aW m c) (aG m c) (x 0) (x 1) (x 2)) t) y).symm
  have key : (outsAt0 m c t.val t.isLt).1 = k0_pay8 (iblk m c 2 t) (iblk m c 1 t) (iblk m c 3 t) := by
    rcases Nat.mod_two_eq_zero_or_one t.val with h | h
    · rw [outsAt0_A m c t h (by omega) h (by omega) (by omega)]; funext j; frame_out
    · rw [outsAt0_B m c t (by omega) h (by omega) h h]; funext j; frame_out
  rw [key]
  have one : ∀ y : S1x2048x512.Idx, k0_pay8 (iblk m c 2 t) (iblk m c 1 t) (iblk m c 3 t) y
      = gA (aH m c) (aU m c) (aW m c) (aG m c) (bt t) (y 1) (hid (jt t) (y 2)) := fun y => by
    idx_vars y
    rw [Fin.eq_zero y0]
    exact (pay8_at _ _ _ y1 y2).trans (point_a m c t y1 y2)
  exact one y

/-- The point before, of the same block of hidden columns and the other sequence. -/
def before (t : Fin cfg0.N) : Fin cfg0.N := ⟨t.val - 1, lt_of_le_of_lt (Nat.sub_le _ _) t.isLt⟩

theorem jt_before (t : Fin cfg0.N) (h : t.val % 2 = 1) : jt (before t) = jt t := Fin.ext (by simp only [jt, before]; omega)
theorem bt_before (t : Fin cfg0.N) (h : t.val % 2 = 1) : bt (before t) = 0 := Fin.ext (by simp only [bt, before, Fin.val_zero]; omega)
theorem bt_last (t : Fin cfg0.N) (h : t.val % 2 = 1) : bt t = 1 := Fin.ext (by simp only [bt, Fin.val_one]; omega)

theorem kept_u (t : Fin cfg0.N) (h : t.val % 2 = 0) : (outsAt0 m c t.val t.isLt).2.2.2.1
    = k0_pay12 (iblk m c 2 t) (iblk m c 1 t) (iblk m c 3 t) (iblk m c 0 t) := by
  rw [outsAt0_A m c t h (by omega) h (by omega) (by omega)]
  refine Eq.trans ?_ (pay1_at _)
  funext j; frame_out

theorem kept_w (t : Fin cfg0.N) (h : t.val % 2 = 0) : (outsAt0 m c t.val t.isLt).2.2.2.2
    = k0_pay9 (iblk m c 2 t) (iblk m c 1 t) := by
  rw [outsAt0_A m c t h (by omega) h (by omega) (by omega)]
  refine Eq.trans ?_ (pay10_at _ _)
  funext j; frame_out

theorem final5 : (dats m 0 c).arrAt 5 (cfgs 0).N
    = fun x : S8x1024x512.Idx => gU (aH m c) (aU m c) (aW m c) (aG m c) (x 1) (hid (x 0) (x 2)) := by
  refine (dats m 0 c).arrAt_eq_of_covers 5 _ (by decide +kernel) fun t hf y => ?_
  blk_simp
  rw [after0_5]
  refine Eq.trans ?_ (congrFun (read5 (fun x => gU (aH m c) (aU m c) (aW m c) (aG m c) (x 1) (hid (x 0) (x 2))) t) y).symm
  have h := (flush0_5 t).mp hf
  have key : (outsAt0 m c t.val t.isLt).2.1 = k0_pay3 (k0_pay2 (k0_pay12 (iblk m c 2 t) (iblk m c 1 t) (iblk m c 3 t) (iblk m c 0 t))
      (outsAt0 m c (before t).val (before t).isLt).2.2.2.1) := by
    rw [outsAt0_B m c t (by omega) h (by omega) h h]; funext j; frame_out
    rw [read_unread_whole]; rfl
  rw [key, kept_u m c (before t) (by simp only [before]; omega)]
  have one : ∀ y : S1x1024x512.Idx, k0_pay3 (k0_pay2 (k0_pay12 (iblk m c 2 t) (iblk m c 1 t) (iblk m c 3 t) (iblk m c 0 t))
        (k0_pay12 (iblk m c 2 (before t)) (iblk m c 1 (before t)) (iblk m c 3 (before t)) (iblk m c 0 (before t)))) y
      = gU (aH m c) (aU m c) (aW m c) (aG m c) (y 1) (hid (jt t) (y 2)) := fun y => by
    idx_vars y
    rw [Fin.eq_zero y0]
    refine (last5 _ _ y1 y2).trans ?_
    rw [point_u, point_u, jt_before t h, bt_before t h, bt_last t h]
    exact (Fin.sum_univ_two (fun b => ∑ s, aH m c (ix3 b s y1) * gA (aH m c) (aU m c) (aW m c) (aG m c) b s (hid (jt t) y2))).symm
  exact one y

theorem final6 : (dats m 0 c).arrAt 6 (cfgs 0).N
    = fun x : S8x512x1024.Idx => gW (aH m c) (aU m c) (aG m c) (hid (x 0) (x 1)) (x 2) := by
  refine (dats m 0 c).arrAt_eq_of_covers 6 _ (by decide +kernel) fun t hf y => ?_
  blk_simp
  rw [after0_6]
  refine Eq.trans ?_ (congrFun (read6 (fun x => gW (aH m c) (aU m c) (aG m c) (hid (x 0) (x 1)) (x 2)) t) y).symm
  have h := (flush0_6 t).mp hf
  have key : (outsAt0 m c t.val t.isLt).2.2.1 = k0_pay4 (k0_pay11 (iblk m c 2 t) (iblk m c 1 t)
      (outsAt0 m c (before t).val (before t).isLt).2.2.2.2) := by
    rw [outsAt0_B m c t (by omega) h (by omega) h h]; funext j; frame_out
    rw [read_unread_whole]; rfl
  rw [key, kept_w m c (before t) (by simp only [before]; omega)]
  have one : ∀ y : S1x512x1024.Idx, k0_pay4 (k0_pay11 (iblk m c 2 t) (iblk m c 1 t) (k0_pay9 (iblk m c 2 (before t)) (iblk m c 1 (before t)))) y
      = gW (aH m c) (aU m c) (aG m c) (hid (jt t) (y 1)) (y 2) := fun y => by
    idx_vars y
    rw [Fin.eq_zero y0]
    refine (last6 _ _ _ y1 y2).trans ?_
    rw [point_w, point_w, jt_before t h, bt_before t h, bt_last t h]
    exact (Fin.sum_univ_two (fun b => ∑ s, act (aH m c) (aU m c) b s (hid (jt t) y1) * act (aH m c) (aU m c) b s (hid (jt t) y1)
      * aG m c (ix3 b s y2))).symm
  exact one y

end Cert.Kernel3Ideal.Mlp

end
-- ==== Proof.MlpClaim.lean ====
module

public import proofs.«01_k».proof.Defs
public import proofs.«01_k».proof.Proof.Gen.Kernel3
public import proofs.«01_k».proof.Proof.Gen.Kernel3.Frame
public import proofs.«01_k».proof.Proof.MlpFin
public import Idealize.ShloMosaic.Lib.Quiescent
public import Idealize.ShloMosaic.Adequacy
public import Idealize.ShloMosaic.Init

/-! The claims about the backward call of the MLP. -/

@[expose] public section

set_option maxRecDepth 16384

noncomputable section

namespace Cert.Proof.Mlp

open Idealize.ShloMosaic Idealize.SL.Sem

/-- The kernel runs and leaves its arguments as they were. -/
theorem frame_kernel : Cert.quiescent_Kernel3 := fun m g _ => Cert.Kernel3.Gen.frame m g

/-- So does its ideal reading. -/
theorem frame_kernelIdeal : Cert.quiescent_Kernel3Ideal := fun m g _ => Cert.Kernel3Ideal.Gen.frame m g

/-- And the reference. -/
theorem frame_reference : Cert.quiescent_Reference3Ideal := by
  intro m g _
  exact (θ_run _ _ _).mono (fun r h => ⟨fun c => (h c).2.2.2, sem_eq_zero_of_no_sems (by decide) _⟩) (Cert.Reference3Ideal.Value.run m g)

open Cert.Reference3Ideal Cert.Reference3Ideal.Mlp in
theorem ref_a (H : FVec Ideal S2x2048x1024 .f32) (U : FVec Ideal S1024x4096 .f32) (W : FVec Ideal S4096x1024 .f32) (G : FVec Ideal S2x2048x1024 .f32) :
    rA H U W G = fun x : S2x2048x4096.Idx => gA H U W G (x 0) (x 1) (x 2) := by
  funext x
  idx_vars x
  exact rA_at H U W G x0 x1 x2

open Cert.Reference3Ideal Cert.Reference3Ideal.Mlp in
theorem ref_u (H : FVec Ideal S2x2048x1024 .f32) (U : FVec Ideal S1024x4096 .f32) (W : FVec Ideal S4096x1024 .f32) (G : FVec Ideal S2x2048x1024 .f32) :
    rU H U W G = fun x : S8x1024x512.Idx => gU H U W G (x 1) (Cert.Kernel3Ideal.Mlp.hid (x 0) (x 2)) := by
  funext x
  idx_vars x
  exact rU_at H U W G x0 x1 x2

open Cert.Reference3Ideal Cert.Reference3Ideal.Mlp in
theorem ref_w (H : FVec Ideal S2x2048x1024 .f32) (U : FVec Ideal S1024x4096 .f32) (G : FVec Ideal S2x2048x1024 .f32) :
    rW H U G = fun x : S8x512x1024.Idx => gW H U G (Cert.Kernel3Ideal.Mlp.hid (x 0) (x 1)) (x 2) := by
  funext x
  idx_vars x
  exact rW_at H U G x0 x1 x2

set_option maxHeartbeats 1600000 in
/-- The kernel's three gradients are the reference's. -/
theorem algebraic : Cert.algebraic_Kernel3Ideal_Reference3Ideal := by
  pair_intro
  · run_from Cert.Kernel3Ideal.Gen.run_main m g
    · exact Cert.Kernel3Ideal.Gen.V_main_arg0 m c
    · exact Cert.Kernel3Ideal.Gen.V_main_arg1 m c
    · exact Cert.Kernel3Ideal.Gen.V_main_arg2 m c
    · exact Cert.Kernel3Ideal.Gen.V_main_arg3 m c
  · refine (θ_run _ _ _).mono (fun r h c => ?_) (Cert.Reference3Ideal.Value.run m' g')
    obtain ⟨e0, e1, e2, e3⟩ := hagree c
    obtain ⟨h0, h1, h2, hf⟩ := h c
    rw [e0, e1, e2, e3] at h0 h1
    rw [e0, e1, e3] at h2
    exact ⟨(h0.trans (ref_a _ _ _ _)).trans (Cert.Kernel3Ideal.Mlp.final4 m c).symm,
      (h1.trans (ref_u _ _ _ _)).trans (Cert.Kernel3Ideal.Mlp.final5 m c).symm,
      (h2.trans (ref_w _ _ _)).trans (Cert.Kernel3Ideal.Mlp.final6 m c).symm, hf⟩

end Cert.Proof.Mlp

end
-- ==== Proof.lean ====
module

public import proofs.«01_k».proof.Proof.LossClaim
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.GateClaim
public import proofs.«01_k».proof.Proof.BackClaim
public import proofs.«01_k».proof.Proof.ModFwdClaim
public import proofs.«01_k».proof.Proof.FwdClaim
public import proofs.«01_k».proof.Proof.Gen.Pre_finite5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel4.Frame
public import proofs.«01_k».proof.Proof.Gen.Kernel4Ideal.Value
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.ModClaim
public import proofs.«01_k».proof.Proof.AttClaim
public import proofs.«01_k».proof.Proof.MlpClaim
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Pre_finite2
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Pre_finite.Gen.facts, Cert.Pre_finite2.Gen.facts, Cert.Pre_finite5.Gen.facts,
    Mod.frame_kernel, Mod.frame_kernelIdeal, Mod.frame_kernelIdeal_pre, Mod.frame_reference, Mod.frame_reference_pre,
    Att.frame_kernel, Att.frame_kernelIdeal, Att.frame_kernelIdeal_pre, Att.frame_reference, Att.frame_reference_pre,
    Mlp.frame_kernel, Mlp.frame_kernelIdeal, Mlp.frame_reference,
    Loss.frame_kernel, Loss.frame_kernelIdeal, Loss.frame_reference,
    Fwd.frame_kernel, Fwd.frame_kernelIdeal, Fwd.frame_kernelIdeal_pre, Fwd.frame_reference, Fwd.frame_reference_pre,
    Gate.frame_kernel, Gate.frame_kernelIdeal, Gate.frame_reference,
    Back.frame_kernel, Back.frame_kernelIdeal, Back.frame_reference,
    ModFwd.frame_kernel, ModFwd.frame_kernelIdeal, ModFwd.frame_reference,
    trivial, Mod.algebraic, Att.preserves, Att.algebraic, trivial, Mlp.algebraic,
    trivial, Loss.algebraic, Fwd.preserves, Fwd.algebraic, trivial, Gate.algebraic,
    trivial, Back.algebraic, trivial, ModFwd.algebraic⟩

end Cert.Proof

end
